-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096 : Shape := ⟨1, ![4096]⟩
abbrev S8x4096 : Shape := ⟨2, ![8, 4096]⟩
abbrev S24x2048 : Shape := ⟨2, ![24, 2048]⟩
abbrev S8x16x4096 : Shape := ⟨3, ![8, 16, 4096]⟩
abbrev S24x16x2048 : Shape := ⟨3, ![24, 16, 2048]⟩
abbrev S16x4096 : Shape := ⟨2, ![16, 4096]⟩
abbrev S16x2048 : Shape := ⟨2, ![16, 2048]⟩
abbrev S16x128 : Shape := ⟨2, ![16, 128]⟩
abbrev S4x265x128 : Shape := ⟨3, ![4, 265, 128]⟩
abbrev S128x32 : Shape := ⟨2, ![128, 32]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S24x2048 : S_.BroadcastsInDim S24x2048 (![] : Fin 0 → Fin S24x2048.rank)
  reducesTo_S24x2048_S_d0_1 : S24x2048.ReducesTo [0, 1] S_

variable [Facts]

def fn {F : FTy → Type} [FloatOps F] (main_arg0 : IVec S4096 32) (main_arg1 : IVec S8x4096 32) (main_arg2 : IVec S24x2048 32) (main_arg3 : FVec F S8x16x4096 .f32) (main_arg4 : FVec F S24x16x2048 .f32) (main_arg5 : FVec F S16x4096 .f32) (main_arg6 : FVec F S16x2048 .f32) (main_arg7 : FVec F S16x128 .f32) (main_arg8 : FVec F S4x265x128 .f32) (main_arg9 : FVec F S4x265x128 .f32) (main_arg10 : FVec F S128x32 .f32) : IVec S_ 1 :=
  let main_c : IVec S_ 32 := constantI S_ 32 0#32
  let main_v0 : IVec S8x4096 32 := broadcastInDim S8x4096 ![] bcast_S_S8x4096 main_c
  let main_v1 : IVec S8x4096 1 := cmpi .sge main_arg1 main_v0
  let main_c_0 : IVec S_ 32 := constantI S_ 32 4096#32
  let main_v2 : IVec S8x4096 32 := broadcastInDim S8x4096 ![] bcast_S_S8x4096 main_c_0
  let main_v3 : IVec S8x4096 1 := cmpi .slt main_arg1 main_v2
  let main_v4 : IVec S8x4096 1 := andi main_v1 main_v3
  let main_c_1 : IVec S_ 1 := constantI S_ 1 1#1
  let main_v5 : IVec S_ 1 := (fun x v => Host.reduce IntOp.andi x v reducesTo_S8x4096_S_d0_1 h_S_) main_v4 main_c_1
  let main_c_2 : IVec S_ 32 := constantI S_ 32 0#32
  let main_v6 : IVec S24x2048 32 := broadcastInDim S24x2048 ![] bcast_S_S24x2048 main_c_2
  let main_v7 : IVec S24x2048 1 := cmpi .sge main_arg2 main_v6
  let main_c_3 : IVec S_ 32 := constantI S_ 32 4096#32
  let main_v8 : IVec S24x2048 32 := broadcastInDim S24x2048 ![] bcast_S_S24x2048 main_c_3
  let main_v9 : IVec S24x2048 1 := cmpi .slt main_arg2 main_v8
  let main_v10 : IVec S24x2048 1 := andi main_v7 main_v9
  let main_c_4 : IVec S_ 1 := constantI S_ 1 1#1
  let main_v11 : IVec S_ 1 := (fun x v => Host.reduce IntOp.andi x v reducesTo_S24x2048_S_d0_1 h_S_) main_v10 main_c_4
  let main_v12 : IVec S_ 1 := andi main_v5 main_v11
  main_v12
-- ==== Kernel.lean ====
abbrev S4096 : Shape := ⟨1, ![4096]⟩
abbrev S8x4096 : Shape := ⟨2, ![8, 4096]⟩
abbrev S24x2048 : Shape := ⟨2, ![24, 2048]⟩
abbrev S8x16x4096 : Shape := ⟨3, ![8, 16, 4096]⟩
abbrev S24x16x2048 : Shape := ⟨3, ![24, 16, 2048]⟩
abbrev S16x4096 : Shape := ⟨2, ![16, 4096]⟩
abbrev S16x2048 : Shape := ⟨2, ![16, 2048]⟩
abbrev S16x128 : Shape := ⟨2, ![16, 128]⟩
abbrev S4x265x128 : Shape := ⟨3, ![4, 265, 128]⟩
abbrev S128x32 : Shape := ⟨2, ![128, 32]⟩
abbrev S4096x1 : Shape := ⟨2, ![4096, 1]⟩
abbrev S4096x8 : Shape := ⟨2, ![4096, 8]⟩
abbrev S2048x24 : Shape := ⟨2, ![2048, 24]⟩
abbrev S4096x8x16 : Shape := ⟨3, ![4096, 8, 16]⟩
abbrev S2048x24x16 : Shape := ⟨3, ![2048, 24, 16]⟩
abbrev S4096x16 : Shape := ⟨2, ![4096, 16]⟩
abbrev S2048x16 : Shape := ⟨2, ![2048, 16]⟩
abbrev S32768 : Shape := ⟨1, ![32768]⟩
abbrev S49152 : Shape := ⟨1, ![49152]⟩
abbrev S81920 : Shape := ⟨1, ![81920]⟩
abbrev S20x32x128 : Shape := ⟨3, ![20, 32, 128]⟩
abbrev S32x20x128 : Shape := ⟨3, ![32, 20, 128]⟩
abbrev S1x128x128 : Shape := ⟨3, ![1, 128, 128]⟩
abbrev S128x128 : Shape := ⟨2, ![128, 128]⟩
abbrev S4096x128 : Shape := ⟨2, ![4096, 128]⟩
abbrev S512x8 : Shape := ⟨2, ![512, 8]⟩
abbrev S512x128 : Shape := ⟨2, ![512, 128]⟩
abbrev S512x1 : Shape := ⟨2, ![512, 1]⟩
abbrev S1x16 : Shape := ⟨2, ![1, 16]⟩
abbrev S512x16 : Shape := ⟨2, ![512, 16]⟩
abbrev S_ : Shape := ⟨0, ![]⟩
abbrev S2048x128 : Shape := ⟨2, ![2048, 128]⟩
abbrev S1x9x128 : Shape := ⟨3, ![1, 9, 128]⟩
abbrev S9x128 : Shape := ⟨2, ![9, 128]⟩
abbrev S1 : Shape := ⟨1, ![1]⟩
abbrev S32768x128 : Shape := ⟨2, ![32768, 128]⟩
abbrev S49152x128 : Shape := ⟨2, ![49152, 128]⟩
abbrev S20x128 : Shape := ⟨2, ![20, 128]⟩
abbrev S1x20x128 : Shape := ⟨3, ![1, 20, 128]⟩
abbrev S1x128 : Shape := ⟨2, ![1, 128]⟩
abbrev S128 : Shape := ⟨1, ![128]⟩
abbrev S4096x8x128 : Shape := ⟨3, ![4096, 8, 128]⟩
abbrev S2048x24x128 : Shape := ⟨3, ![2048, 24, 128]⟩
abbrev S512x8x128 : Shape := ⟨3, ![512, 8, 128]⟩
abbrev S512x8x16 : Shape := ⟨3, ![512, 8, 16]⟩
abbrev S512x1x16 : Shape := ⟨3, ![512, 1, 16]⟩
abbrev S512x1x128 : Shape := ⟨3, ![512, 1, 128]⟩
abbrev S512x24x128 : Shape := ⟨3, ![512, 24, 128]⟩
abbrev S512x24x16 : Shape := ⟨3, ![512, 24, 16]⟩
abbrev S2048x32 : Shape := ⟨2, ![2048, 32]⟩
abbrev S512x32 : Shape := ⟨2, ![512, 32]⟩
abbrev S4x512x32 : Shape := ⟨3, ![4, 512, 32]⟩

abbrev nBuf : Table → Nat
  | .hbm => 148
  | .local .tc .vmem => 145
  | .local .scVector .vmem => 12
  | _ => 0

abbrev hbmTy0_0 (i : Nat) : BufTy := match i % 128 with
  | 0 => ⟨S4096, .i32⟩
  | 1 => ⟨S8x4096, .i32⟩
  | 2 => ⟨S24x2048, .i32⟩
  | 3 => ⟨S8x16x4096, .f32⟩
  | 4 => ⟨S24x16x2048, .f32⟩
  | 5 => ⟨S16x4096, .f32⟩
  | 6 => ⟨S16x2048, .f32⟩
  | 7 => ⟨S16x128, .f32⟩
  | 8 => ⟨S4x265x128, .f32⟩
  | 9 => ⟨S4x265x128, .f32⟩
  | 10 => ⟨S128x32, .f32⟩
  | 11 => ⟨S4096x1, .i32⟩
  | 12 => ⟨S4096x8, .i32⟩
  | 13 => ⟨S4096x8, .i32⟩
  | 14 => ⟨S2048x24, .i32⟩
  | 15 => ⟨S4096x8x16, .f32⟩
  | 16 => ⟨S2048x24x16, .f32⟩
  | 17 => ⟨S4096x16, .f32⟩
  | 18 => ⟨S2048x16, .f32⟩
  | 19 => ⟨S32768, .i32⟩
  | 20 => ⟨S49152, .i32⟩
  | 21 => ⟨S81920, .i32⟩
  | 22 => ⟨S20x32x128, .i32⟩
  | 23 => ⟨S32x20x128, .i32⟩
  | 24 => ⟨S1x128x128, .f32⟩
  | 25 => ⟨S128x128, .f32⟩
  | 26 => ⟨S4096x128, .f32⟩
  | 27 => ⟨S4096x128, .f32⟩
  | 28 => ⟨S_, .f32⟩
  | 29 => ⟨S2048x128, .f32⟩
  | 30 => ⟨S1x128x128, .f32⟩
  | 31 => ⟨S128x128, .f32⟩
  | 32 => ⟨S_, .f32⟩
  | 33 => ⟨S16x128, .f32⟩
  | 34 => ⟨S1x9x128, .f32⟩
  | 35 => ⟨S9x128, .f32⟩
  | 36 => ⟨S_, .i32⟩
  | 37 => ⟨S1, .i32⟩
  | 38 => ⟨S16x128, .f32⟩
  | 39 => ⟨S1x128x128, .f32⟩
  | 40 => ⟨S128x128, .f32⟩
  | 41 => ⟨S1x128x128, .f32⟩
  | 42 => ⟨S128x128, .f32⟩
  | 43 => ⟨S_, .f32⟩
  | 44 => ⟨S16x128, .f32⟩
  | 45 => ⟨S1x9x128, .f32⟩
  | 46 => ⟨S9x128, .f32⟩
  | 47 => ⟨S_, .i32⟩
  | 48 => ⟨S1, .i32⟩
  | 49 => ⟨S16x128, .f32⟩
  | 50 => ⟨S32768x128, .f32⟩
  | 51 => ⟨S49152x128, .f32⟩
  | 52 => ⟨S4096x8x128, .f32⟩
  | 53 => ⟨S2048x24x128, .f32⟩
  | 54 => ⟨S1x128x128, .f32⟩
  | 55 => ⟨S128x128, .f32⟩
  | 56 => ⟨S4096x128, .f32⟩
  | 57 => ⟨S4096x128, .f32⟩
  | 58 => ⟨S2048x128, .f32⟩
  | 59 => ⟨S1x128x128, .f32⟩
  | 60 => ⟨S128x128, .f32⟩
  | 61 => ⟨S_, .f32⟩
  | 62 => ⟨S16x128, .f32⟩
  | 63 => ⟨S1x9x128, .f32⟩
  | 64 => ⟨S9x128, .f32⟩
  | 65 => ⟨S_, .i32⟩
  | 66 => ⟨S1, .i32⟩
  | 67 => ⟨S16x128, .f32⟩
  | 68 => ⟨S1x128x128, .f32⟩
  | 69 => ⟨S128x128, .f32⟩
  | 70 => ⟨S1x128x128, .f32⟩
  | 71 => ⟨S128x128, .f32⟩
  | 72 => ⟨S_, .f32⟩
  | 73 => ⟨S16x128, .f32⟩
  | 74 => ⟨S1x9x128, .f32⟩
  | 75 => ⟨S9x128, .f32⟩
  | 76 => ⟨S_, .i32⟩
  | 77 => ⟨S1, .i32⟩
  | 78 => ⟨S16x128, .f32⟩
  | 79 => ⟨S32768x128, .f32⟩
  | 80 => ⟨S49152x128, .f32⟩
  | 81 => ⟨S4096x8x128, .f32⟩
  | 82 => ⟨S2048x24x128, .f32⟩
  | 83 => ⟨S1x128x128, .f32⟩
  | 84 => ⟨S128x128, .f32⟩
  | 85 => ⟨S4096x128, .f32⟩
  | 86 => ⟨S4096x128, .f32⟩
  | 87 => ⟨S2048x128, .f32⟩
  | 88 => ⟨S1x128x128, .f32⟩
  | 89 => ⟨S128x128, .f32⟩
  | 90 => ⟨S_, .f32⟩
  | 91 => ⟨S16x128, .f32⟩
  | 92 => ⟨S1x9x128, .f32⟩
  | 93 => ⟨S9x128, .f32⟩
  | 94 => ⟨S_, .i32⟩
  | 95 => ⟨S1, .i32⟩
  | 96 => ⟨S16x128, .f32⟩
  | 97 => ⟨S1x128x128, .f32⟩
  | 98 => ⟨S128x128, .f32⟩
  | 99 => ⟨S1x128x128, .f32⟩
  | 100 => ⟨S128x128, .f32⟩
  | 101 => ⟨S_, .f32⟩
  | 102 => ⟨S16x128, .f32⟩
  | 103 => ⟨S1x9x128, .f32⟩
  | 104 => ⟨S9x128, .f32⟩
  | 105 => ⟨S_, .i32⟩
  | 106 => ⟨S1, .i32⟩
  | 107 => ⟨S16x128, .f32⟩
  | 108 => ⟨S32768x128, .f32⟩
  | 109 => ⟨S49152x128, .f32⟩
  | 110 => ⟨S4096x8x128, .f32⟩
  | 111 => ⟨S2048x24x128, .f32⟩
  | 112 => ⟨S1x128x128, .f32⟩
  | 113 => ⟨S128x128, .f32⟩
  | 114 => ⟨S4096x128, .f32⟩
  | 115 => ⟨S4096x128, .f32⟩
  | 116 => ⟨S2048x128, .f32⟩
  | 117 => ⟨S1x128x128, .f32⟩
  | 118 => ⟨S128x128, .f32⟩
  | 119 => ⟨S_, .f32⟩
  | 120 => ⟨S16x128, .f32⟩
  | 121 => ⟨S1x9x128, .f32⟩
  | 122 => ⟨S9x128, .f32⟩
  | 123 => ⟨S_, .i32⟩
  | 124 => ⟨S1, .i32⟩
  | 125 => ⟨S16x128, .f32⟩
  | 126 => ⟨S1x128x128, .f32⟩
  | 127 => ⟨S128x128, .f32⟩
  | _ => ⟨S4096, .i32⟩

abbrev hbmTy0_1 (i : Nat) : BufTy := match i % 128 with
  | 0 => ⟨S1x128x128, .f32⟩
  | 1 => ⟨S128x128, .f32⟩
  | 2 => ⟨S_, .f32⟩
  | 3 => ⟨S16x128, .f32⟩
  | 4 => ⟨S1x9x128, .f32⟩
  | 5 => ⟨S9x128, .f32⟩
  | 6 => ⟨S_, .i32⟩
  | 7 => ⟨S1, .i32⟩
  | 8 => ⟨S16x128, .f32⟩
  | 9 => ⟨S32768x128, .f32⟩
  | 10 => ⟨S49152x128, .f32⟩
  | 11 => ⟨S4096x8x128, .f32⟩
  | 12 => ⟨S2048x24x128, .f32⟩
  | 13 => ⟨S1x128x128, .f32⟩
  | 14 => ⟨S128x128, .f32⟩
  | 15 => ⟨S4096x128, .f32⟩
  | 16 => ⟨S4096x128, .f32⟩
  | 17 => ⟨S2048x128, .f32⟩
  | 18 => ⟨S2048x32, .f32⟩
  | 19 => ⟨S4x512x32, .f32⟩
  | _ => ⟨S4096, .i32⟩

abbrev hbmTy (i : Nat) : BufTy := match i / 128 with
  | 0 => hbmTy0_0 i
  | 1 => hbmTy0_1 i
  | _ => ⟨S4096, .i32⟩

abbrev vmemTy0_0 (i : Nat) : BufTy := match i % 128 with
  | 0 => ⟨S512x8, .i32⟩
  | 1 => ⟨S512x8, .i32⟩
  | 2 => ⟨S16x128, .f32⟩
  | 3 => ⟨S128x128, .f32⟩
  | 4 => ⟨S512x128, .f32⟩
  | 5 => ⟨S512x128, .f32⟩
  | 6 => ⟨S512x128, .f32⟩
  | 7 => ⟨S512x128, .f32⟩
  | 8 => ⟨S512x8x128, .f32⟩
  | 9 => ⟨S512x8x128, .f32⟩
  | 10 => ⟨S512x8x16, .f32⟩
  | 11 => ⟨S512x8x16, .f32⟩
  | 12 => ⟨S512x128, .f32⟩
  | 13 => ⟨S512x128, .f32⟩
  | 14 => ⟨S512x16, .f32⟩
  | 15 => ⟨S512x16, .f32⟩
  | 16 => ⟨S128x128, .f32⟩
  | 17 => ⟨S16x128, .f32⟩
  | 18 => ⟨S128x128, .f32⟩
  | 19 => ⟨S128x128, .f32⟩
  | 20 => ⟨S16x128, .f32⟩
  | 21 => ⟨S128x128, .f32⟩
  | 22 => ⟨S512x128, .f32⟩
  | 23 => ⟨S512x128, .f32⟩
  | 24 => ⟨S512x128, .f32⟩
  | 25 => ⟨S512x128, .f32⟩
  | 26 => ⟨S512x24x128, .f32⟩
  | 27 => ⟨S512x24x128, .f32⟩
  | 28 => ⟨S512x24x16, .f32⟩
  | 29 => ⟨S512x24x16, .f32⟩
  | 30 => ⟨S512x128, .f32⟩
  | 31 => ⟨S512x128, .f32⟩
  | 32 => ⟨S512x16, .f32⟩
  | 33 => ⟨S512x16, .f32⟩
  | 34 => ⟨S128x128, .f32⟩
  | 35 => ⟨S16x128, .f32⟩
  | 36 => ⟨S128x128, .f32⟩
  | 37 => ⟨S128x128, .f32⟩
  | 38 => ⟨S16x128, .f32⟩
  | 39 => ⟨S512x128, .f32⟩
  | 40 => ⟨S512x128, .f32⟩
  | 41 => ⟨S512x8x128, .f32⟩
  | 42 => ⟨S512x8x128, .f32⟩
  | 43 => ⟨S512x8x16, .f32⟩
  | 44 => ⟨S512x8x16, .f32⟩
  | 45 => ⟨S512x128, .f32⟩
  | 46 => ⟨S512x128, .f32⟩
  | 47 => ⟨S512x16, .f32⟩
  | 48 => ⟨S512x16, .f32⟩
  | 49 => ⟨S128x128, .f32⟩
  | 50 => ⟨S16x128, .f32⟩
  | 51 => ⟨S128x128, .f32⟩
  | 52 => ⟨S128x128, .f32⟩
  | 53 => ⟨S16x128, .f32⟩
  | 54 => ⟨S128x128, .f32⟩
  | 55 => ⟨S512x128, .f32⟩
  | 56 => ⟨S512x128, .f32⟩
  | 57 => ⟨S512x128, .f32⟩
  | 58 => ⟨S512x128, .f32⟩
  | 59 => ⟨S512x24x128, .f32⟩
  | 60 => ⟨S512x24x128, .f32⟩
  | 61 => ⟨S512x24x16, .f32⟩
  | 62 => ⟨S512x24x16, .f32⟩
  | 63 => ⟨S512x128, .f32⟩
  | 64 => ⟨S512x128, .f32⟩
  | 65 => ⟨S512x16, .f32⟩
  | 66 => ⟨S512x16, .f32⟩
  | 67 => ⟨S128x128, .f32⟩
  | 68 => ⟨S16x128, .f32⟩
  | 69 => ⟨S128x128, .f32⟩
  | 70 => ⟨S128x128, .f32⟩
  | 71 => ⟨S16x128, .f32⟩
  | 72 => ⟨S512x128, .f32⟩
  | 73 => ⟨S512x128, .f32⟩
  | 74 => ⟨S512x8x128, .f32⟩
  | 75 => ⟨S512x8x128, .f32⟩
  | 76 => ⟨S512x8x16, .f32⟩
  | 77 => ⟨S512x8x16, .f32⟩
  | 78 => ⟨S512x128, .f32⟩
  | 79 => ⟨S512x128, .f32⟩
  | 80 => ⟨S512x16, .f32⟩
  | 81 => ⟨S512x16, .f32⟩
  | 82 => ⟨S128x128, .f32⟩
  | 83 => ⟨S16x128, .f32⟩
  | 84 => ⟨S128x128, .f32⟩
  | 85 => ⟨S128x128, .f32⟩
  | 86 => ⟨S16x128, .f32⟩
  | 87 => ⟨S128x128, .f32⟩
  | 88 => ⟨S512x128, .f32⟩
  | 89 => ⟨S512x128, .f32⟩
  | 90 => ⟨S512x128, .f32⟩
  | 91 => ⟨S512x128, .f32⟩
  | 92 => ⟨S512x24x128, .f32⟩
  | 93 => ⟨S512x24x128, .f32⟩
  | 94 => ⟨S512x24x16, .f32⟩
  | 95 => ⟨S512x24x16, .f32⟩
  | 96 => ⟨S512x128, .f32⟩
  | 97 => ⟨S512x128, .f32⟩
  | 98 => ⟨S512x16, .f32⟩
  | 99 => ⟨S512x16, .f32⟩
  | 100 => ⟨S128x128, .f32⟩
  | 101 => ⟨S16x128, .f32⟩
  | 102 => ⟨S128x128, .f32⟩
  | 103 => ⟨S128x128, .f32⟩
  | 104 => ⟨S16x128, .f32⟩
  | 105 => ⟨S512x128, .f32⟩
  | 106 => ⟨S512x128, .f32⟩
  | 107 => ⟨S512x8x128, .f32⟩
  | 108 => ⟨S512x8x128, .f32⟩
  | 109 => ⟨S512x8x16, .f32⟩
  | 110 => ⟨S512x8x16, .f32⟩
  | 111 => ⟨S512x128, .f32⟩
  | 112 => ⟨S512x128, .f32⟩
  | 113 => ⟨S512x16, .f32⟩
  | 114 => ⟨S512x16, .f32⟩
  | 115 => ⟨S128x128, .f32⟩
  | 116 => ⟨S16x128, .f32⟩
  | 117 => ⟨S128x128, .f32⟩
  | 118 => ⟨S128x128, .f32⟩
  | 119 => ⟨S16x128, .f32⟩
  | 120 => ⟨S128x128, .f32⟩
  | 121 => ⟨S512x128, .f32⟩
  | 122 => ⟨S512x128, .f32⟩
  | 123 => ⟨S512x128, .f32⟩
  | 124 => ⟨S512x128, .f32⟩
  | 125 => ⟨S512x24x128, .f32⟩
  | 126 => ⟨S512x24x128, .f32⟩
  | 127 => ⟨S512x24x16, .f32⟩
  | _ => ⟨S4096, .i32⟩

abbrev vmemTy0_1 (i : Nat) : BufTy := match i % 128 with
  | 0 => ⟨S512x24x16, .f32⟩
  | 1 => ⟨S512x128, .f32⟩
  | 2 => ⟨S512x128, .f32⟩
  | 3 => ⟨S512x16, .f32⟩
  | 4 => ⟨S512x16, .f32⟩
  | 5 => ⟨S128x128, .f32⟩
  | 6 => ⟨S16x128, .f32⟩
  | 7 => ⟨S128x128, .f32⟩
  | 8 => ⟨S128x128, .f32⟩
  | 9 => ⟨S16x128, .f32⟩
  | 10 => ⟨S512x128, .f32⟩
  | 11 => ⟨S512x128, .f32⟩
  | 12 => ⟨S512x128, .f32⟩
  | 13 => ⟨S512x128, .f32⟩
  | 14 => ⟨S128x32, .f32⟩
  | 15 => ⟨S512x32, .f32⟩
  | 16 => ⟨S512x32, .f32⟩
  | _ => ⟨S4096, .i32⟩

abbrev vmemTy (i : Nat) : BufTy := match i / 128 with
  | 0 => vmemTy0_0 i
  | 1 => vmemTy0_1 i
  | _ => ⟨S4096, .i32⟩

abbrev bufTy : (tb : Table) → Fin (nBuf tb) → BufTy
  | .hbm, ⟨i, _⟩ => hbmTy i
  | .local .tc .vmem, ⟨i, _⟩ => vmemTy i
  | .local .scVector .vmem, ⟨0, _⟩ => ⟨S20x128, .i32⟩
  | .local .scVector .vmem, ⟨1, _⟩ => ⟨S128x128, .f32⟩
  | .local .scVector .vmem, ⟨2, _⟩ => ⟨S128x128, .f32⟩
  | .local .scVector .vmem, ⟨3, _⟩ => ⟨S20x128, .i32⟩
  | .local .scVector .vmem, ⟨4, _⟩ => ⟨S128x128, .f32⟩
  | .local .scVector .vmem, ⟨5, _⟩ => ⟨S128x128, .f32⟩
  | .local .scVector .vmem, ⟨6, _⟩ => ⟨S20x128, .i32⟩
  | .local .scVector .vmem, ⟨7, _⟩ => ⟨S128x128, .f32⟩
  | .local .scVector .vmem, ⟨8, _⟩ => ⟨S128x128, .f32⟩
  | .local .scVector .vmem, ⟨9, _⟩ => ⟨S20x128, .i32⟩
  | .local .scVector .vmem, ⟨10, _⟩ => ⟨S128x128, .f32⟩
  | .local .scVector .vmem, ⟨11, _⟩ => ⟨S128x128, .f32⟩
  | _, _ => ⟨S4096, .i32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev vmemScopedAt (i : Nat) : Bool := match i / 128 with
  | 0 => vmemScopedAt0_0 i
  | 1 => vmemScopedAt0_1 i
  | _ => false

abbrev dmaSemScopedAt0_0 (i : Nat) : Bool := match i % 128 with
  | 0 => true
  | 1 => true
  | 2 => true
  | 3 => true
  | 4 => true
  | 5 => true
  | 6 => true
  | 7 => true
  | 8 => false
  | 9 => false
  | 10 => false
  | 11 => false
  | 12 => false
  | 13 => false
  | 14 => false
  | 15 => false
  | 16 => false
  | 17 => false
  | 18 => false
  | 19 => false
  | 20 => false
  | 21 => false
  | 22 => false
  | 23 => false
  | 24 => false
  | 25 => false
  | 26 => false
  | 27 => false
  | 28 => false
  | 29 => false
  | 30 => false
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => false
  | 65 => false
  | 66 => false
  | 67 => false
  | 68 => false
  | 69 => false
  | 70 => false
  | 71 => false
  | 72 => false
  | 73 => false
  | 74 => false
  | 75 => false
  | 76 => false
  | 77 => false
  | 78 => false
  | 79 => false
  | 80 => false
  | 81 => false
  | 82 => false
  | 83 => false
  | 84 => false
  | 85 => false
  | 86 => false
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => false
  | 121 => false
  | 122 => false
  | 123 => false
  | 124 => false
  | 125 => false
  | 126 => false
  | 127 => false
  | _ => false

abbrev dmaSemScopedAt0_1 (i : Nat) : Bool := match i % 128 with
  | 0 => false
  | 1 => false
  | 2 => false
  | 3 => false
  | 4 => false
  | 5 => false
  | 6 => false
  | 7 => false
  | 8 => false
  | 9 => false
  | 10 => false
  | 11 => false
  | 12 => false
  | 13 => false
  | 14 => false
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => false
  | 49 => false
  | 50 => false
  | 51 => false
  | 52 => false
  | 53 => false
  | 54 => false
  | 55 => false
  | 56 => false
  | 57 => false
  | 58 => false
  | 59 => false
  | 60 => false
  | 61 => false
  | 62 => false
  | 63 => false
  | 64 => false
  | 65 => false
  | 66 => false
  | 67 => false
  | 68 => false
  | 69 => false
  | 70 => false
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.local .tc cs)) → Bool
  | .vmem, ⟨i, _⟩ => vmemScopedAt i
  | _, _ => false

abbrev semScoped : Fin 4 → Bool
  | ⟨0, _⟩ => false
  | ⟨1, _⟩ => false
  | ⟨2, _⟩ => false
  | ⟨3, _⟩ => false
  | _ => false

abbrev dmaSemScoped : Fin 237 → Bool
  | ⟨i, _⟩ => dmaSemScopedAt i

abbrev sig : RefSig :=
  ofTables nBuf rfl bufTy 4 237 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38_0 : Ref sig .tc := ⟨.hbm, 56, rfl⟩
abbrev main_v38_1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_6 : Ref sig .tc := ⟨.hbm, 76, rfl⟩
abbrev main_v54 : Ref sig .tc := ⟨.hbm, 77, rfl⟩
abbrev main_v55 : Ref sig .tc := ⟨.hbm, 78, rfl⟩
abbrev main_v56_0 : Ref sig .tc := ⟨.hbm, 79, rfl⟩
abbrev main_v56_1 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61_0 : Ref sig .tc := ⟨.hbm, 85, rfl⟩
abbrev main_v61_1 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_7 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_8 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_10 : Ref sig .tc := ⟨.hbm, 105, rfl⟩
abbrev main_v77 : Ref sig .tc := ⟨.hbm, 106, rfl⟩
abbrev main_v78 : Ref sig .tc := ⟨.hbm, 107, rfl⟩
abbrev main_v79_0 : Ref sig .tc := ⟨.hbm, 108, rfl⟩
abbrev main_v79_1 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84_0 : Ref sig .tc := ⟨.hbm, 114, rfl⟩
abbrev main_v84_1 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_11 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_12 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_13 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_14 : Ref sig .tc := ⟨.hbm, 134, rfl⟩
abbrev main_v100 : Ref sig .tc := ⟨.hbm, 135, rfl⟩
abbrev main_v101 : Ref sig .tc := ⟨.hbm, 136, rfl⟩
abbrev main_v102_0 : Ref sig .tc := ⟨.hbm, 137, rfl⟩
abbrev main_v102_1 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107_0 : Ref sig .tc := ⟨.hbm, 143, rfl⟩
abbrev main_v107_1 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v12_scv : Ref sig .scVector := ⟨.hbm, 23, rfl⟩
abbrev main_v15_1_scv : Ref sig .scVector := ⟨.hbm, 27, rfl⟩
abbrev main_v33_0_scv : Ref sig .scVector := ⟨.hbm, 50, rfl⟩
abbrev main_v33_1_scv : Ref sig .scVector := ⟨.hbm, 51, rfl⟩
abbrev main_v38_1_scv : Ref sig .scVector := ⟨.hbm, 57, rfl⟩
abbrev main_v56_0_scv : Ref sig .scVector := ⟨.hbm, 79, rfl⟩
abbrev main_v56_1_scv : Ref sig .scVector := ⟨.hbm, 80, rfl⟩
abbrev main_v61_1_scv : Ref sig .scVector := ⟨.hbm, 86, rfl⟩
abbrev main_v79_0_scv : Ref sig .scVector := ⟨.hbm, 108, rfl⟩
abbrev main_v79_1_scv : Ref sig .scVector := ⟨.hbm, 109, rfl⟩
abbrev main_v84_1_scv : Ref sig .scVector := ⟨.hbm, 115, rfl⟩
abbrev main_v102_0_scv : Ref sig .scVector := ⟨.hbm, 137, rfl⟩
abbrev main_v102_1_scv : Ref sig .scVector := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg9_0 : Ref sig .tc := ⟨.vmem, 21, rfl⟩
abbrev cc2_stg10_0 : Ref sig .tc := ⟨.vmem, 22, rfl⟩
abbrev cc2_stg10_1 : Ref sig .tc := ⟨.vmem, 23, rfl⟩
abbrev cc2_stg11_0 : Ref sig .tc := ⟨.vmem, 24, rfl⟩
abbrev cc2_stg11_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg8_0 : Ref sig .tc := ⟨.vmem, 38, rfl⟩
abbrev cc3_stg9_0 : Ref sig .tc := ⟨.vmem, 39, rfl⟩
abbrev cc3_stg9_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg3_1 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg8_0 : Ref sig .tc := ⟨.vmem, 53, rfl⟩
abbrev cc5_stg9_0 : Ref sig .tc := ⟨.vmem, 54, rfl⟩
abbrev cc5_stg10_0 : Ref sig .tc := ⟨.vmem, 55, rfl⟩
abbrev cc5_stg10_1 : Ref sig .tc := ⟨.vmem, 56, rfl⟩
abbrev cc5_stg11_0 : Ref sig .tc := ⟨.vmem, 57, rfl⟩
abbrev cc5_stg11_1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg2_1 : Ref sig .tc := ⟨.vmem, 64, rfl⟩
abbrev cc6_stg3_0 : Ref sig .tc := ⟨.vmem, 65, rfl⟩
abbrev cc6_stg3_1 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg8_0 : Ref sig .tc := ⟨.vmem, 71, rfl⟩
abbrev cc6_stg9_0 : Ref sig .tc := ⟨.vmem, 72, rfl⟩
abbrev cc6_stg9_1 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg1_1 : Ref sig .tc := ⟨.vmem, 77, rfl⟩
abbrev cc8_stg2_0 : Ref sig .tc := ⟨.vmem, 78, rfl⟩
abbrev cc8_stg2_1 : Ref sig .tc := ⟨.vmem, 79, rfl⟩
abbrev cc8_stg3_0 : Ref sig .tc := ⟨.vmem, 80, rfl⟩
abbrev cc8_stg3_1 : Ref sig .tc := ⟨.vmem, 81, rfl⟩
abbrev cc8_stg4_0 : Ref sig .tc := ⟨.vmem, 82, rfl⟩
abbrev cc8_stg5_0 : Ref sig .tc := ⟨.vmem, 83, rfl⟩
abbrev cc8_stg6_0 : Ref sig .tc := ⟨.vmem, 84, rfl⟩
abbrev cc8_stg7_0 : Ref sig .tc := ⟨.vmem, 85, rfl⟩
abbrev cc8_stg8_0 : Ref sig .tc := ⟨.vmem, 86, rfl⟩
abbrev cc8_stg9_0 : Ref sig .tc := ⟨.vmem, 87, rfl⟩
abbrev cc8_stg10_0 : Ref sig .tc := ⟨.vmem, 88, rfl⟩
abbrev cc8_stg10_1 : Ref sig .tc := ⟨.vmem, 89, rfl⟩
abbrev cc8_stg11_0 : Ref sig .tc := ⟨.vmem, 90, rfl⟩
abbrev cc8_stg11_1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg1_1 : Ref sig .tc := ⟨.vmem, 95, rfl⟩
abbrev cc9_stg2_0 : Ref sig .tc := ⟨.vmem, 96, rfl⟩
abbrev cc9_stg2_1 : Ref sig .tc := ⟨.vmem, 97, rfl⟩
abbrev cc9_stg3_0 : Ref sig .tc := ⟨.vmem, 98, rfl⟩
abbrev cc9_stg3_1 : Ref sig .tc := ⟨.vmem, 99, rfl⟩
abbrev cc9_stg4_0 : Ref sig .tc := ⟨.vmem, 100, rfl⟩
abbrev cc9_stg5_0 : Ref sig .tc := ⟨.vmem, 101, rfl⟩
abbrev cc9_stg6_0 : Ref sig .tc := ⟨.vmem, 102, rfl⟩
abbrev cc9_stg7_0 : Ref sig .tc := ⟨.vmem, 103, rfl⟩
abbrev cc9_stg8_0 : Ref sig .tc := ⟨.vmem, 104, rfl⟩
abbrev cc9_stg9_0 : Ref sig .tc := ⟨.vmem, 105, rfl⟩
abbrev cc9_stg9_1 : Ref sig .tc := ⟨.vmem, 106, rfl⟩
abbrev cc11_stg0_0 : Ref sig .tc := ⟨.vmem, 107, rfl⟩
abbrev cc11_stg0_1 : Ref sig .tc := ⟨.vmem, 108, rfl⟩
abbrev cc11_stg1_0 : Ref sig .tc := ⟨.vmem, 109, rfl⟩
abbrev cc11_stg1_1 : Ref sig .tc := ⟨.vmem, 110, rfl⟩
abbrev cc11_stg2_0 : Ref sig .tc := ⟨.vmem, 111, rfl⟩
abbrev cc11_stg2_1 : Ref sig .tc := ⟨.vmem, 112, rfl⟩
abbrev cc11_stg3_0 : Ref sig .tc := ⟨.vmem, 113, rfl⟩
abbrev cc11_stg3_1 : Ref sig .tc := ⟨.vmem, 114, rfl⟩
abbrev cc11_stg4_0 : Ref sig .tc := ⟨.vmem, 115, rfl⟩
abbrev cc11_stg5_0 : Ref sig .tc := ⟨.vmem, 116, rfl⟩
abbrev cc11_stg6_0 : Ref sig .tc := ⟨.vmem, 117, rfl⟩
abbrev cc11_stg7_0 : Ref sig .tc := ⟨.vmem, 118, rfl⟩
abbrev cc11_stg8_0 : Ref sig .tc := ⟨.vmem, 119, rfl⟩
abbrev cc11_stg9_0 : Ref sig .tc := ⟨.vmem, 120, rfl⟩
abbrev cc11_stg10_0 : Ref sig .tc := ⟨.vmem, 121, rfl⟩
abbrev cc11_stg10_1 : Ref sig .tc := ⟨.vmem, 122, rfl⟩
abbrev cc11_stg11_0 : Ref sig .tc := ⟨.vmem, 123, rfl⟩
abbrev cc11_stg11_1 : Ref sig .tc := ⟨.vmem, 124, rfl⟩
abbrev cc12_stg0_0 : Ref sig .tc := ⟨.vmem, 125, rfl⟩
abbrev cc12_stg0_1 : Ref sig .tc := ⟨.vmem, 126, rfl⟩
abbrev cc12_stg1_0 : Ref sig .tc := ⟨.vmem, 127, rfl⟩
abbrev cc12_stg1_1 : Ref sig .tc := ⟨.vmem, 128, rfl⟩
abbrev cc12_stg2_0 : Ref sig .tc := ⟨.vmem, 129, rfl⟩
abbrev cc12_stg2_1 : Ref sig .tc := ⟨.vmem, 130, rfl⟩
abbrev cc12_stg3_0 : Ref sig .tc := ⟨.vmem, 131, rfl⟩
abbrev cc12_stg3_1 : Ref sig .tc := ⟨.vmem, 132, rfl⟩
abbrev cc12_stg4_0 : Ref sig .tc := ⟨.vmem, 133, rfl⟩
abbrev cc12_stg5_0 : Ref sig .tc := ⟨.vmem, 134, rfl⟩
abbrev cc12_stg6_0 : Ref sig .tc := ⟨.vmem, 135, rfl⟩
abbrev cc12_stg7_0 : Ref sig .tc := ⟨.vmem, 136, rfl⟩
abbrev cc12_stg8_0 : Ref sig .tc := ⟨.vmem, 137, rfl⟩
abbrev cc12_stg9_0 : Ref sig .tc := ⟨.vmem, 138, rfl⟩
abbrev cc12_stg9_1 : Ref sig .tc := ⟨.vmem, 139, rfl⟩
abbrev cc13_stg0_0 : Ref sig .tc := ⟨.vmem, 140, rfl⟩
abbrev cc13_stg0_1 : Ref sig .tc := ⟨.vmem, 141, rfl⟩
abbrev cc13_stg1_0 : Ref sig .tc := ⟨.vmem, 142, rfl⟩
abbrev cc13_stg2_0 : Ref sig .tc := ⟨.vmem, 143, rfl⟩
abbrev cc13_stg2_1 : Ref sig .tc := ⟨.vmem, 144, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc4_scratch0 : Ref sig .scVector := ⟨.vmem, 3, rfl⟩
abbrev cc4_scratch1 : Ref sig .scVector := ⟨.vmem, 4, rfl⟩
abbrev cc4_scratch2 : Ref sig .scVector := ⟨.vmem, 5, rfl⟩
abbrev cc7_scratch0 : Ref sig .scVector := ⟨.vmem, 6, rfl⟩
abbrev cc7_scratch1 : Ref sig .scVector := ⟨.vmem, 7, rfl⟩
abbrev cc7_scratch2 : Ref sig .scVector := ⟨.vmem, 8, rfl⟩
abbrev cc10_scratch0 : Ref sig .scVector := ⟨.vmem, 9, rfl⟩
abbrev cc10_scratch1 : Ref sig .scVector := ⟨.vmem, 10, rfl⟩
abbrev cc10_scratch2 : Ref sig .scVector := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc2_sem0_0 : DmaSem sig := 31
abbrev cc2_sem0_1 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem9_0 : DmaSem sig := 44
abbrev cc2_sem10_0 : DmaSem sig := 45
abbrev cc2_sem10_1 : DmaSem sig := 46
abbrev cc2_sem11_0 : DmaSem sig := 47
abbrev cc2_sem11_1 : DmaSem sig := 48
abbrev cc3_sem0_0 : DmaSem sig := 49
abbrev cc3_sem0_1 : DmaSem sig := 50
abbrev cc3_sem1_0 : DmaSem sig := 51
abbrev cc3_sem1_1 : DmaSem sig := 52
abbrev cc3_sem2_0 : DmaSem sig := 53
abbrev cc3_sem2_1 : DmaSem sig := 54
abbrev cc3_sem3_0 : DmaSem sig := 55
abbrev cc3_sem3_1 : DmaSem sig := 56
abbrev cc3_sem4_0 : DmaSem sig := 57
abbrev cc3_sem5_0 : DmaSem sig := 58
abbrev cc3_sem6_0 : DmaSem sig := 59
abbrev cc3_sem7_0 : DmaSem sig := 60
abbrev cc3_sem8_0 : DmaSem sig := 61
abbrev cc3_sem9_0 : DmaSem sig := 62
abbrev cc3_sem9_1 : DmaSem sig := 63
abbrev cc5_sem0_0 : DmaSem sig := 87
abbrev cc5_sem0_1 : DmaSem sig := 88
abbrev cc5_sem1_0 : DmaSem sig := 89
abbrev cc5_sem1_1 : DmaSem sig := 90
abbrev cc5_sem2_0 : DmaSem sig := 91
abbrev cc5_sem2_1 : DmaSem sig := 92
abbrev cc5_sem3_0 : DmaSem sig := 93
abbrev cc5_sem3_1 : DmaSem sig := 94
abbrev cc5_sem4_0 : DmaSem sig := 95
abbrev cc5_sem5_0 : DmaSem sig := 96
abbrev cc5_sem6_0 : DmaSem sig := 97
abbrev cc5_sem7_0 : DmaSem sig := 98
abbrev cc5_sem8_0 : DmaSem sig := 99
abbrev cc5_sem9_0 : DmaSem sig := 100
abbrev cc5_sem10_0 : DmaSem sig := 101
abbrev cc5_sem10_1 : DmaSem sig := 102
abbrev cc5_sem11_0 : DmaSem sig := 103
abbrev cc5_sem11_1 : DmaSem sig := 104
abbrev cc6_sem0_0 : DmaSem sig := 105
abbrev cc6_sem0_1 : DmaSem sig := 106
abbrev cc6_sem1_0 : DmaSem sig := 107
abbrev cc6_sem1_1 : DmaSem sig := 108
abbrev cc6_sem2_0 : DmaSem sig := 109
abbrev cc6_sem2_1 : DmaSem sig := 110
abbrev cc6_sem3_0 : DmaSem sig := 111
abbrev cc6_sem3_1 : DmaSem sig := 112
abbrev cc6_sem4_0 : DmaSem sig := 113
abbrev cc6_sem5_0 : DmaSem sig := 114
abbrev cc6_sem6_0 : DmaSem sig := 115
abbrev cc6_sem7_0 : DmaSem sig := 116
abbrev cc6_sem8_0 : DmaSem sig := 117
abbrev cc6_sem9_0 : DmaSem sig := 118
abbrev cc6_sem9_1 : DmaSem sig := 119
abbrev cc8_sem0_0 : DmaSem sig := 143
abbrev cc8_sem0_1 : DmaSem sig := 144
abbrev cc8_sem1_0 : DmaSem sig := 145
abbrev cc8_sem1_1 : DmaSem sig := 146
abbrev cc8_sem2_0 : DmaSem sig := 147
abbrev cc8_sem2_1 : DmaSem sig := 148
abbrev cc8_sem3_0 : DmaSem sig := 149
abbrev cc8_sem3_1 : DmaSem sig := 150
abbrev cc8_sem4_0 : DmaSem sig := 151
abbrev cc8_sem5_0 : DmaSem sig := 152
abbrev cc8_sem6_0 : DmaSem sig := 153
abbrev cc8_sem7_0 : DmaSem sig := 154
abbrev cc8_sem8_0 : DmaSem sig := 155
abbrev cc8_sem9_0 : DmaSem sig := 156
abbrev cc8_sem10_0 : DmaSem sig := 157
abbrev cc8_sem10_1 : DmaSem sig := 158
abbrev cc8_sem11_0 : DmaSem sig := 159
abbrev cc8_sem11_1 : DmaSem sig := 160
abbrev cc9_sem0_0 : DmaSem sig := 161
abbrev cc9_sem0_1 : DmaSem sig := 162
abbrev cc9_sem1_0 : DmaSem sig := 163
abbrev cc9_sem1_1 : DmaSem sig := 164
abbrev cc9_sem2_0 : DmaSem sig := 165
abbrev cc9_sem2_1 : DmaSem sig := 166
abbrev cc9_sem3_0 : DmaSem sig := 167
abbrev cc9_sem3_1 : DmaSem sig := 168
abbrev cc9_sem4_0 : DmaSem sig := 169
abbrev cc9_sem5_0 : DmaSem sig := 170
abbrev cc9_sem6_0 : DmaSem sig := 171
abbrev cc9_sem7_0 : DmaSem sig := 172
abbrev cc9_sem8_0 : DmaSem sig := 173
abbrev cc9_sem9_0 : DmaSem sig := 174
abbrev cc9_sem9_1 : DmaSem sig := 175
abbrev cc11_sem0_0 : DmaSem sig := 199
abbrev cc11_sem0_1 : DmaSem sig := 200
abbrev cc11_sem1_0 : DmaSem sig := 201
abbrev cc11_sem1_1 : DmaSem sig := 202
abbrev cc11_sem2_0 : DmaSem sig := 203
abbrev cc11_sem2_1 : DmaSem sig := 204
abbrev cc11_sem3_0 : DmaSem sig := 205
abbrev cc11_sem3_1 : DmaSem sig := 206
abbrev cc11_sem4_0 : DmaSem sig := 207
abbrev cc11_sem5_0 : DmaSem sig := 208
abbrev cc11_sem6_0 : DmaSem sig := 209
abbrev cc11_sem7_0 : DmaSem sig := 210
abbrev cc11_sem8_0 : DmaSem sig := 211
abbrev cc11_sem9_0 : DmaSem sig := 212
abbrev cc11_sem10_0 : DmaSem sig := 213
abbrev cc11_sem10_1 : DmaSem sig := 214
abbrev cc11_sem11_0 : DmaSem sig := 215
abbrev cc11_sem11_1 : DmaSem sig := 216
abbrev cc12_sem0_0 : DmaSem sig := 217
abbrev cc12_sem0_1 : DmaSem sig := 218
abbrev cc12_sem1_0 : DmaSem sig := 219
abbrev cc12_sem1_1 : DmaSem sig := 220
abbrev cc12_sem2_0 : DmaSem sig := 221
abbrev cc12_sem2_1 : DmaSem sig := 222
abbrev cc12_sem3_0 : DmaSem sig := 223
abbrev cc12_sem3_1 : DmaSem sig := 224
abbrev cc12_sem4_0 : DmaSem sig := 225
abbrev cc12_sem5_0 : DmaSem sig := 226
abbrev cc12_sem6_0 : DmaSem sig := 227
abbrev cc12_sem7_0 : DmaSem sig := 228
abbrev cc12_sem8_0 : DmaSem sig := 229
abbrev cc12_sem9_0 : DmaSem sig := 230
abbrev cc12_sem9_1 : DmaSem sig := 231
abbrev cc13_sem0_0 : DmaSem sig := 232
abbrev cc13_sem0_1 : DmaSem sig := 233
abbrev cc13_sem1_0 : DmaSem sig := 234
abbrev cc13_sem2_0 : DmaSem sig := 235
abbrev cc13_sem2_1 : DmaSem sig := 236
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_174_r0 : BitVec 32 := 0#32
  let c0_i32_175_r0 : BitVec 32 := 0#32
  ![v1.toNat, 0, 0]
def k1_off2 (i : grid1.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.addi v1 c0_i32_10
  let c128_i32 : BitVec 32 := 128#32
  let v12 : BitVec 32 := Scalar.muli v11 c128_i32
  let c0_i32_174_r1 : BitVec 32 := 0#32
  ![v12.toNat, 0]
def k1_off3 (i : grid1.Coords) (c256_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v75 : BitVec 32 := Scalar.addi v1 c256_i32
  let c256_i32_76 : BitVec 32 := 256#32
  let v76 : BitVec 32 := Scalar.subi v75 c256_i32_76
  let c128_i32_77 : BitVec 32 := 128#32
  let v77 : BitVec 32 := Scalar.muli v76 c128_i32_77
  let c0_i32_174_r9 : BitVec 32 := 0#32
  ![v77.toNat, 0]
abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x8x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S512x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S512x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x24x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x24x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S16x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_174_r0 : BitVec 32 := 0#32
  let c0_i32_175_r0 : BitVec 32 := 0#32
  ![v1.toNat, 0, 0]
def k4_off2 (i : grid4.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.addi v1 c0_i32_10
  let c128_i32 : BitVec 32 := 128#32
  let v12 : BitVec 32 := Scalar.muli v11 c128_i32
  let c0_i32_174_r1 : BitVec 32 := 0#32
  ![v12.toNat, 0]
def k4_off3 (i : grid4.Coords) (c256_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v75 : BitVec 32 := Scalar.addi v1 c256_i32
  let c256_i32_76 : BitVec 32 := 256#32
  let v76 : BitVec 32 := Scalar.subi v75 c256_i32_76
  let c128_i32_77 : BitVec 32 := 128#32
  let v77 : BitVec 32 := Scalar.muli v76 c128_i32_77
  let c0_i32_174_r9 : BitVec 32 := 0#32
  ![v77.toNat, 0]
abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x8x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x8x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S16x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S16x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S512x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev stage5_11 : Fin 2 → Memref sig .tc .vmem S512x128 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev grid6 : Pipeline.Grid := ⟨1, ![4], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x24x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x24x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S16x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S16x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S512x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨2, ![2, 16], ![false, false]⟩

def k7_off1 (i : grid7.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_174_r0 : BitVec 32 := 0#32
  let c0_i32_175_r0 : BitVec 32 := 0#32
  ![v1.toNat, 0, 0]
def k7_off2 (i : grid7.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.addi v1 c0_i32_10
  let c128_i32 : BitVec 32 := 128#32
  let v12 : BitVec 32 := Scalar.muli v11 c128_i32
  let c0_i32_174_r1 : BitVec 32 := 0#32
  ![v12.toNat, 0]
def k7_off3 (i : grid7.Coords) (c256_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v75 : BitVec 32 := Scalar.addi v1 c256_i32
  let c256_i32_76 : BitVec 32 := 256#32
  let v76 : BitVec 32 := Scalar.subi v75 c256_i32_76
  let c128_i32_77 : BitVec 32 := 128#32
  let v77 : BitVec 32 := Scalar.muli v76 c128_i32_77
  let c0_i32_174_r9 : BitVec 32 := 0#32
  ![v77.toNat, 0]
abbrev grid8 : Pipeline.Grid := ⟨1, ![8], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x8x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S512x8x16 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S512x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S512x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S16x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S16x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S128x128 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 2 → Memref sig .tc .vmem S512x128 .f32 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

abbrev stage8_11 : Fin 2 → Memref sig .tc .vmem S512x128 .f32 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

abbrev grid9 : Pipeline.Grid := ⟨1, ![4], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S512x24x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S512x24x16 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S512x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S512x16 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S128x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S16x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S128x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S128x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S16x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S512x128 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨2, ![2, 16], ![false, false]⟩

def k10_off1 (i : grid10.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_174_r0 : BitVec 32 := 0#32
  let c0_i32_175_r0 : BitVec 32 := 0#32
  ![v1.toNat, 0, 0]
def k10_off2 (i : grid10.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v11 : BitVec 32 := Scalar.addi v1 c0_i32_10
  let c128_i32 : BitVec 32 := 128#32
  let v12 : BitVec 32 := Scalar.muli v11 c128_i32
  let c0_i32_174_r1 : BitVec 32 := 0#32
  ![v12.toNat, 0]
def k10_off3 (i : grid10.Coords) (c256_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v75 : BitVec 32 := Scalar.addi v1 c256_i32
  let c256_i32_76 : BitVec 32 := 256#32
  let v76 : BitVec 32 := Scalar.subi v75 c256_i32_76
  let c128_i32_77 : BitVec 32 := 128#32
  let v77 : BitVec 32 := Scalar.muli v76 c128_i32_77
  let c0_i32_174_r9 : BitVec 32 := 0#32
  ![v77.toNat, 0]
abbrev grid11 : Pipeline.Grid := ⟨1, ![8], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_10 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_11 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S512x8x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S512x8x16 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S512x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S512x16 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .vmem S128x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S16x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S128x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S128x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S16x128 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S128x128 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev stage11_10 : Fin 2 → Memref sig .tc .vmem S512x128 .f32 := fun | 0 => Memref.whole cc11_stg10_0 | 1 => Memref.whole cc11_stg10_1 | ⟨_ + 2, h⟩ => absurd h (Nat.not_lt.2 (Nat.le_add_left _ _))
abbrev sem11_10 : Fin 2 → DmaSem sig := fun | 0 => cc11_sem10_0 | 1 => cc11_sem10_1 | ⟨_ + 2, h⟩ => absurd h (Nat.not_lt.2 (Nat.le_add_left _ _))
abbrev reads11_10 : Fin grid11.rank → Bool := ![true]

abbrev stage11_11 : Fin 2 → Memref sig .tc .vmem S512x128 .f32 := fun | 0 => Memref.whole cc11_stg11_0 | 1 => Memref.whole cc11_stg11_1 | ⟨_ + 2, h⟩ => absurd h (Nat.not_lt.2 (Nat.le_add_left _ _))
abbrev sem11_11 : Fin 2 → DmaSem sig := fun | 0 => cc11_sem11_0 | 1 => cc11_sem11_1 | ⟨_ + 2, h⟩ => absurd h (Nat.not_lt.2 (Nat.le_add_left _ _))
abbrev reads11_11 : Fin grid11.rank → Bool := ![true]

abbrev grid12 : Pipeline.Grid := ⟨1, ![4], ![false]⟩

def cc12_transform_0 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_1 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S512x24x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S512x24x16 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S512x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S512x16 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 1 → Memref sig .tc .vmem S128x128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S16x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S128x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S128x128 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S16x128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 2 → Memref sig .tc .vmem S512x128 .f32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true]

abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S512x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x32 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S512x32 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S4096 : Shape := ⟨1, ![4096]⟩
abbrev S8x4096 : Shape := ⟨2, ![8, 4096]⟩
abbrev S24x2048 : Shape := ⟨2, ![24, 2048]⟩
abbrev S8x16x4096 : Shape := ⟨3, ![8, 16, 4096]⟩
abbrev S24x16x2048 : Shape := ⟨3, ![24, 16, 2048]⟩
abbrev S16x4096 : Shape := ⟨2, ![16, 4096]⟩
abbrev S16x2048 : Shape := ⟨2, ![16, 2048]⟩
abbrev S16x128 : Shape := ⟨2, ![16, 128]⟩
abbrev S4x265x128 : Shape := ⟨3, ![4, 265, 128]⟩
abbrev S128x32 : Shape := ⟨2, ![128, 32]⟩
abbrev S8x9x4096 : Shape := ⟨3, ![8, 9, 4096]⟩
abbrev S4096x8x9 : Shape := ⟨3, ![4096, 8, 9]⟩
abbrev S24x9x2048 : Shape := ⟨3, ![24, 9, 2048]⟩
abbrev S2048x24x9 : Shape := ⟨3, ![2048, 24, 9]⟩
abbrev S8x1x4096 : Shape := ⟨3, ![8, 1, 4096]⟩
abbrev S4096x8 : Shape := ⟨2, ![4096, 8]⟩
abbrev S24x1x2048 : Shape := ⟨3, ![24, 1, 2048]⟩
abbrev S2048x24 : Shape := ⟨2, ![2048, 24]⟩
abbrev S9x4096 : Shape := ⟨2, ![9, 4096]⟩
abbrev S4096x9 : Shape := ⟨2, ![4096, 9]⟩
abbrev S9x2048 : Shape := ⟨2, ![9, 2048]⟩
abbrev S2048x9 : Shape := ⟨2, ![2048, 9]⟩
abbrev S4096x1 : Shape := ⟨2, ![4096, 1]⟩
abbrev S1x16 : Shape := ⟨2, ![1, 16]⟩
abbrev S4096x16 : Shape := ⟨2, ![4096, 16]⟩
abbrev S4096x128 : Shape := ⟨2, ![4096, 128]⟩
abbrev S_ : Shape := ⟨0, ![]⟩
abbrev S2048x16 : Shape := ⟨2, ![2048, 16]⟩
abbrev S2048x128 : Shape := ⟨2, ![2048, 128]⟩
abbrev S32768 : Shape := ⟨1, ![32768]⟩
abbrev S32768x1 : Shape := ⟨2, ![32768, 1]⟩
abbrev S32768x128 : Shape := ⟨2, ![32768, 128]⟩
abbrev S4096x8x128 : Shape := ⟨3, ![4096, 8, 128]⟩
abbrev S49152 : Shape := ⟨1, ![49152]⟩
abbrev S49152x1 : Shape := ⟨2, ![49152, 1]⟩
abbrev S49152x128 : Shape := ⟨2, ![49152, 128]⟩
abbrev S2048x24x128 : Shape := ⟨3, ![2048, 24, 128]⟩
abbrev S1x265x128 : Shape := ⟨3, ![1, 265, 128]⟩
abbrev S265x128 : Shape := ⟨2, ![265, 128]⟩
abbrev S2048x1x128 : Shape := ⟨3, ![2048, 1, 128]⟩
abbrev S2048x24x265 : Shape := ⟨3, ![2048, 24, 265]⟩
abbrev S2048x24x1 : Shape := ⟨3, ![2048, 24, 1]⟩
abbrev S2048x265 : Shape := ⟨2, ![2048, 265]⟩
abbrev S4096x1x128 : Shape := ⟨3, ![4096, 1, 128]⟩
abbrev S4096x8x265 : Shape := ⟨3, ![4096, 8, 265]⟩
abbrev S4096x8x1 : Shape := ⟨3, ![4096, 8, 1]⟩
abbrev S4096x265 : Shape := ⟨2, ![4096, 265]⟩
abbrev S2048x32 : Shape := ⟨2, ![2048, 32]⟩
abbrev S4x512x32 : Shape := ⟨3, ![4, 512, 32]⟩

abbrev nBuf : Space → Nat
  | .hbm => 405
  | .vmem => 0
  | .smem => 0
  | _ => 0

abbrev hbmTy0_0 (i : Nat) : BufTy := match i % 128 with
  | 0 => ⟨S4096, .i32⟩
  | 1 => ⟨S8x4096, .i32⟩
  | 2 => ⟨S24x2048, .i32⟩
  | 3 => ⟨S8x16x4096, .f32⟩
  | 4 => ⟨S24x16x2048, .f32⟩
  | 5 => ⟨S16x4096, .f32⟩
  | 6 => ⟨S16x2048, .f32⟩
  | 7 => ⟨S16x128, .f32⟩
  | 8 => ⟨S4x265x128, .f32⟩
  | 9 => ⟨S4x265x128, .f32⟩
  | 10 => ⟨S128x32, .f32⟩
  | 11 => ⟨S8x9x4096, .f32⟩
  | 12 => ⟨S4096x8x9, .f32⟩
  | 13 => ⟨S24x9x2048, .f32⟩
  | 14 => ⟨S2048x24x9, .f32⟩
  | 15 => ⟨S8x1x4096, .f32⟩
  | 16 => ⟨S8x4096, .f32⟩
  | 17 => ⟨S4096x8, .f32⟩
  | 18 => ⟨S24x1x2048, .f32⟩
  | 19 => ⟨S24x2048, .f32⟩
  | 20 => ⟨S2048x24, .f32⟩
  | 21 => ⟨S9x4096, .f32⟩
  | 22 => ⟨S4096x9, .f32⟩
  | 23 => ⟨S9x2048, .f32⟩
  | 24 => ⟨S2048x9, .f32⟩
  | 25 => ⟨S4096x1, .i32⟩
  | 26 => ⟨S1x16, .i32⟩
  | 27 => ⟨S4096x16, .i32⟩
  | 28 => ⟨S4096x16, .i32⟩
  | 29 => ⟨S4096x16, .i1⟩
  | 30 => ⟨S4096x16, .f32⟩
  | 31 => ⟨S4096x128, .f32⟩
  | 32 => ⟨S_, .f32⟩
  | 33 => ⟨S2048x16, .f32⟩
  | 34 => ⟨S2048x128, .f32⟩
  | 35 => ⟨S4096x8, .i32⟩
  | 36 => ⟨S32768, .i32⟩
  | 37 => ⟨S_, .i32⟩
  | 38 => ⟨S32768, .i32⟩
  | 39 => ⟨S32768, .i1⟩
  | 40 => ⟨S_, .i32⟩
  | 41 => ⟨S32768, .i32⟩
  | 42 => ⟨S32768, .i32⟩
  | 43 => ⟨S32768, .i32⟩
  | 44 => ⟨S32768x1, .i32⟩
  | 45 => ⟨S32768x128, .f32⟩
  | 46 => ⟨S4096x8x128, .f32⟩
  | 47 => ⟨S2048x24, .i32⟩
  | 48 => ⟨S49152, .i32⟩
  | 49 => ⟨S_, .i32⟩
  | 50 => ⟨S49152, .i32⟩
  | 51 => ⟨S49152, .i1⟩
  | 52 => ⟨S_, .i32⟩
  | 53 => ⟨S49152, .i32⟩
  | 54 => ⟨S49152, .i32⟩
  | 55 => ⟨S49152, .i32⟩
  | 56 => ⟨S49152x1, .i32⟩
  | 57 => ⟨S49152x128, .f32⟩
  | 58 => ⟨S2048x24x128, .f32⟩
  | 59 => ⟨S1x265x128, .f32⟩
  | 60 => ⟨S265x128, .f32⟩
  | 61 => ⟨S1x265x128, .f32⟩
  | 62 => ⟨S265x128, .f32⟩
  | 63 => ⟨S2048x1x128, .f32⟩
  | 64 => ⟨S2048x24x128, .f32⟩
  | 65 => ⟨S2048x24x265, .f32⟩
  | 66 => ⟨S2048x24x128, .f32⟩
  | 67 => ⟨S2048x24x128, .f32⟩
  | 68 => ⟨S2048x24x128, .f32⟩
  | 69 => ⟨S_, .f32⟩
  | 70 => ⟨S2048x24x128, .f32⟩
  | 71 => ⟨S2048x24x128, .f32⟩
  | 72 => ⟨S_, .f32⟩
  | 73 => ⟨S2048x24x128, .f32⟩
  | 74 => ⟨S2048x24x128, .f32⟩
  | 75 => ⟨S2048x24x128, .f32⟩
  | 76 => ⟨S2048x24x1, .f32⟩
  | 77 => ⟨S2048x24x128, .f32⟩
  | 78 => ⟨S2048x24x128, .f32⟩
  | 79 => ⟨S_, .f32⟩
  | 80 => ⟨S2048x128, .f32⟩
  | 81 => ⟨S2048x265, .f32⟩
  | 82 => ⟨S2048x128, .f32⟩
  | 83 => ⟨S2048x128, .f32⟩
  | 84 => ⟨S2048x128, .f32⟩
  | 85 => ⟨S_, .f32⟩
  | 86 => ⟨S2048x128, .f32⟩
  | 87 => ⟨S2048x128, .f32⟩
  | 88 => ⟨S_, .f32⟩
  | 89 => ⟨S2048x128, .f32⟩
  | 90 => ⟨S2048x128, .f32⟩
  | 91 => ⟨S2048x128, .f32⟩
  | 92 => ⟨S2048x128, .f32⟩
  | 93 => ⟨S1x265x128, .f32⟩
  | 94 => ⟨S265x128, .f32⟩
  | 95 => ⟨S1x265x128, .f32⟩
  | 96 => ⟨S265x128, .f32⟩
  | 97 => ⟨S4096x1x128, .f32⟩
  | 98 => ⟨S4096x8x128, .f32⟩
  | 99 => ⟨S4096x8x265, .f32⟩
  | 100 => ⟨S4096x8x128, .f32⟩
  | 101 => ⟨S4096x8x128, .f32⟩
  | 102 => ⟨S4096x8x128, .f32⟩
  | 103 => ⟨S_, .f32⟩
  | 104 => ⟨S4096x8x128, .f32⟩
  | 105 => ⟨S4096x8x128, .f32⟩
  | 106 => ⟨S_, .f32⟩
  | 107 => ⟨S4096x8x128, .f32⟩
  | 108 => ⟨S4096x8x128, .f32⟩
  | 109 => ⟨S4096x8x128, .f32⟩
  | 110 => ⟨S4096x8x1, .f32⟩
  | 111 => ⟨S4096x8x128, .f32⟩
  | 112 => ⟨S4096x8x128, .f32⟩
  | 113 => ⟨S_, .f32⟩
  | 114 => ⟨S4096x128, .f32⟩
  | 115 => ⟨S4096x265, .f32⟩
  | 116 => ⟨S4096x128, .f32⟩
  | 117 => ⟨S4096x128, .f32⟩
  | 118 => ⟨S4096x128, .f32⟩
  | 119 => ⟨S_, .f32⟩
  | 120 => ⟨S4096x128, .f32⟩
  | 121 => ⟨S4096x128, .f32⟩
  | 122 => ⟨S_, .f32⟩
  | 123 => ⟨S4096x128, .f32⟩
  | 124 => ⟨S4096x128, .f32⟩
  | 125 => ⟨S4096x128, .f32⟩
  | 126 => ⟨S4096x128, .f32⟩
  | 127 => ⟨S4096x8, .i32⟩
  | _ => ⟨S4096, .i32⟩

abbrev hbmTy0_1 (i : Nat) : BufTy := match i % 128 with
  | 0 => ⟨S32768, .i32⟩
  | 1 => ⟨S_, .i32⟩
  | 2 => ⟨S32768, .i32⟩
  | 3 => ⟨S32768, .i1⟩
  | 4 => ⟨S_, .i32⟩
  | 5 => ⟨S32768, .i32⟩
  | 6 => ⟨S32768, .i32⟩
  | 7 => ⟨S32768, .i32⟩
  | 8 => ⟨S32768x1, .i32⟩
  | 9 => ⟨S32768x128, .f32⟩
  | 10 => ⟨S4096x8x128, .f32⟩
  | 11 => ⟨S2048x24, .i32⟩
  | 12 => ⟨S49152, .i32⟩
  | 13 => ⟨S_, .i32⟩
  | 14 => ⟨S49152, .i32⟩
  | 15 => ⟨S49152, .i1⟩
  | 16 => ⟨S_, .i32⟩
  | 17 => ⟨S49152, .i32⟩
  | 18 => ⟨S49152, .i32⟩
  | 19 => ⟨S49152, .i32⟩
  | 20 => ⟨S49152x1, .i32⟩
  | 21 => ⟨S49152x128, .f32⟩
  | 22 => ⟨S2048x24x128, .f32⟩
  | 23 => ⟨S1x265x128, .f32⟩
  | 24 => ⟨S265x128, .f32⟩
  | 25 => ⟨S1x265x128, .f32⟩
  | 26 => ⟨S265x128, .f32⟩
  | 27 => ⟨S2048x1x128, .f32⟩
  | 28 => ⟨S2048x24x128, .f32⟩
  | 29 => ⟨S2048x24x265, .f32⟩
  | 30 => ⟨S2048x24x128, .f32⟩
  | 31 => ⟨S2048x24x128, .f32⟩
  | 32 => ⟨S2048x24x128, .f32⟩
  | 33 => ⟨S_, .f32⟩
  | 34 => ⟨S2048x24x128, .f32⟩
  | 35 => ⟨S2048x24x128, .f32⟩
  | 36 => ⟨S_, .f32⟩
  | 37 => ⟨S2048x24x128, .f32⟩
  | 38 => ⟨S2048x24x128, .f32⟩
  | 39 => ⟨S2048x24x128, .f32⟩
  | 40 => ⟨S2048x24x1, .f32⟩
  | 41 => ⟨S2048x24x128, .f32⟩
  | 42 => ⟨S2048x24x128, .f32⟩
  | 43 => ⟨S_, .f32⟩
  | 44 => ⟨S2048x128, .f32⟩
  | 45 => ⟨S2048x265, .f32⟩
  | 46 => ⟨S2048x128, .f32⟩
  | 47 => ⟨S2048x128, .f32⟩
  | 48 => ⟨S2048x128, .f32⟩
  | 49 => ⟨S_, .f32⟩
  | 50 => ⟨S2048x128, .f32⟩
  | 51 => ⟨S2048x128, .f32⟩
  | 52 => ⟨S_, .f32⟩
  | 53 => ⟨S2048x128, .f32⟩
  | 54 => ⟨S2048x128, .f32⟩
  | 55 => ⟨S2048x128, .f32⟩
  | 56 => ⟨S2048x128, .f32⟩
  | 57 => ⟨S1x265x128, .f32⟩
  | 58 => ⟨S265x128, .f32⟩
  | 59 => ⟨S1x265x128, .f32⟩
  | 60 => ⟨S265x128, .f32⟩
  | 61 => ⟨S4096x1x128, .f32⟩
  | 62 => ⟨S4096x8x128, .f32⟩
  | 63 => ⟨S4096x8x265, .f32⟩
  | 64 => ⟨S4096x8x128, .f32⟩
  | 65 => ⟨S4096x8x128, .f32⟩
  | 66 => ⟨S4096x8x128, .f32⟩
  | 67 => ⟨S_, .f32⟩
  | 68 => ⟨S4096x8x128, .f32⟩
  | 69 => ⟨S4096x8x128, .f32⟩
  | 70 => ⟨S_, .f32⟩
  | 71 => ⟨S4096x8x128, .f32⟩
  | 72 => ⟨S4096x8x128, .f32⟩
  | 73 => ⟨S4096x8x128, .f32⟩
  | 74 => ⟨S4096x8x1, .f32⟩
  | 75 => ⟨S4096x8x128, .f32⟩
  | 76 => ⟨S4096x8x128, .f32⟩
  | 77 => ⟨S_, .f32⟩
  | 78 => ⟨S4096x128, .f32⟩
  | 79 => ⟨S4096x265, .f32⟩
  | 80 => ⟨S4096x128, .f32⟩
  | 81 => ⟨S4096x128, .f32⟩
  | 82 => ⟨S4096x128, .f32⟩
  | 83 => ⟨S_, .f32⟩
  | 84 => ⟨S4096x128, .f32⟩
  | 85 => ⟨S4096x128, .f32⟩
  | 86 => ⟨S_, .f32⟩
  | 87 => ⟨S4096x128, .f32⟩
  | 88 => ⟨S4096x128, .f32⟩
  | 89 => ⟨S4096x128, .f32⟩
  | 90 => ⟨S4096x128, .f32⟩
  | 91 => ⟨S4096x8, .i32⟩
  | 92 => ⟨S32768, .i32⟩
  | 93 => ⟨S_, .i32⟩
  | 94 => ⟨S32768, .i32⟩
  | 95 => ⟨S32768, .i1⟩
  | 96 => ⟨S_, .i32⟩
  | 97 => ⟨S32768, .i32⟩
  | 98 => ⟨S32768, .i32⟩
  | 99 => ⟨S32768, .i32⟩
  | 100 => ⟨S32768x1, .i32⟩
  | 101 => ⟨S32768x128, .f32⟩
  | 102 => ⟨S4096x8x128, .f32⟩
  | 103 => ⟨S2048x24, .i32⟩
  | 104 => ⟨S49152, .i32⟩
  | 105 => ⟨S_, .i32⟩
  | 106 => ⟨S49152, .i32⟩
  | 107 => ⟨S49152, .i1⟩
  | 108 => ⟨S_, .i32⟩
  | 109 => ⟨S49152, .i32⟩
  | 110 => ⟨S49152, .i32⟩
  | 111 => ⟨S49152, .i32⟩
  | 112 => ⟨S49152x1, .i32⟩
  | 113 => ⟨S49152x128, .f32⟩
  | 114 => ⟨S2048x24x128, .f32⟩
  | 115 => ⟨S1x265x128, .f32⟩
  | 116 => ⟨S265x128, .f32⟩
  | 117 => ⟨S1x265x128, .f32⟩
  | 118 => ⟨S265x128, .f32⟩
  | 119 => ⟨S2048x1x128, .f32⟩
  | 120 => ⟨S2048x24x128, .f32⟩
  | 121 => ⟨S2048x24x265, .f32⟩
  | 122 => ⟨S2048x24x128, .f32⟩
  | 123 => ⟨S2048x24x128, .f32⟩
  | 124 => ⟨S2048x24x128, .f32⟩
  | 125 => ⟨S_, .f32⟩
  | 126 => ⟨S2048x24x128, .f32⟩
  | 127 => ⟨S2048x24x128, .f32⟩
  | _ => ⟨S4096, .i32⟩

abbrev hbmTy0_2 (i : Nat) : BufTy := match i % 128 with
  | 0 => ⟨S_, .f32⟩
  | 1 => ⟨S2048x24x128, .f32⟩
  | 2 => ⟨S2048x24x128, .f32⟩
  | 3 => ⟨S2048x24x128, .f32⟩
  | 4 => ⟨S2048x24x1, .f32⟩
  | 5 => ⟨S2048x24x128, .f32⟩
  | 6 => ⟨S2048x24x128, .f32⟩
  | 7 => ⟨S_, .f32⟩
  | 8 => ⟨S2048x128, .f32⟩
  | 9 => ⟨S2048x265, .f32⟩
  | 10 => ⟨S2048x128, .f32⟩
  | 11 => ⟨S2048x128, .f32⟩
  | 12 => ⟨S2048x128, .f32⟩
  | 13 => ⟨S_, .f32⟩
  | 14 => ⟨S2048x128, .f32⟩
  | 15 => ⟨S2048x128, .f32⟩
  | 16 => ⟨S_, .f32⟩
  | 17 => ⟨S2048x128, .f32⟩
  | 18 => ⟨S2048x128, .f32⟩
  | 19 => ⟨S2048x128, .f32⟩
  | 20 => ⟨S2048x128, .f32⟩
  | 21 => ⟨S1x265x128, .f32⟩
  | 22 => ⟨S265x128, .f32⟩
  | 23 => ⟨S1x265x128, .f32⟩
  | 24 => ⟨S265x128, .f32⟩
  | 25 => ⟨S4096x1x128, .f32⟩
  | 26 => ⟨S4096x8x128, .f32⟩
  | 27 => ⟨S4096x8x265, .f32⟩
  | 28 => ⟨S4096x8x128, .f32⟩
  | 29 => ⟨S4096x8x128, .f32⟩
  | 30 => ⟨S4096x8x128, .f32⟩
  | 31 => ⟨S_, .f32⟩
  | 32 => ⟨S4096x8x128, .f32⟩
  | 33 => ⟨S4096x8x128, .f32⟩
  | 34 => ⟨S_, .f32⟩
  | 35 => ⟨S4096x8x128, .f32⟩
  | 36 => ⟨S4096x8x128, .f32⟩
  | 37 => ⟨S4096x8x128, .f32⟩
  | 38 => ⟨S4096x8x1, .f32⟩
  | 39 => ⟨S4096x8x128, .f32⟩
  | 40 => ⟨S4096x8x128, .f32⟩
  | 41 => ⟨S_, .f32⟩
  | 42 => ⟨S4096x128, .f32⟩
  | 43 => ⟨S4096x265, .f32⟩
  | 44 => ⟨S4096x128, .f32⟩
  | 45 => ⟨S4096x128, .f32⟩
  | 46 => ⟨S4096x128, .f32⟩
  | 47 => ⟨S_, .f32⟩
  | 48 => ⟨S4096x128, .f32⟩
  | 49 => ⟨S4096x128, .f32⟩
  | 50 => ⟨S_, .f32⟩
  | 51 => ⟨S4096x128, .f32⟩
  | 52 => ⟨S4096x128, .f32⟩
  | 53 => ⟨S4096x128, .f32⟩
  | 54 => ⟨S4096x128, .f32⟩
  | 55 => ⟨S4096x8, .i32⟩
  | 56 => ⟨S32768, .i32⟩
  | 57 => ⟨S_, .i32⟩
  | 58 => ⟨S32768, .i32⟩
  | 59 => ⟨S32768, .i1⟩
  | 60 => ⟨S_, .i32⟩
  | 61 => ⟨S32768, .i32⟩
  | 62 => ⟨S32768, .i32⟩
  | 63 => ⟨S32768, .i32⟩
  | 64 => ⟨S32768x1, .i32⟩
  | 65 => ⟨S32768x128, .f32⟩
  | 66 => ⟨S4096x8x128, .f32⟩
  | 67 => ⟨S2048x24, .i32⟩
  | 68 => ⟨S49152, .i32⟩
  | 69 => ⟨S_, .i32⟩
  | 70 => ⟨S49152, .i32⟩
  | 71 => ⟨S49152, .i1⟩
  | 72 => ⟨S_, .i32⟩
  | 73 => ⟨S49152, .i32⟩
  | 74 => ⟨S49152, .i32⟩
  | 75 => ⟨S49152, .i32⟩
  | 76 => ⟨S49152x1, .i32⟩
  | 77 => ⟨S49152x128, .f32⟩
  | 78 => ⟨S2048x24x128, .f32⟩
  | 79 => ⟨S1x265x128, .f32⟩
  | 80 => ⟨S265x128, .f32⟩
  | 81 => ⟨S1x265x128, .f32⟩
  | 82 => ⟨S265x128, .f32⟩
  | 83 => ⟨S2048x1x128, .f32⟩
  | 84 => ⟨S2048x24x128, .f32⟩
  | 85 => ⟨S2048x24x265, .f32⟩
  | 86 => ⟨S2048x24x128, .f32⟩
  | 87 => ⟨S2048x24x128, .f32⟩
  | 88 => ⟨S2048x24x128, .f32⟩
  | 89 => ⟨S_, .f32⟩
  | 90 => ⟨S2048x24x128, .f32⟩
  | 91 => ⟨S2048x24x128, .f32⟩
  | 92 => ⟨S_, .f32⟩
  | 93 => ⟨S2048x24x128, .f32⟩
  | 94 => ⟨S2048x24x128, .f32⟩
  | 95 => ⟨S2048x24x128, .f32⟩
  | 96 => ⟨S2048x24x1, .f32⟩
  | 97 => ⟨S2048x24x128, .f32⟩
  | 98 => ⟨S2048x24x128, .f32⟩
  | 99 => ⟨S_, .f32⟩
  | 100 => ⟨S2048x128, .f32⟩
  | 101 => ⟨S2048x265, .f32⟩
  | 102 => ⟨S2048x128, .f32⟩
  | 103 => ⟨S2048x128, .f32⟩
  | 104 => ⟨S2048x128, .f32⟩
  | 105 => ⟨S_, .f32⟩
  | 106 => ⟨S2048x128, .f32⟩
  | 107 => ⟨S2048x128, .f32⟩
  | 108 => ⟨S_, .f32⟩
  | 109 => ⟨S2048x128, .f32⟩
  | 110 => ⟨S2048x128, .f32⟩
  | 111 => ⟨S2048x128, .f32⟩
  | 112 => ⟨S2048x128, .f32⟩
  | 113 => ⟨S1x265x128, .f32⟩
  | 114 => ⟨S265x128, .f32⟩
  | 115 => ⟨S1x265x128, .f32⟩
  | 116 => ⟨S265x128, .f32⟩
  | 117 => ⟨S4096x1x128, .f32⟩
  | 118 => ⟨S4096x8x128, .f32⟩
  | 119 => ⟨S4096x8x265, .f32⟩
  | 120 => ⟨S4096x8x128, .f32⟩
  | 121 => ⟨S4096x8x128, .f32⟩
  | 122 => ⟨S4096x8x128, .f32⟩
  | 123 => ⟨S_, .f32⟩
  | 124 => ⟨S4096x8x128, .f32⟩
  | 125 => ⟨S4096x8x128, .f32⟩
  | 126 => ⟨S_, .f32⟩
  | 127 => ⟨S4096x8x128, .f32⟩
  | _ => ⟨S4096, .i32⟩

abbrev hbmTy0_3 (i : Nat) : BufTy := match i % 128 with
  | 0 => ⟨S4096x8x128, .f32⟩
  | 1 => ⟨S4096x8x128, .f32⟩
  | 2 => ⟨S4096x8x1, .f32⟩
  | 3 => ⟨S4096x8x128, .f32⟩
  | 4 => ⟨S4096x8x128, .f32⟩
  | 5 => ⟨S_, .f32⟩
  | 6 => ⟨S4096x128, .f32⟩
  | 7 => ⟨S4096x265, .f32⟩
  | 8 => ⟨S4096x128, .f32⟩
  | 9 => ⟨S4096x128, .f32⟩
  | 10 => ⟨S4096x128, .f32⟩
  | 11 => ⟨S_, .f32⟩
  | 12 => ⟨S4096x128, .f32⟩
  | 13 => ⟨S4096x128, .f32⟩
  | 14 => ⟨S_, .f32⟩
  | 15 => ⟨S4096x128, .f32⟩
  | 16 => ⟨S4096x128, .f32⟩
  | 17 => ⟨S4096x128, .f32⟩
  | 18 => ⟨S4096x128, .f32⟩
  | 19 => ⟨S2048x32, .f32⟩
  | 20 => ⟨S4x512x32, .f32⟩
  | _ => ⟨S4096, .i32⟩

abbrev hbmTy (i : Nat) : BufTy := match i / 128 with
  | 0 => hbmTy0_0 i
  | 1 => hbmTy0_1 i
  | 2 => hbmTy0_2 i
  | 3 => hbmTy0_3 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_1 : Ref sig .tc := ⟨.hbm, 49, rfl⟩
abbrev main_v30 : Ref sig .tc := ⟨.hbm, 50, rfl⟩
abbrev main_v31 : Ref sig .tc := ⟨.hbm, 51, rfl⟩
abbrev main_c_2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_3 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call3_v0 : Ref sig .tc := ⟨.hbm, 101, rfl⟩
abbrev main_call3_v1 : Ref sig .tc := ⟨.hbm, 102, rfl⟩
abbrev main_call3_cst : Ref sig .tc := ⟨.hbm, 103, rfl⟩
abbrev main_call3_v2 : Ref sig .tc := ⟨.hbm, 104, rfl⟩
abbrev main_call3_v3 : Ref sig .tc := ⟨.hbm, 105, rfl⟩
abbrev main_call3_cst_0 : Ref sig .tc := ⟨.hbm, 106, rfl⟩
abbrev main_call3_v4 : Ref sig .tc := ⟨.hbm, 107, rfl⟩
abbrev main_call3_v5 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_4 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_call4_v0 : Ref sig .tc := ⟨.hbm, 117, rfl⟩
abbrev main_call4_v1 : Ref sig .tc := ⟨.hbm, 118, rfl⟩
abbrev main_call4_cst : Ref sig .tc := ⟨.hbm, 119, rfl⟩
abbrev main_call4_v2 : Ref sig .tc := ⟨.hbm, 120, rfl⟩
abbrev main_call4_v3 : Ref sig .tc := ⟨.hbm, 121, rfl⟩
abbrev main_call4_cst_0 : Ref sig .tc := ⟨.hbm, 122, rfl⟩
abbrev main_call4_v4 : Ref sig .tc := ⟨.hbm, 123, rfl⟩
abbrev main_call4_v5 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_c_5 : Ref sig .tc := ⟨.hbm, 129, rfl⟩
abbrev main_v74 : Ref sig .tc := ⟨.hbm, 130, rfl⟩
abbrev main_v75 : Ref sig .tc := ⟨.hbm, 131, rfl⟩
abbrev main_c_6 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_c_7 : Ref sig .tc := ⟨.hbm, 141, rfl⟩
abbrev main_v84 : Ref sig .tc := ⟨.hbm, 142, rfl⟩
abbrev main_v85 : Ref sig .tc := ⟨.hbm, 143, rfl⟩
abbrev main_c_8 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_call5_v0 : Ref sig .tc := ⟨.hbm, 159, rfl⟩
abbrev main_call5_v1 : Ref sig .tc := ⟨.hbm, 160, rfl⟩
abbrev main_call5_cst : Ref sig .tc := ⟨.hbm, 161, rfl⟩
abbrev main_call5_v2 : Ref sig .tc := ⟨.hbm, 162, rfl⟩
abbrev main_call5_v3 : Ref sig .tc := ⟨.hbm, 163, rfl⟩
abbrev main_call5_cst_0 : Ref sig .tc := ⟨.hbm, 164, rfl⟩
abbrev main_call5_v4 : Ref sig .tc := ⟨.hbm, 165, rfl⟩
abbrev main_call5_v5 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_9 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_call6_v0 : Ref sig .tc := ⟨.hbm, 175, rfl⟩
abbrev main_call6_v1 : Ref sig .tc := ⟨.hbm, 176, rfl⟩
abbrev main_call6_cst : Ref sig .tc := ⟨.hbm, 177, rfl⟩
abbrev main_call6_v2 : Ref sig .tc := ⟨.hbm, 178, rfl⟩
abbrev main_call6_v3 : Ref sig .tc := ⟨.hbm, 179, rfl⟩
abbrev main_call6_cst_0 : Ref sig .tc := ⟨.hbm, 180, rfl⟩
abbrev main_call6_v4 : Ref sig .tc := ⟨.hbm, 181, rfl⟩
abbrev main_call6_v5 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_call7_v0 : Ref sig .tc := ⟨.hbm, 193, rfl⟩
abbrev main_call7_v1 : Ref sig .tc := ⟨.hbm, 194, rfl⟩
abbrev main_call7_cst : Ref sig .tc := ⟨.hbm, 195, rfl⟩
abbrev main_call7_v2 : Ref sig .tc := ⟨.hbm, 196, rfl⟩
abbrev main_call7_v3 : Ref sig .tc := ⟨.hbm, 197, rfl⟩
abbrev main_call7_cst_0 : Ref sig .tc := ⟨.hbm, 198, rfl⟩
abbrev main_call7_v4 : Ref sig .tc := ⟨.hbm, 199, rfl⟩
abbrev main_call7_v5 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_cst_10 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_call8_v0 : Ref sig .tc := ⟨.hbm, 209, rfl⟩
abbrev main_call8_v1 : Ref sig .tc := ⟨.hbm, 210, rfl⟩
abbrev main_call8_cst : Ref sig .tc := ⟨.hbm, 211, rfl⟩
abbrev main_call8_v2 : Ref sig .tc := ⟨.hbm, 212, rfl⟩
abbrev main_call8_v3 : Ref sig .tc := ⟨.hbm, 213, rfl⟩
abbrev main_call8_cst_0 : Ref sig .tc := ⟨.hbm, 214, rfl⟩
abbrev main_call8_v4 : Ref sig .tc := ⟨.hbm, 215, rfl⟩
abbrev main_call8_v5 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_c_11 : Ref sig .tc := ⟨.hbm, 221, rfl⟩
abbrev main_v128 : Ref sig .tc := ⟨.hbm, 222, rfl⟩
abbrev main_v129 : Ref sig .tc := ⟨.hbm, 223, rfl⟩
abbrev main_c_12 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_c_13 : Ref sig .tc := ⟨.hbm, 233, rfl⟩
abbrev main_v138 : Ref sig .tc := ⟨.hbm, 234, rfl⟩
abbrev main_v139 : Ref sig .tc := ⟨.hbm, 235, rfl⟩
abbrev main_c_14 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_v153 : Ref sig .tc := ⟨.hbm, 250, rfl⟩
abbrev main_call9_v0 : Ref sig .tc := ⟨.hbm, 251, rfl⟩
abbrev main_call9_v1 : Ref sig .tc := ⟨.hbm, 252, rfl⟩
abbrev main_call9_cst : Ref sig .tc := ⟨.hbm, 253, rfl⟩
abbrev main_call9_v2 : Ref sig .tc := ⟨.hbm, 254, rfl⟩
abbrev main_call9_v3 : Ref sig .tc := ⟨.hbm, 255, rfl⟩
abbrev main_call9_cst_0 : Ref sig .tc := ⟨.hbm, 256, rfl⟩
abbrev main_call9_v4 : Ref sig .tc := ⟨.hbm, 257, rfl⟩
abbrev main_call9_v5 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_cst_15 : Ref sig .tc := ⟨.hbm, 263, rfl⟩
abbrev main_v158 : Ref sig .tc := ⟨.hbm, 264, rfl⟩
abbrev main_v159 : Ref sig .tc := ⟨.hbm, 265, rfl⟩
abbrev main_v160 : Ref sig .tc := ⟨.hbm, 266, rfl⟩
abbrev main_call10_v0 : Ref sig .tc := ⟨.hbm, 267, rfl⟩
abbrev main_call10_v1 : Ref sig .tc := ⟨.hbm, 268, rfl⟩
abbrev main_call10_cst : Ref sig .tc := ⟨.hbm, 269, rfl⟩
abbrev main_call10_v2 : Ref sig .tc := ⟨.hbm, 270, rfl⟩
abbrev main_call10_v3 : Ref sig .tc := ⟨.hbm, 271, rfl⟩
abbrev main_call10_cst_0 : Ref sig .tc := ⟨.hbm, 272, rfl⟩
abbrev main_call10_v4 : Ref sig .tc := ⟨.hbm, 273, rfl⟩
abbrev main_call10_v5 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_call11_v0 : Ref sig .tc := ⟨.hbm, 285, rfl⟩
abbrev main_call11_v1 : Ref sig .tc := ⟨.hbm, 286, rfl⟩
abbrev main_call11_cst : Ref sig .tc := ⟨.hbm, 287, rfl⟩
abbrev main_call11_v2 : Ref sig .tc := ⟨.hbm, 288, rfl⟩
abbrev main_call11_v3 : Ref sig .tc := ⟨.hbm, 289, rfl⟩
abbrev main_call11_cst_0 : Ref sig .tc := ⟨.hbm, 290, rfl⟩
abbrev main_call11_v4 : Ref sig .tc := ⟨.hbm, 291, rfl⟩
abbrev main_call11_v5 : Ref sig .tc := ⟨.hbm, 292, rfl⟩
abbrev main_v171 : Ref sig .tc := ⟨.hbm, 293, rfl⟩
abbrev main_v172 : Ref sig .tc := ⟨.hbm, 294, rfl⟩
abbrev main_v173 : Ref sig .tc := ⟨.hbm, 295, rfl⟩
abbrev main_v174 : Ref sig .tc := ⟨.hbm, 296, rfl⟩
abbrev main_cst_16 : Ref sig .tc := ⟨.hbm, 297, rfl⟩
abbrev main_v175 : Ref sig .tc := ⟨.hbm, 298, rfl⟩
abbrev main_v176 : Ref sig .tc := ⟨.hbm, 299, rfl⟩
abbrev main_v177 : Ref sig .tc := ⟨.hbm, 300, rfl⟩
abbrev main_call12_v0 : Ref sig .tc := ⟨.hbm, 301, rfl⟩
abbrev main_call12_v1 : Ref sig .tc := ⟨.hbm, 302, rfl⟩
abbrev main_call12_cst : Ref sig .tc := ⟨.hbm, 303, rfl⟩
abbrev main_call12_v2 : Ref sig .tc := ⟨.hbm, 304, rfl⟩
abbrev main_call12_v3 : Ref sig .tc := ⟨.hbm, 305, rfl⟩
abbrev main_call12_cst_0 : Ref sig .tc := ⟨.hbm, 306, rfl⟩
abbrev main_call12_v4 : Ref sig .tc := ⟨.hbm, 307, rfl⟩
abbrev main_call12_v5 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_c_17 : Ref sig .tc := ⟨.hbm, 313, rfl⟩
abbrev main_v182 : Ref sig .tc := ⟨.hbm, 314, rfl⟩
abbrev main_v183 : Ref sig .tc := ⟨.hbm, 315, rfl⟩
abbrev main_c_18 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_v187 : Ref sig .tc := ⟨.hbm, 320, rfl⟩
abbrev main_v188 : Ref sig .tc := ⟨.hbm, 321, rfl⟩
abbrev main_v189 : Ref sig .tc := ⟨.hbm, 322, rfl⟩
abbrev main_v190 : Ref sig .tc := ⟨.hbm, 323, rfl⟩
abbrev main_v191 : Ref sig .tc := ⟨.hbm, 324, rfl⟩
abbrev main_c_19 : Ref sig .tc := ⟨.hbm, 325, rfl⟩
abbrev main_v192 : Ref sig .tc := ⟨.hbm, 326, rfl⟩
abbrev main_v193 : Ref sig .tc := ⟨.hbm, 327, rfl⟩
abbrev main_c_20 : Ref sig .tc := ⟨.hbm, 328, rfl⟩
abbrev main_v194 : Ref sig .tc := ⟨.hbm, 329, rfl⟩
abbrev main_v195 : Ref sig .tc := ⟨.hbm, 330, rfl⟩
abbrev main_v196 : Ref sig .tc := ⟨.hbm, 331, rfl⟩
abbrev main_v197 : Ref sig .tc := ⟨.hbm, 332, rfl⟩
abbrev main_v198 : Ref sig .tc := ⟨.hbm, 333, rfl⟩
abbrev main_v199 : Ref sig .tc := ⟨.hbm, 334, rfl⟩
abbrev main_v200 : Ref sig .tc := ⟨.hbm, 335, rfl⟩
abbrev main_v201 : Ref sig .tc := ⟨.hbm, 336, rfl⟩
abbrev main_v202 : Ref sig .tc := ⟨.hbm, 337, rfl⟩
abbrev main_v203 : Ref sig .tc := ⟨.hbm, 338, rfl⟩
abbrev main_v204 : Ref sig .tc := ⟨.hbm, 339, rfl⟩
abbrev main_v205 : Ref sig .tc := ⟨.hbm, 340, rfl⟩
abbrev main_v206 : Ref sig .tc := ⟨.hbm, 341, rfl⟩
abbrev main_v207 : Ref sig .tc := ⟨.hbm, 342, rfl⟩
abbrev main_call13_v0 : Ref sig .tc := ⟨.hbm, 343, rfl⟩
abbrev main_call13_v1 : Ref sig .tc := ⟨.hbm, 344, rfl⟩
abbrev main_call13_cst : Ref sig .tc := ⟨.hbm, 345, rfl⟩
abbrev main_call13_v2 : Ref sig .tc := ⟨.hbm, 346, rfl⟩
abbrev main_call13_v3 : Ref sig .tc := ⟨.hbm, 347, rfl⟩
abbrev main_call13_cst_0 : Ref sig .tc := ⟨.hbm, 348, rfl⟩
abbrev main_call13_v4 : Ref sig .tc := ⟨.hbm, 349, rfl⟩
abbrev main_call13_v5 : Ref sig .tc := ⟨.hbm, 350, rfl⟩
abbrev main_v208 : Ref sig .tc := ⟨.hbm, 351, rfl⟩
abbrev main_v209 : Ref sig .tc := ⟨.hbm, 352, rfl⟩
abbrev main_v210 : Ref sig .tc := ⟨.hbm, 353, rfl⟩
abbrev main_v211 : Ref sig .tc := ⟨.hbm, 354, rfl⟩
abbrev main_cst_21 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_call14_v0 : Ref sig .tc := ⟨.hbm, 359, rfl⟩
abbrev main_call14_v1 : Ref sig .tc := ⟨.hbm, 360, rfl⟩
abbrev main_call14_cst : Ref sig .tc := ⟨.hbm, 361, rfl⟩
abbrev main_call14_v2 : Ref sig .tc := ⟨.hbm, 362, rfl⟩
abbrev main_call14_v3 : Ref sig .tc := ⟨.hbm, 363, rfl⟩
abbrev main_call14_cst_0 : Ref sig .tc := ⟨.hbm, 364, rfl⟩
abbrev main_call14_v4 : Ref sig .tc := ⟨.hbm, 365, rfl⟩
abbrev main_call14_v5 : Ref sig .tc := ⟨.hbm, 366, rfl⟩
abbrev main_v215 : Ref sig .tc := ⟨.hbm, 367, rfl⟩
abbrev main_v216 : Ref sig .tc := ⟨.hbm, 368, rfl⟩
abbrev main_v217 : Ref sig .tc := ⟨.hbm, 369, rfl⟩
abbrev main_v218 : Ref sig .tc := ⟨.hbm, 370, rfl⟩
abbrev main_v219 : Ref sig .tc := ⟨.hbm, 371, rfl⟩
abbrev main_v220 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_v224 : Ref sig .tc := ⟨.hbm, 376, rfl⟩
abbrev main_call15_v0 : Ref sig .tc := ⟨.hbm, 377, rfl⟩
abbrev main_call15_v1 : Ref sig .tc := ⟨.hbm, 378, rfl⟩
abbrev main_call15_cst : Ref sig .tc := ⟨.hbm, 379, rfl⟩
abbrev main_call15_v2 : Ref sig .tc := ⟨.hbm, 380, rfl⟩
abbrev main_call15_v3 : Ref sig .tc := ⟨.hbm, 381, rfl⟩
abbrev main_call15_cst_0 : Ref sig .tc := ⟨.hbm, 382, rfl⟩
abbrev main_call15_v4 : Ref sig .tc := ⟨.hbm, 383, rfl⟩
abbrev main_call15_v5 : Ref sig .tc := ⟨.hbm, 384, rfl⟩
abbrev main_v225 : Ref sig .tc := ⟨.hbm, 385, rfl⟩
abbrev main_v226 : Ref sig .tc := ⟨.hbm, 386, rfl⟩
abbrev main_v227 : Ref sig .tc := ⟨.hbm, 387, rfl⟩
abbrev main_v228 : Ref sig .tc := ⟨.hbm, 388, rfl⟩
abbrev main_cst_22 : Ref sig .tc := ⟨.hbm, 389, rfl⟩
abbrev main_v229 : Ref sig .tc := ⟨.hbm, 390, rfl⟩
abbrev main_v230 : Ref sig .tc := ⟨.hbm, 391, rfl⟩
abbrev main_v231 : Ref sig .tc := ⟨.hbm, 392, rfl⟩
abbrev main_call16_v0 : Ref sig .tc := ⟨.hbm, 393, rfl⟩
abbrev main_call16_v1 : Ref sig .tc := ⟨.hbm, 394, rfl⟩
abbrev main_call16_cst : Ref sig .tc := ⟨.hbm, 395, rfl⟩
abbrev main_call16_v2 : Ref sig .tc := ⟨.hbm, 396, rfl⟩
abbrev main_call16_v3 : Ref sig .tc := ⟨.hbm, 397, rfl⟩
abbrev main_call16_cst_0 : Ref sig .tc := ⟨.hbm, 398, rfl⟩
abbrev main_call16_v4 : Ref sig .tc := ⟨.hbm, 399, rfl⟩
abbrev main_call16_v5 : Ref sig .tc := ⟨.hbm, 400, rfl⟩
abbrev main_v232 : Ref sig .tc := ⟨.hbm, 401, rfl⟩
abbrev main_v233 : Ref sig .tc := ⟨.hbm, 402, rfl⟩
abbrev main_v234 : Ref sig .tc := ⟨.hbm, 403, rfl⟩
abbrev main_v235 : Ref sig .tc := ⟨.hbm, 404, rfl⟩

abbrev nD : Nat := 1
abbrev τ : Topo := Topo.v7x

variable {F : FTy → Type} [FloatOps F]
-- ==== Proof.Tile.lean ====
/-
  One tile's part of the SparseCore gather, for any program that has it.

  A tile fetches its `[20, 128]` block of the index list, then gathers twenty groups of 128 rows of a `[4096, 128]`
  table, group after group, through two row buffers: the gather of group `j + 1` is under way while group `j` is copied
  out. `tileProg` is that program over arbitrary memrefs and semaphores; `tileProg_wp` says what it leaves in the
  twenty destinations. The printed bodies of the SparseCore calls are instances of it.
-/
module

public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.Tactic

@[expose] public section

noncomputable section

namespace Cert.Proof.Tile

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore (gatherPayload rows)

abbrev SList : Shape := ⟨2, ![20, 128]⟩
abbrev SRow1 : Shape := ⟨2, ![1, 128]⟩
abbrev SRow : Shape := ⟨1, ![128]⟩
abbrev STab : Shape := ⟨2, ![4096, 128]⟩
abbrev SBuf : Shape := ⟨2, ![128, 128]⟩

theorem sq_row : SRow1.Squeezes SRow := by decide
theorem gat : STab.Gathers 0 SBuf := by decide
theorem row_inb (j : Fin 20) : ∀ a, (![j.val, 0] : Fin 2 → ℕ) a + SRow1.size a ≤ SList.size a := by
  intro a; match a with
  | 0 => show j.val + 1 ≤ 20; omega
  | 1 => show 0 + 128 ≤ 128; omega

variable {nD : ℕ} {τ : Topo} {sig : RefSig} {F : FTy → Type} {Λ : Labels} {cc : Fin τ.nSC} {cs : Fin τ.nSub}

/-- Row `j` of the tile's index list, as a list of 128 words. -/
abbrev rowM (idx : Memref sig .scVector .vmem SList .i32) (j : Fin 20) : Memref sig .scVector .vmem SRow .i32 :=
  (idx.slice (Rect.unit (s := SList) ![j.val, 0] SRow1.size (row_inb j)) (fun _ => rfl)).squeeze SRow sq_row

/-- What a tile works on: the block of the index list, the table, the twenty destinations, the tile's index scratch and
    its two row buffers, the two gathers' semaphores, and the twenty-one copies' semaphores. -/
structure Parts (sig : RefSig) where
  src : Memref sig .scVector .hbm SList .i32
  tab : Memref sig .scVector .hbm STab .f32
  out : Fin 20 → Memref sig .scVector .hbm SBuf .f32
  idx : Memref sig .scVector .vmem SList .i32
  hidx : idx.IsWhole
  buf : Fin 2 → Memref sig .scVector .vmem SBuf .f32
  hbuf : ∀ b, (buf b).IsWhole
  sem : Fin 2 → DmaSem sig
  fsem : DmaSem sig
  vs : Fin 20 → DmaSem sig
  hsrc : src.view.WordExact

local notation "PR" => Prog (TpuEff nD τ sig (Elt F) Λ (Proc.scVector cc cs)) PUnit

abbrev par (j : Fin 20) : Fin 2 := ⟨j.val % 2, Nat.mod_lt _ (by decide)⟩

/-- The issue of group `j`'s gather. -/
def issue (p : Parts sig) (j : Fin 20) : PR :=
  SparseCore.enqueueIndirectGather (p := Proc.scVector cc cs) rfl p.tab (p.buf (par j)) gat (rowM p.idx j) rfl (p.sem (par j))
    (View.wordExact_bits rfl) rfl (Or.inl rfl)

/-- Its wait. -/
def await (p : Parts sig) (j : Fin 20) : PR :=
  SparseCore.waitIndirectGather (p := Proc.scVector cc cs) (p.sem (par j)) p.tab (p.buf (par j)) (View.wordExact_bits rfl) (p.hbuf _).wordExact

/-- The copy of group `j`'s rows to their destination, waited for, and then `k`. -/
def copyOut (p : Parts sig) (j : Fin 20) (k : PR) : PR :=
  .op (.enqueueDma (p := Proc.scVector cc cs) (p.buf (par j)) (.here (p.out j)) (.dma (p.vs j)) (p.hbuf _).wordExact (View.wordExact_bits rfl) ⟨Or.inl rfl, trivial⟩)
    fun _ => .op (.waitDma2 (p := Proc.scVector cc cs) (p.vs j) (p.buf (par j)) (p.out j) (p.hbuf _).wordExact (View.wordExact_bits rfl)) fun _ => k

/-- The sweep once group `19 - n` has been gathered. -/
def sweep (p : Parts sig) : (n : ℕ) → n < 20 → PR
  | 0, _ => copyOut p ⟨19, by omega⟩ (.ret ⟨⟩)
  | n + 1, h => issue p ⟨19 - n, by omega⟩ >>= fun _ => copyOut p ⟨18 - n, by omega⟩
      (await p ⟨19 - n, by omega⟩ >>= fun _ => sweep p n (by omega))

/-- A tile's program. -/
def tileProg (p : Parts sig) : PR :=
  .op (.enqueueDma (p := Proc.scVector cc cs) p.src (.here p.idx) (.dma p.fsem) p.hsrc p.hidx.wordExact ⟨Or.inl rfl, trivial⟩)
    fun _ => .op (.waitDma2 (p := Proc.scVector cc cs) p.fsem p.src p.idx p.hsrc p.hidx.wordExact)
    fun _ => issue p 0 >>= fun _ => await p 0 >>= fun _ => sweep p 19 (by omega)

/-! ## What a tile gathers -/

/-- The index `(r, c)` of a rank-two shape. -/
abbrev ix {n m : ℕ} (r : Fin n) (c : Fin m) : (⟨2, ![n, m]⟩ : Shape).Idx := fun a => match a with | 0 => r | 1 => c

/-- Group `j` of the rows a list of row numbers names in a table. -/
def group (li : SList.Idx → Elt F .i32) (tv : STab.Idx → Elt F .f32) (hin : ∀ y, (li y).toNat < 4096) (j : Fin 20) : SBuf.Idx → Elt F .f32 :=
  fun x => tv (ix (n := 4096) (m := 128) ⟨(li (ix (n := 20) (m := 128) j (x 0))).toNat, hin _⟩ (x 1))

/-- Row `j` of the list, read at its place `k`. -/
theorem read_rowM (idx : Memref sig .scVector .vmem SList .i32) (f : idx.view.ty.Contents (Elt F)) (j : Fin 20) (k : SRow.Idx) :
    (rowM idx j).view.read (Elt F) f k = idx.view.read (Elt F) f (ix (n := 20) (m := 128) j (k 0)) := by
  show idx.view.read (Elt F) f _ = _
  congr 1
  have e : Shape.reshapeEquiv (s := SRow1) (s' := SRow) sq_row.numel_eq k = ix (n := 1) (m := 128) 0 (k 0) := by
    apply Shape.reshapeEquiv_eq_of_rowMajor
    refine (Shape.rowMajor_val_two _).trans (Eq.trans ?_ (Shape.rowMajor_val_one _).symm)
    show 0 * 128 + (k 0).val = _
    omega
  show (Rect.unit (s := SList) ![j.val, 0] SRow1.size (row_inb j)).emb (Shape.reshapeEquiv (s := SRow1) (s' := SRow) sq_row.numel_eq k) = _
  rw [e]
  funext a
  apply Fin.ext
  refine (Rect.emb_apply _ _ _).trans ?_
  match a with
  | 0 => show j.val + 1 * 0 = j.val; omega
  | 1 => show 0 + 1 * (k 0).val = (k 0).val; omega

theorem payload_eq (idx : Memref sig .scVector .vmem SList .i32) (f : idx.view.ty.Contents (Elt F)) (li : SList.Idx → Elt F .i32)
    (hli : idx.view.read (Elt F) f = li) (tv : STab.Idx → Elt F .f32) (hin : ∀ y, (li y).toNat < 4096) (j : Fin 20)
    (h : ∀ x, ((rowM idx j).view.read (Elt F) f x).toNat < STab.size gat.axis) :
    gatherPayload gat tv (rows ((rowM idx j).view.read (Elt F) f) rfl h) = group li tv hin j := by
  subst hli
  funext x
  unfold gatherPayload group
  congr 1
  funext a
  match a with
  | 0 =>
    refine (gat.idx_axis _ x).trans ?_
    apply Fin.ext
    show (BitVec.toNat ((rowM idx j).view.read (Elt F) f (SRow.rowMajor.symm _))) = BitVec.toNat _
    rw [read_rowM]
    congr 3
    have := Shape.rowMajor_val_one (d := ![128]) (SRow.rowMajor.symm ((x gat.axis').cast rfl))
    rw [Equiv.apply_symm_apply] at this
    apply Fin.ext
    exact this.symm
  | 1 =>
    apply Fin.ext
    exact gat.idx_of_ne _ x 1 (by decide)

/-! ## The run -/

section Run

variable {Ix : Type} [DecidableEq Ix] {U : Type} [URA U] [CountersIn U]
variable {Lvl : Type} [Preorder Lvl] {defs : Defs nD τ sig (Elt F) Λ} (𝒱 : Variants) (bd : Option 𝒱.V)

local notation "𝕄" => MT nD τ sig Ix (Elt F) ℕ U Lvl

variable (d : Dev nD) (ι : Ix) (O : CellTallies nD τ sig Ix) (W : Waits sig Ix)

/-- The tile's thread. -/
abbrev thr (d : Dev nD) (cc : Fin τ.nSC) (cs : Fin τ.nSub) : Thread nD τ := (d, Proc.scVector cc cs)

variable (p : Parts sig) (li : SList.Idx → Elt F .i32) (tv : STab.Idx → Elt F .f32) (hin : ∀ y, (li y).toNat < 4096)

/-- What the tile owes, and that its waits since `W` were all its own transfers'. -/
def Owe (cc : Fin τ.nSC) (cs : Fin τ.nSub) : sProp 𝕄 := iprop(∃ W', ⌜∀ x ∈ W', x ∈ W ∨ x.2 = ι⌝ ∗ owes (thr d cc cs) O W')

/-- Destination `j` at some contents, and its copy's semaphore at zero. -/
def Dst (cc : Fin τ.nSC) (cs : Fin τ.nSub) (j : Fin 20) : sProp 𝕄 :=
  iprop((∃ f, (p.out j).view.loc (thr d cc cs) ↦[(p.out j).view.set]{fullShare} f) ∗ semVal (thr d cc cs, SemLoc.dma (p.vs j)) 0)

/-- Destination `j` at group `j` of the gathered rows, and its copy's semaphore at zero. -/
def Got (cc : Fin τ.nSC) (cs : Fin τ.nSub) (j : Fin 20) : sProp 𝕄 :=
  iprop((∃ f, ⌜(p.out j).view.read (Elt F) f = group li tv hin j⌝ ∗ (p.out j).view.loc (thr d cc cs) ↦[(p.out j).view.set]{fullShare} f)
    ∗ semVal (thr d cc cs, SemLoc.dma (p.vs j)) 0)

/-- A row buffer at some contents. -/
def Any (cc : Fin τ.nSC) (cs : Fin τ.nSub) (b : Fin 2) : sProp 𝕄 := iprop(∃ f, (p.buf b).view.loc (thr d cc cs) ↦{fullShare} f)

/-- A row buffer at group `j`. -/
def Full (cc : Fin τ.nSC) (cs : Fin τ.nSub) (j : Fin 20) : sProp 𝕄 :=
  iprop(∃ f, ⌜(p.buf (par j)).view.read (Elt F) f = group li tv hin j⌝ ∗ (p.buf (par j)).view.loc (thr d cc cs) ↦{fullShare} f)

/-- The copy of group `j` to its destination. -/
theorem copyOut_wp (j : Fin 20) (k : PR) (Q : PUnit → sProp 𝕄) :
    iprop(Transfers.MayWaits (thr d cc cs) ι O ∗ Full d p li tv hin cc cs j ∗ Dst d p cc cs j ∗ Owe d ι O W cc cs)
      ⊢ iprop((iprop(Any d p cc cs (par j) ∗ Got d p li tv hin cc cs j ∗ Owe d ι O W cc cs) -∗ wp frame (wpE defs 𝒱 (thr d cc cs) bd) Set.univ k Q)
        -∗ wp frame (wpE defs 𝒱 (thr d cc cs) bd) Set.univ (copyOut p j k) Q) := by
  unfold Full Dst Got Any Owe copyOut
  iintro ⟨#Hmw, ⟨%f, %hf, Hf⟩, ⟨⟨%fo, Ho⟩, Hv⟩, %W', %hW', HO⟩ Hk
  iapply (Transfers.wp_dmaFromWhole countersEmb 𝒱 (thr d cc cs) bd ι (p.out j).view.dmaCredit rfl
    (View.amount_pos _ (SemLoc.dma (p.vs j)) (by decide)) (Finset.Subset.refl _)) $$ [Hf Ho Hv]
  · iframe Hf Ho Hv
  iintro Hfl
  iapply (Transfers.wp_waitLocalO countersEmb 𝒱 (thr d cc cs) bd ι (rfl : (p.out j).view.dmaCredit = _)) $$ [Hfl HO]
  · isplitl [Hfl]; · iexact Hfl
    isplitl [HO]; · iexact HO
    iapply (Transfers.MayWaits.elim (SemLoc.dma (p.vs j))) $$ Hmw
  iintro ⟨⟨Ho, Hf⟩, Hv, HO⟩
  iapply Hk
  isplitl [Hf]; · iexists _; iexact Hf
  isplitl [Ho Hv]
  · isplitl [Ho]
    · iexists _
      isplitr
      swap; · iexact Ho
      ipureintro
      rw [View.read_write_univ]
      exact hf
    iexact Hv
  iexists _; isplitr
  swap; · iexact HO
  ipureintro; intro x hx
  rcases Finset.mem_insert.mp hx with hx | hx
  · exact .inr (hx ▸ rfl)
  · exact hW' x hx

variable (hcr : ∀ b s', sig.dmaCredit .scVector (Kind.table .scVector .vmem) (p.buf b).view.buf s' .f32 = s'.numel * 32)
variable (q : PosShare TreeShare) (ft : Buf (Elt F) (p.tab.view.loc (thr d cc cs))) (htv : p.tab.view.read (Elt F) ft = tv)
variable (fi : Buf (Elt F) (p.idx.view.loc (thr d cc cs))) (hli : p.idx.view.read (Elt F) fi = li)

/-- What a gather under way delivers. -/
def Landing (j : Fin 20) : sProp 𝕄 :=
  iprop(Transfers.Flight countersEmb (thr d cc cs) (.dma (p.sem (par j))) ι (p.buf (par j)).view.dmaCredit
    iprop(Full d p li tv hin cc cs j ∗ (p.tab.view.loc (thr d cc cs) ↦{q} ft) ∗ (p.idx.view.loc (thr d cc cs) ↦{fullShare} fi)))

include hcr htv hli in
/-- The issue of group `j`'s gather. -/
theorem issue_wp (j : Fin 20) (k : PUnit → PR) (Q : PUnit → sProp 𝕄) :
    iprop((p.tab.view.loc (thr d cc cs) ↦{q} ft) ∗ Any d p cc cs (par j) ∗ (p.idx.view.loc (thr d cc cs) ↦{fullShare} fi)
        ∗ semVal (thr d cc cs, SemLoc.dma (p.sem (par j))) 0)
      ⊢ iprop((Landing d ι p li tv hin q ft fi j -∗ wp frame (wpE defs 𝒱 (thr d cc cs) bd) Set.univ (k ⟨⟩) Q)
        -∗ wp frame (wpE defs 𝒱 (thr d cc cs) bd) Set.univ (issue p j >>= k) Q) := by
  have hin' : ∀ x, ((rowM p.idx j).view.read (Elt F) fi x).toNat < STab.size gat.axis := fun x => by
    rw [read_rowM, hli]; exact hin _
  unfold Any issue Landing
  iintro ⟨Ht, ⟨%f, Hb⟩, Hi, Hv⟩ Hk
  iapply (SparseCore.wp_gatherFromWhole countersEmb 𝒱 (thr d cc cs) bd (src := p.tab) (dst := p.buf (par j)) (offs := rowM p.idx j) (hg := gat) ι
    (p.buf (par j)).view.dmaCredit (SparseCore.sum_rowCredit_eq_dmaCredit (p.buf (par j)) _ (hcr (par j))) (by decide) hin') $$ [Ht Hb Hi Hv]
  · iframe Ht Hb Hi Hv
  iintro Hfl
  iapply Hk
  have hm : iprop(((p.buf (par j)).view.loc (thr d cc cs) ↦{fullShare} ((p.buf (par j)).view.write (Elt F) f
        (gatherPayload gat (p.tab.view.read (Elt F) ft) (rows ((rowM p.idx j).view.read (Elt F) fi) rfl hin')) Finset.univ))
        ∗ (p.tab.view.loc (thr d cc cs) ↦{q} ft) ∗ ((rowM p.idx j).view.loc (thr d cc cs) ↦{fullShare} fi))
      ⊢ (iprop(Full d p li tv hin cc cs j ∗ (p.tab.view.loc (thr d cc cs) ↦{q} ft) ∗ (p.idx.view.loc (thr d cc cs) ↦{fullShare} fi)) : sProp 𝕄) := by
    unfold Full
    iintro ⟨Hb, Ht, Hi⟩
    isplitl [Hb]
    · iexists _
      isplitr
      swap; · iexact Hb
      ipureintro
      rw [View.read_write_univ, htv]
      exact payload_eq p.idx fi li hli tv hin j hin'
    isplitl [Ht] <;> iassumption
  iapply (Transfers.Flight_mono countersEmb (thr d cc cs) hm)
  iexact Hfl

/-- Its wait. -/
theorem await_wp (j : Fin 20) (k : PUnit → PR) (Q : PUnit → sProp 𝕄) :
    iprop(Transfers.MayWaits (thr d cc cs) ι O ∗ Landing d ι p li tv hin q ft fi j ∗ Owe d ι O W cc cs)
      ⊢ iprop((iprop(Full d p li tv hin cc cs j ∗ (p.tab.view.loc (thr d cc cs) ↦{q} ft) ∗ (p.idx.view.loc (thr d cc cs) ↦{fullShare} fi)
            ∗ semVal (thr d cc cs, SemLoc.dma (p.sem (par j))) 0 ∗ Owe d ι O W cc cs) -∗ wp frame (wpE defs 𝒱 (thr d cc cs) bd) Set.univ (k ⟨⟩) Q)
        -∗ wp frame (wpE defs 𝒱 (thr d cc cs) bd) Set.univ (await p j >>= k) Q) := by
  unfold Landing Owe await
  iintro ⟨#Hmw, Hfl, %W', %hW', HO⟩ Hk
  iapply (Transfers.wp_waitLocalO countersEmb 𝒱 (thr d cc cs) bd ι (rfl : (p.buf (par j)).view.dmaCredit = _)) $$ [Hfl HO]
  · isplitl [Hfl]; · iexact Hfl
    isplitl [HO]; · iexact HO
    iapply (Transfers.MayWaits.elim (SemLoc.dma (p.sem (par j)))) $$ Hmw
  iintro ⟨⟨Hb, Ht, Hi⟩, Hv, HO⟩
  iapply Hk
  iframe Hb Ht Hi Hv
  iexists _; isplitr
  swap; · iexact HO
  ipureintro; intro x hx
  rcases Finset.mem_insert.mp hx with hx | hx
  · exact .inr (hx ▸ rfl)
  · exact hW' x hx

/-- The tile between two groups: the table's share, the list, both row buffers, the gathers' semaphores, what it owes. -/
def Idle (cc : Fin τ.nSC) (cs : Fin τ.nSub) (ft : Buf (Elt F) (p.tab.view.loc (thr d cc cs))) (fi : Buf (Elt F) (p.idx.view.loc (thr d cc cs))) : sProp 𝕄 :=
  iprop((p.tab.view.loc (thr d cc cs) ↦{q} ft) ∗ (p.idx.view.loc (thr d cc cs) ↦{fullShare} fi)
    ∗ Any d p cc cs 0 ∗ Any d p cc cs 1 ∗ semVal (thr d cc cs, SemLoc.dma (p.sem 0)) 0 ∗ semVal (thr d cc cs, SemLoc.dma (p.sem 1)) 0 ∗ Owe d ι O W cc cs)

/-- The same with group `j` gathered: buffer `j % 2` full, the other at anything. -/
def Ready (cc : Fin τ.nSC) (cs : Fin τ.nSub) (ft : Buf (Elt F) (p.tab.view.loc (thr d cc cs))) (fi : Buf (Elt F) (p.idx.view.loc (thr d cc cs)))
    (j : Fin 20) (b : Fin 2) : sProp 𝕄 :=
  iprop((p.tab.view.loc (thr d cc cs) ↦{q} ft) ∗ (p.idx.view.loc (thr d cc cs) ↦{fullShare} fi)
    ∗ Full d p li tv hin cc cs j ∗ Any d p cc cs b ∗ semVal (thr d cc cs, SemLoc.dma (p.sem (par j))) 0
    ∗ semVal (thr d cc cs, SemLoc.dma (p.sem b)) 0 ∗ Owe d ι O W cc cs)

theorem par_cases (j : Fin 20) : (par j = 0 ∧ ∀ b : Fin 2, b ≠ par j → b = 1) ∨ (par j = 1 ∧ ∀ b : Fin 2, b ≠ par j → b = 0) := by
  revert j; decide

/-- The destinations from group `19 - n` on. -/
abbrev from' (n : ℕ) : Finset (Fin 20) := Finset.univ.filter fun j => 19 - n ≤ j.val

theorem from_succ (n : ℕ) (h : n + 1 < 20) : from' (n + 1) = insert ⟨18 - n, by omega⟩ (from' n) := by
  ext j
  simp only [Finset.mem_filter, Finset.mem_univ, true_and, Finset.mem_insert, Fin.ext_iff]
  omega

theorem from_zero : from' 0 = {⟨19, by omega⟩} := by decide

include hcr htv hli in
/-- The sweep, by the number of groups still to be gathered. -/
theorem sweep_wp (n : ℕ) (h : n < 20) (b : Fin 2) (hb : b ≠ par ⟨19 - n, by omega⟩) :
    (iprop(Transfers.MayWaits (thr d cc cs) ι O ∗ Ready d ι O W p li tv hin q cc cs ft fi ⟨19 - n, by omega⟩ b
        ∗ bigSep (from' n) fun j => (Dst d p cc cs j : sProp 𝕄)) : sProp 𝕄)
      ⊢ wp frame (wpE defs 𝒱 (thr d cc cs) bd) Set.univ (sweep p n h)
          fun _ => iprop(Idle d ι O W p q cc cs ft fi ∗ bigSep (from' n) fun j => Got d p li tv hin cc cs j) := by
  induction n generalizing b with
  | zero =>
    have hb' : b = 0 := by
      rcases par_cases ⟨19 - 0, by omega⟩ with ⟨e, _⟩ | ⟨_, hc⟩
      · exact absurd e (by decide)
      · exact hc b hb
    subst hb'
    rw [from_zero, bigSep_singleton, bigSep_singleton]
    unfold sweep Ready Idle
    iintro ⟨#Hmw, ⟨Ht, Hi, Hf, Ha, Hs1, Hs0, HO⟩, Hd⟩
    iapply (copyOut_wp 𝒱 bd d ι O W p li tv hin ⟨19, _⟩) $$ [Hf Hd HO]
    · isplitr; · iexact Hmw
      isplitl [Hf]; · iexact Hf
      isplitl [Hd] <;> iassumption
    iintro ⟨Hf, Hg, HO⟩
    rw [wp_ret]
    imodintro
    isplitr [Hg]; swap; · iexact Hg
    iframe Ht Hi
    isplitl [Ha]; · iexact Ha
    isplitl [Hf]; · iexact Hf
    isplitl [Hs0]; · iexact Hs0
    isplitl [Hs1]
    · iapply (Entails.of_eq (show (semVal (thr d cc cs, SemLoc.dma (p.sem (par ⟨19 - 0, by omega⟩))) 0 : sProp 𝕄)
        = semVal (thr d cc cs, SemLoc.dma (p.sem 1)) 0 by rw [show par (⟨19 - 0, by omega⟩ : Fin 20) = 1 by decide]))
      iexact Hs1
    iexact HO
  | succ n ih =>
    have e0 : (⟨19 - (n + 1), by omega⟩ : Fin 20) = ⟨18 - n, by omega⟩ := Fin.ext (by show 19 - (n + 1) = 18 - n; omega)
    have hpar : par ⟨18 - n, by omega⟩ ≠ par ⟨19 - n, by omega⟩ := by
      intro e; have := congrArg Fin.val e; simp only [par] at this; omega
    have hb' : b = par ⟨19 - n, by omega⟩ :=
      (show ∀ a b c : Fin 2, b ≠ a → c ≠ a → b = c by decide) (par ⟨18 - n, by omega⟩) _ _ (e0 ▸ hb) hpar.symm
    subst hb'
    rw [from_succ n h, SparseCore.bigSep_insert' (by simp; omega), SparseCore.bigSep_insert' (by simp; omega), e0]
    unfold sweep Ready
    iintro ⟨#Hmw, ⟨Ht, Hi, Hf, Ha, Hs0, Hs1, HO⟩, Hd, Hds⟩
    iapply (issue_wp 𝒱 bd d ι p li tv hin hcr q ft htv fi hli ⟨19 - n, _⟩) $$ [Ht Ha Hi Hs1]
    · iframe Ht Ha Hi Hs1
    iintro Hl
    iapply (copyOut_wp 𝒱 bd d ι O W p li tv hin ⟨18 - n, _⟩) $$ [Hf Hd HO]
    · isplitr; · iexact Hmw
      isplitl [Hf]; · iexact Hf
      isplitl [Hd] <;> iassumption
    iintro ⟨Ha, Hg, HO⟩
    iapply (await_wp 𝒱 bd d ι O W p li tv hin q ft fi ⟨19 - n, _⟩) $$ [Hl HO]
    · isplitr; · iexact Hmw
      isplitl [Hl] <;> iassumption
    iintro ⟨Hf, Ht, Hi, Hs1, HO⟩
    have hq : ∀ _ : PUnit, iprop(Got d p li tv hin cc cs ⟨18 - n, by omega⟩ ∗ (Idle d ι O W p q cc cs ft fi ∗ bigSep (from' n) fun j => Got d p li tv hin cc cs j))
        ⊢ (iprop(Idle d ι O W p q cc cs ft fi ∗ (Got d p li tv hin cc cs ⟨18 - n, by omega⟩ ∗ bigSep (from' n) fun j => Got d p li tv hin cc cs j)) : sProp 𝕄) := by
      intro _
      iintro ⟨Hg, Hid, Hr⟩
      iframe Hid Hg Hr
    iapply (wp_mono frame _ _ hq)
    iapply (wp_frame_l frame _ _)
    isplitl [Hg]; · iexact Hg
    iapply (ih _ (par ⟨18 - n, _⟩) hpar)
    isplitr; · iexact Hmw
    isplitr [Hds]; swap; · iexact Hds
    unfold Ready
    iframe Ht Hi Hf Ha Hs1 Hs0 HO

theorem from_all : from' 19 = Finset.univ := by decide

/-- A tile's buffers and semaphores, at rest. -/
def Rest (cc : Fin τ.nSC) (cs : Fin τ.nSub) : sProp 𝕄 :=
  iprop((∃ f, p.idx.view.loc (thr d cc cs) ↦{fullShare} f) ∗ Any d p cc cs 0 ∗ Any d p cc cs 1
    ∗ semVal (thr d cc cs, SemLoc.dma (p.sem 0)) 0 ∗ semVal (thr d cc cs, SemLoc.dma (p.sem 1)) 0 ∗ semVal (thr d cc cs, SemLoc.dma p.fsem) 0)

include hcr htv in
omit hli in
/-- A tile's program: from its block of the list and a share of the table, each destination ends at its group. -/
theorem tileProg_wp (qs : PosShare TreeShare) (Ss : Finset (Idx (p.src.view.loc (thr d cc cs)))) (hSs : p.src.view.set ⊆ Ss)
    (fs : Buf (Elt F) (p.src.view.loc (thr d cc cs))) (hls : p.src.view.read (Elt F) fs = li) :
    (iprop(Transfers.MayWaits (thr d cc cs) ι O ∗ (p.src.view.loc (thr d cc cs) ↦[Ss]{qs} fs) ∗ (p.tab.view.loc (thr d cc cs) ↦{q} ft)
        ∗ Rest d p cc cs ∗ (bigSep Finset.univ fun j => (Dst d p cc cs j : sProp 𝕄)) ∗ owes (thr d cc cs) O W) : sProp 𝕄)
      ⊢ wp frame (wpE defs 𝒱 (thr d cc cs) bd) Set.univ (tileProg p)
          fun _ => iprop((p.src.view.loc (thr d cc cs) ↦[Ss]{qs} fs) ∗ (p.tab.view.loc (thr d cc cs) ↦{q} ft)
            ∗ Rest d p cc cs ∗ (bigSep Finset.univ fun j => Got d p li tv hin cc cs j) ∗ Owe d ι O W cc cs) := by
  unfold tileProg Rest
  iintro ⟨#Hmw, Hl, Ht, ⟨⟨%f, Hi⟩, Ha, Hb, Hs0, Hs1, Hv⟩, Hds, HO⟩
  ihave Hsp := (pointsTo_split_subset hSs).1 $$ Hl
  icases Hsp with ⟨Hl, Hlr⟩
  iapply (Transfers.wp_dmaLocal countersEmb 𝒱 (thr d cc cs) bd ι p.idx.view.dmaCredit rfl
    (View.amount_pos _ (SemLoc.dma p.fsem) (by decide)) (Finset.subset_univ _)) $$ [Hl Hi Hv]
  · iframe Hl Hi Hv
  iintro Hfl
  iapply (Transfers.wp_waitLocalO countersEmb 𝒱 (thr d cc cs) bd ι (rfl : p.idx.view.dmaCredit = _)) $$ [Hfl HO]
  · isplitl [Hfl]; · iexact Hfl
    isplitl [HO]; · iexact HO
    iapply (Transfers.MayWaits.elim (SemLoc.dma p.fsem)) $$ Hmw
  iintro ⟨⟨Hi, Hl⟩, Hv, HO⟩
  have hli' : p.idx.view.read (Elt F) (p.idx.view.write (Elt F) f (p.src.view.read (Elt F) fs) Finset.univ) = li := by
    rw [View.read_write_univ, hls]
  iapply (issue_wp 𝒱 bd d ι p li tv hin hcr q ft htv _ hli' 0) $$ [Ht Ha Hi Hs0]
  · isplitl [Ht]; · iexact Ht
    isplitl [Ha]; · iexact Ha
    isplitl [Hi]; · iexact Hi
    iexact Hs0
  iintro Hld
  iapply (await_wp 𝒱 bd d ι O W p li tv hin q ft _ 0) $$ [Hld HO]
  · isplitr; · iexact Hmw
    isplitl [Hld]; · iexact Hld
    unfold Owe
    iexists _; isplitr
    swap; · iexact HO
    ipureintro; intro x hx
    rcases Finset.mem_insert.mp hx with hx | hx
    · exact .inr (hx ▸ rfl)
    · exact .inl hx
  iintro ⟨Hf, Ht, Hi, Hs0, HO⟩
  have hq : ∀ _ : PUnit, iprop(((p.src.view.loc (thr d cc cs) ↦[p.src.view.set]{qs} fs) ∗ (p.src.view.loc (thr d cc cs) ↦[Ss \ p.src.view.set]{qs} fs)
        ∗ semVal (thr d cc cs, SemLoc.dma p.fsem) 0)
        ∗ (Idle d ι O W p q cc cs ft (p.idx.view.write (Elt F) f (p.src.view.read (Elt F) fs) Finset.univ) ∗ bigSep (from' 19) fun j => Got d p li tv hin cc cs j))
      ⊢ (iprop((p.src.view.loc (thr d cc cs) ↦[Ss]{qs} fs) ∗ (p.tab.view.loc (thr d cc cs) ↦{q} ft)
            ∗ Rest d p cc cs ∗ (bigSep Finset.univ fun j => Got d p li tv hin cc cs j) ∗ Owe d ι O W cc cs) : sProp 𝕄) := by
    intro _
    rw [from_all]
    unfold Idle Rest
    iintro ⟨⟨Hl, Hlr, Hv⟩, ⟨Ht, Hi, Ha, Hb, Hs0, Hs1, HO⟩, Hg⟩
    isplitl [Hl Hlr]
    · iapply (pointsTo_split_subset hSs).2
      iframe Hl Hlr
    iframe Ht Hg HO Ha Hb Hs0 Hs1 Hv
    iexists _; iexact Hi
  iapply (wp_mono frame _ _ hq)
  iapply (wp_frame_l frame _ _)
  isplitl [Hl Hlr Hv]
  · iframe Hl Hlr Hv
  iapply (sweep_wp 𝒱 bd d ι O W p li tv hin hcr q ft htv _ hli' 19 _ 1 (by decide))
  isplitr; · iexact Hmw
  rw [from_all]
  isplitr [Hds]; swap; · iexact Hds
  unfold Ready
  isplitl [Ht]; · iexact Ht
  isplitl [Hi]; · iexact Hi
  isplitl [Hf]; · iexact Hf
  isplitl [Hb]; · iexact Hb
  isplitl [Hs0]; · iexact Hs0
  isplitl [Hs1]; · iexact Hs1
  iexact HO

end Run

end Cert.Proof.Tile

end
-- ==== Proof.Call.lean ====
/-
  One SparseCore gather call: what its thirty-two tiles read and write, and how the call's four arrays are dealt to them
  and come back.

  A `Call` names the arrays and the tiles' scratch. Tile `(c, i)` takes block `2 i + c` of the `[32, 20, 128]` index
  list, and gathers it into chunks `2 i + c + 32 j` (`j < 20`) of 128 rows: the first 256 chunks are the first result's,
  the other 384 the second's.
-/
module

public import proofs.«01_k».proof.Proof.Tile
public import proofs.«01_k».proof.Proof.Gen.KernelIdeal
public import Idealize.ShloMosaic.Lib.Pipeline.ReadBack

@[expose] public section

noncomputable section

namespace Cert.Proof.Call

open Cert.KernelIdeal Cert.KernelIdeal.Gen Cert.Proof.Tile
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The call's arrays and scratch -/

/-- A gather call: the index list, the table, the two results, and each tile's scratch. -/
structure Call where
  mi : Memref sig .scVector .hbm S32x20x128 .i32
  hi : mi.IsWhole
  mt : Memref sig .scVector .hbm S4096x128 .f32
  ht : mt.IsWhole
  ma : Memref sig .scVector .hbm S32768x128 .f32
  ha : ma.IsWhole
  mg : Memref sig .scVector .hbm S49152x128 .f32
  hg : mg.IsWhole
  idx : Memref sig .scVector .vmem S20x128 .i32
  hidx : idx.IsWhole
  b0 : Memref sig .scVector .vmem S128x128 .f32
  hb0 : b0.IsWhole
  b1 : Memref sig .scVector .vmem S128x128 .f32
  hb1 : b1.IsWhole
  s0 : DmaSems sig S_
  s1 : DmaSems sig S_
  fs : DmaSems sig S_
  vs : Fin 20 → DmaSems sig S_

/-- The rectangle of chunk `32 j` beyond the tile's own, in the first result. -/
abbrev rA (L : grid1.Coords) (j : Fin 8) : Rect S32768x128 :=
  Rect.unit (s := S32768x128) (k1_off2 L (BitVec.ofNat 32 (32 * j.val))) S128x128.size (k1_off2_inb L j)
/-- The same in the second. -/
abbrev rG (L : grid1.Coords) (j : Fin 12) : Rect S49152x128 :=
  Rect.unit (s := S49152x128) (k1_off3 L (BitVec.ofNat 32 (256 + 32 * j.val))) S128x128.size (k1_off3_inb L j)

/-- A tile's twenty destinations. -/
abbrev outK (L : grid1.Coords) (a4 : Memref sig .scVector .hbm S32768x128 .f32) (a5 : Memref sig .scVector .hbm S49152x128 .f32) (j : Fin 20) :
    Memref sig .scVector .hbm SBuf .f32 :=
  if h : j.val < 8 then a4.slice (rA L ⟨j.val, h⟩) (fun _ => rfl) else a5.slice (rG L ⟨j.val - 8, by omega⟩) (fun _ => rfl)

theorem outK_A (L : grid1.Coords) (a4 : Memref sig .scVector .hbm S32768x128 .f32) (a5 : Memref sig .scVector .hbm S49152x128 .f32) (j : Fin 8) :
    outK L a4 a5 (Fin.castAdd 12 j) = a4.slice (rA L j) (fun _ => rfl) := dif_pos j.isLt
theorem outK_G (L : grid1.Coords) (a4 : Memref sig .scVector .hbm S32768x128 .f32) (a5 : Memref sig .scVector .hbm S49152x128 .f32) (j : Fin 12) :
    outK L a4 a5 (Fin.natAdd 8 j) = a5.slice (rG L j) (fun _ => rfl) := by
  refine (dif_neg (by simp)).trans ?_
  have e : (⟨(Fin.natAdd 8 j).val - 8, by simp⟩ : Fin 12) = j := Fin.ext (by simp)
  rw [e]

/-- Tile `L`'s part of a call. -/
abbrev Call.parts (C : Call) (L : grid1.Coords) : Parts sig where
  src := (C.mi.slice (Rect.unit (s := S32x20x128) (k1_off1 L) S1x20x128.size (k1_off1_inb L)) (fun _ => rfl)).squeeze S20x128 squeezes_S1x20x128_S20x128
  tab := C.mt.slice (Rect.unit (s := S4096x128) ![0, 0] S4096x128.size inb_S4096x128_S4096x128_0_0) (fun _ => rfl)
  out := outK L C.ma C.mg
  idx := C.idx
  hidx := C.hidx
  buf := ![C.b0, C.b1]
  hbuf := fun b => match b with | 0 => C.hb0 | 1 => C.hb1
  sem := ![C.s0.sem, C.s1.sem]
  fsem := C.fs.sem
  vs := fun j => (C.vs j).sem
  hsrc := (View.wordExact_bits rfl).reshape _ _

set_option maxRecDepth 65536 in
/-- The printed body is a tile's program. -/
theorem body_eq [FloatOps F] (C : Call) (L : grid1.Coords) :
    cc1__sc_gather_body (F := F) L C.mi C.hi C.mt C.ht C.ma C.ha C.mg C.hg C.idx C.hidx C.b0 C.hb0 C.b1 C.hb1 C.s0 C.s1 C.fs
        (C.vs 0) (C.vs 1) (C.vs 2) (C.vs 3) (C.vs 4) (C.vs 5) (C.vs 6) (C.vs 7) (C.vs 8) (C.vs 9) (C.vs 10) (C.vs 11) (C.vs 12) (C.vs 13) (C.vs 14)
        (C.vs 15) (C.vs 16) (C.vs 17) (C.vs 18) (C.vs 19)
      = tileProg (C.parts L) := rfl

/-! ## What a call leaves -/

/-- The index `(a, b, c)` of a rank-three shape. -/
abbrev ix3 {n m k : ℕ} (a : Fin n) (b : Fin m) (c : Fin k) : (⟨3, ![n, m, k]⟩ : Shape).Idx := fun x => match x with | 0 => a | 1 => b | 2 => c

/-- The row a word names (the last, of a word too large). -/
def row (v : BitVec 32) : Fin 4096 := ⟨min v.toNat 4095, by omega⟩

theorem row_of_lt {v : BitVec 32} (h : v.toNat < 4096) : row v = ⟨v.toNat, h⟩ := Fin.ext (by show min v.toNat 4095 = v.toNat; omega)

/-- Word `n` of the index list, in the order of the gathered rows. -/
def word (li : S32x20x128.Idx → Elt F .i32) (n : ℕ) (h : n < 81920) : Elt F .i32 :=
  li (ix3 (n := 32) (m := 20) (k := 128) ⟨n / 128 % 32, by omega⟩ ⟨n / 128 / 32, by omega⟩ ⟨n % 128, by omega⟩)

/-- The first result: the rows the first 32768 words name. -/
def valA (li : S32x20x128.Idx → Elt F .i32) (tv : STab.Idx → Elt F .f32) : S32768x128.Idx → Elt F .f32 :=
  fun x => tv (ix (n := 4096) (m := 128) (row (word li (x 0).val (by have : (x 0).val < 32768 := (x 0).isLt; omega))) (x 1))
/-- The second: the rows the other 49152 name. -/
def valG (li : S32x20x128.Idx → Elt F .i32) (tv : STab.Idx → Elt F .f32) : S49152x128.Idx → Elt F .f32 :=
  fun x => tv (ix (n := 4096) (m := 128) (row (word li (32768 + (x 0).val) (by have : (x 0).val < 49152 := (x 0).isLt; omega))) (x 1))

/-- The block a tile takes of the index list. -/
abbrev wid (L : grid1.Coords) : Fin 32 := ⟨2 * (L 1).val + (L 0).val, by
  have h0 : (L 0).val < 2 := (L 0).isLt
  have h1 : (L 1).val < 16 := (L 1).isLt
  omega⟩

/-- Group `j` of the rows tile `L` gathers. -/
def pick (li : S32x20x128.Idx → Elt F .i32) (tv : STab.Idx → Elt F .f32) (L : grid1.Coords) (j : Fin 20) : SBuf.Idx → Elt F .f32 :=
  fun x => tv (ix (n := 4096) (m := 128) (row (li (ix3 (n := 32) (m := 20) (k := 128) (wid L) j (x 0)))) (x 1))

/-- Tile `L`'s block of the list. -/
def block (li : S32x20x128.Idx → Elt F .i32) (L : grid1.Coords) : SList.Idx → Elt F .i32 :=
  fun y => li (ix3 (n := 32) (m := 20) (k := 128) (wid L) (y 0) (y 1))

theorem group_eq (li : S32x20x128.Idx → Elt F .i32) (hin : ∀ y, (li y).toNat < 4096) (tv : STab.Idx → Elt F .f32) (L : grid1.Coords) (j : Fin 20) :
    group (block li L) tv (fun _ => hin _) j = pick li tv L j := by
  funext x
  unfold group pick
  rw [row_of_lt (hin _)]
  rfl

theorem read_src (C : Call) (L : grid1.Coords) (li : S32x20x128.Idx → Elt F .i32) :
    (C.parts L).src.view.read (Elt F) (C.hi.unread li) = block li L := by
  funext y
  have e : Shape.reshapeEquiv (s := S1x20x128) (s' := S20x128) squeezes_S1x20x128_S20x128.numel_eq y = ix3 (n := 1) (m := 20) (k := 128) 0 (y 0) (y 1) := by
    apply Shape.reshapeEquiv_eq_of_rowMajor
    refine (Shape.rowMajor_val_three _).trans (Eq.trans ?_ (Shape.rowMajor_val_two _).symm)
    show (0 * 20 + (y 0).val) * 128 + (y 1).val = (y 0).val * 128 + (y 1).val
    omega
  show C.mi.view.read (Elt F) (C.hi.unread li)
    ((Rect.unit (s := S32x20x128) (k1_off1 L) S1x20x128.size (k1_off1_inb L)).emb
      (Shape.reshapeEquiv (s := S1x20x128) (s' := S20x128) squeezes_S1x20x128_S20x128.numel_eq y)) = _
  rw [e, C.hi.read_unread]
  unfold block
  congr 1
  funext a
  apply Fin.ext
  refine (Rect.emb_apply _ _ _).trans ?_
  refine (congrArg (· + _) (congrFun (k1_off1_eq L) a)).trans ?_
  match a with
  | 0 => show 2 * (L 1).val + (L 0).val + 1 * 0 = 2 * (L 1).val + (L 0).val; omega
  | 1 => show 0 + 1 * (y 0).val = (y 0).val; omega
  | 2 => show 0 + 1 * (y 1).val = (y 1).val; omega

theorem read_tab (C : Call) (L : grid1.Coords) (tv : STab.Idx → Elt F .f32) : (C.parts L).tab.view.read (Elt F) (C.ht.unread tv) = tv := by
  funext y
  show C.mt.view.read (Elt F) (C.ht.unread tv) ((Rect.unit (s := S4096x128) ![0, 0] S4096x128.size inb_S4096x128_S4096x128_0_0).emb y) = tv y
  rw [C.ht.read_unread]
  congr 1
  funext a
  apply Fin.ext
  refine (Rect.emb_apply _ _ _).trans ?_
  match a with
  | 0 => show 0 + 1 * (y 0).val = (y 0).val; omega
  | 1 => show 0 + 1 * (y 1).val = (y 1).val; omega

theorem rA_emb (L : grid1.Coords) (j : Fin 8) (x : SBuf.Idx) :
    (((rA L j).emb x) 0).val = 128 * (wid L).val + 4096 * j.val + (x 0).val ∧ (((rA L j).emb x) 1).val = (x 1).val := by
  refine ⟨(Rect.emb_apply _ _ _).trans ?_, (Rect.emb_apply _ _ _).trans ?_⟩
  · refine (congrArg (· + _) (congrFun (k1_off2_eq L j) 0)).trans ?_
    show 256 * (L 1).val + 128 * (L 0).val + 4096 * j.val + 1 * (x 0).val = 128 * (2 * (L 1).val + (L 0).val) + 4096 * j.val + (x 0).val
    omega
  · refine (congrArg (· + _) (congrFun (k1_off2_eq L j) 1)).trans ?_
    show 0 + 1 * (x 1).val = _
    omega

theorem rG_emb (L : grid1.Coords) (j : Fin 12) (x : SBuf.Idx) :
    (((rG L j).emb x) 0).val = 128 * (wid L).val + 4096 * j.val + (x 0).val ∧ (((rG L j).emb x) 1).val = (x 1).val := by
  refine ⟨(Rect.emb_apply _ _ _).trans ?_, (Rect.emb_apply _ _ _).trans ?_⟩
  · refine (congrArg (· + _) (congrFun (k1_off3_eq L j) 0)).trans ?_
    show 256 * (L 1).val + 128 * (L 0).val + 4096 * j.val + 1 * (x 0).val = 128 * (2 * (L 1).val + (L 0).val) + 4096 * j.val + (x 0).val
    omega
  · refine (congrArg (· + _) (congrFun (k1_off3_eq L j) 1)).trans ?_
    show 0 + 1 * (x 1).val = _
    omega

theorem word_at (li : S32x20x128.Idx → Elt F .i32) (n : ℕ) (h : n < 81920) (w : Fin 32) (j : Fin 20) (r : Fin 128) (e : n = 128 * w.val + 4096 * j.val + r.val) :
    word li n h = li (ix3 (n := 32) (m := 20) (k := 128) w j r) := by
  subst e
  have e1 : (128 * w.val + 4096 * j.val + r.val) / 128 = w.val + 32 * j.val := by omega
  unfold word
  congr 1
  funext a
  match a with
  | 0 => exact Fin.ext (by show (128 * w.val + 4096 * j.val + r.val) / 128 % 32 = w.val; omega)
  | 1 => exact Fin.ext (by show (128 * w.val + 4096 * j.val + r.val) / 128 / 32 = j.val; omega)
  | 2 => exact Fin.ext (by show (128 * w.val + 4096 * j.val + r.val) % 128 = r.val; omega)

/-- A tile's group is its block of the first result … -/
theorem valA_rA (li : S32x20x128.Idx → Elt F .i32) (tv : STab.Idx → Elt F .f32) (L : grid1.Coords) (j : Fin 8) (x : SBuf.Idx) :
    valA li tv ((rA L j).emb x) = pick li tv L (Fin.castAdd 12 j) x := by
  obtain ⟨h0, h1⟩ := rA_emb L j x
  unfold valA pick
  rw [word_at li _ _ (wid L) (Fin.castAdd 12 j) (x 0) h0]
  congr 2
  exact Fin.ext h1

/-- … or of the second. -/
theorem valG_rG (li : S32x20x128.Idx → Elt F .i32) (tv : STab.Idx → Elt F .f32) (L : grid1.Coords) (j : Fin 12) (x : SBuf.Idx) :
    valG li tv ((rG L j).emb x) = pick li tv L (Fin.natAdd 8 j) x := by
  obtain ⟨h0, h1⟩ := rG_emb L j x
  unfold valG pick
  rw [word_at li _ _ (wid L) (Fin.natAdd 8 j) (x 0) (by rw [h0]; show _ = 128 * (wid L).val + 4096 * (8 + j.val) + (x 0).val; omega)]
  congr 2
  exact Fin.ext h1

/-! ## How the arrays are dealt -/

section Deal

variable {Ix : Type} [DecidableEq Ix] {U : Type} [URA U] {Lvl : Type} [Preorder Lvl]

local notation "𝕄" => MT nD τ sig Ix (Elt F) ℕ U Lvl

variable (C : Call) (d : Dev nD) (li : S32x20x128.Idx → Elt F .i32) (tv : STab.Idx → Elt F .f32)

/-- The tile at `(c, i)`. -/
def crd (c : Fin 2) (i : Fin 16) : grid1.Coords := fun | 0 => c | 1 => i | ⟨_ + 2, h⟩ => absurd h (Nat.not_lt.2 (Nat.le_add_left _ _))

abbrev cV (L : grid1.Coords) : Fin τ.nSC := (L 0).castLE hcore1
abbrev jV (L : grid1.Coords) : Fin τ.nSub := (L 1).castLE hsub1
abbrev thrL (L : grid1.Coords) : Thread nD τ := V d (cV L) (jV L)

/-- The four arrays. -/
abbrev Call.iLoc : Loc nD τ sig := C.mi.view.loc (V d 0 0)
abbrev Call.tLoc : Loc nD τ sig := C.mt.view.loc (V d 0 0)
abbrev Call.aLoc : Loc nD τ sig := C.ma.view.loc (V d 0 0)
abbrev Call.gLoc : Loc nD τ sig := C.mg.view.loc (V d 0 0)

/-- Tile `(c, i)`'s share of what all tiles read. -/
abbrev shr (c : Fin 2) (i : Fin 16) : PosShare TreeShare := Transfers.shareTok fullShare 32 (finProdFinEquiv (c, i))

/-- What a tile is handed: its shares of the list and of the table, its destinations. -/
def TileIn (c : Fin 2) (i : Fin 16) : sProp 𝕄 :=
  iprop((C.iLoc d ↦{shr c i} C.hi.unread li) ∗ (C.tLoc d ↦{shr c i} C.ht.unread tv)
    ∗ bigSep Finset.univ fun j => iprop(∃ f, ((C.parts (crd c i)).out j).view.loc (thrL d (crd c i)) ↦[((C.parts (crd c i)).out j).view.set]{fullShare} f))

/-- What it hands back: the same, each destination at its group of the gathered rows. -/
def TileOut (c : Fin 2) (i : Fin 16) : sProp 𝕄 :=
  iprop((C.iLoc d ↦{shr c i} C.hi.unread li) ∗ (C.tLoc d ↦{shr c i} C.ht.unread tv)
    ∗ bigSep Finset.univ fun j => iprop(∃ f, ⌜((C.parts (crd c i)).out j).view.read (Elt F) f = pick li tv (crd c i) j⌝
        ∗ ((C.parts (crd c i)).out j).view.loc (thrL d (crd c i)) ↦[((C.parts (crd c i)).out j).view.set]{fullShare} f))

/-- The blocks of the first result, by tile and group. -/
abbrev setA (t : Fin 2 × Fin 16 × Fin 8) : Finset (Idx (C.aLoc d)) := (C.ma.view.slice (rA (crd t.1 t.2.1) t.2.2)).set
abbrev setG (t : Fin 2 × Fin 16 × Fin 12) : Finset (Idx (C.gLoc d)) := (C.mg.view.slice (rG (crd t.1 t.2.1) t.2.2)).set

theorem wid_crd (c : Fin 2) (i : Fin 16) : (wid (crd c i)).val = 2 * i.val + c.val := rfl

theorem mem_rA {c : Fin 2} {i : Fin 16} {j : Fin 8} {x : S32768x128.Idx} :
    x ∈ (rA (crd c i) j).set ↔ (x 0).val / 128 = 2 * i.val + c.val + 32 * j.val := by
  have hx : (x 1).val < 128 := (x 1).isLt
  have e0 : k1_off2 (crd c i) (BitVec.ofNat 32 (32 * j.val)) 0 = 256 * i.val + 128 * c.val + 4096 * j.val := congrFun (k1_off2_eq (crd c i) j) 0
  have e1 : k1_off2 (crd c i) (BitVec.ofNat 32 (32 * j.val)) 1 = 0 := congrFun (k1_off2_eq (crd c i) j) 1
  rw [Rect.mem_set_unit]
  constructor
  · intro h
    have h0 := h 0
    rw [e0] at h0
    have h1 : (x 0).val < 256 * i.val + 128 * c.val + 4096 * j.val + 128 := h0.2
    omega
  · intro h a
    match a with
    | 0 => rw [e0]; exact ⟨by omega, by show (x 0).val < 256 * i.val + 128 * c.val + 4096 * j.val + 128; omega⟩
    | 1 => rw [e1]; exact ⟨Nat.zero_le _, by show (x 1).val < 0 + 128; omega⟩

theorem mem_rG {c : Fin 2} {i : Fin 16} {j : Fin 12} {x : S49152x128.Idx} :
    x ∈ (rG (crd c i) j).set ↔ (x 0).val / 128 = 2 * i.val + c.val + 32 * j.val := by
  have hx : (x 1).val < 128 := (x 1).isLt
  have e0 : k1_off3 (crd c i) (BitVec.ofNat 32 (256 + 32 * j.val)) 0 = 256 * i.val + 128 * c.val + 4096 * j.val := congrFun (k1_off3_eq (crd c i) j) 0
  have e1 : k1_off3 (crd c i) (BitVec.ofNat 32 (256 + 32 * j.val)) 1 = 0 := congrFun (k1_off3_eq (crd c i) j) 1
  rw [Rect.mem_set_unit]
  constructor
  · intro h
    have h0 := h 0
    rw [e0] at h0
    have h1 : (x 0).val < 256 * i.val + 128 * c.val + 4096 * j.val + 128 := h0.2
    omega
  · intro h a
    match a with
    | 0 => rw [e0]; exact ⟨by omega, by show (x 0).val < 256 * i.val + 128 * c.val + 4096 * j.val + 128; omega⟩
    | 1 => rw [e1]; exact ⟨Nat.zero_le _, by show (x 1).val < 0 + 128; omega⟩

theorem setA_disjoint : ∀ t ∈ (Finset.univ : Finset (Fin 2 × Fin 16 × Fin 8)), ∀ t' ∈ (Finset.univ : Finset (Fin 2 × Fin 16 × Fin 8)), t ≠ t' →
    Disjoint (setA C d t) (setA C d t') := by
  rintro ⟨c, i, j⟩ - ⟨c', i', j'⟩ - h
  unfold setA
  rw [View.set_slice, View.set_slice, Finset.disjoint_map, Finset.disjoint_left]
  intro x hx hx'
  have h1 : (x 0).val / 128 = 2 * i.val + c.val + 32 * j.val := mem_rA.mp hx
  have h2 : (x 0).val / 128 = 2 * i'.val + c'.val + 32 * j'.val := mem_rA.mp hx'
  have hc : c.val < 2 := c.isLt
  have hc' : c'.val < 2 := c'.isLt
  refine h (Prod.ext (Fin.ext ?_) (Prod.ext (Fin.ext ?_) (Fin.ext ?_)))
  · show c.val = c'.val; omega
  · show i.val = i'.val; omega
  · show j.val = j'.val; omega

theorem setG_disjoint : ∀ t ∈ (Finset.univ : Finset (Fin 2 × Fin 16 × Fin 12)), ∀ t' ∈ (Finset.univ : Finset (Fin 2 × Fin 16 × Fin 12)), t ≠ t' →
    Disjoint (setG C d t) (setG C d t') := by
  rintro ⟨c, i, j⟩ - ⟨c', i', j'⟩ - h
  unfold setG
  rw [View.set_slice, View.set_slice, Finset.disjoint_map, Finset.disjoint_left]
  intro x hx hx'
  have h1 : (x 0).val / 128 = 2 * i.val + c.val + 32 * j.val := mem_rG.mp hx
  have h2 : (x 0).val / 128 = 2 * i'.val + c'.val + 32 * j'.val := mem_rG.mp hx'
  have hc : c.val < 2 := c.isLt
  have hc' : c'.val < 2 := c'.isLt
  refine h (Prod.ext (Fin.ext ?_) (Prod.ext (Fin.ext ?_) (Fin.ext ?_)))
  · show c.val = c'.val; omega
  · show i.val = i'.val; omega
  · show j.val = j'.val; omega

theorem setA_cover : (Finset.univ : Finset (Fin 2 × Fin 16 × Fin 8)).biUnion (setA C d) = Finset.univ := by
  refine Finset.eq_univ_of_forall fun y => ?_
  have hy : y ∈ C.ma.view.set := by rw [C.ha.set_eq_univ]; exact Finset.mem_univ _
  obtain ⟨x, -, rfl⟩ := Finset.mem_map.mp hy
  have hx : (x 0).val < 32768 := (x 0).isLt
  refine Finset.mem_biUnion.mpr ⟨(⟨(x 0).val / 128 % 2, by omega⟩, ⟨(x 0).val / 128 / 2 % 16, by omega⟩, ⟨(x 0).val / 128 / 32, by omega⟩), Finset.mem_univ _, ?_⟩
  unfold setA
  rw [View.set_slice]
  refine Finset.mem_map_of_mem _ (mem_rA.mpr ?_)
  show (x 0).val / 128 = 2 * ((x 0).val / 128 / 2 % 16) + (x 0).val / 128 % 2 + 32 * ((x 0).val / 128 / 32)
  omega

theorem setG_cover : (Finset.univ : Finset (Fin 2 × Fin 16 × Fin 12)).biUnion (setG C d) = Finset.univ := by
  refine Finset.eq_univ_of_forall fun y => ?_
  have hy : y ∈ C.mg.view.set := by rw [C.hg.set_eq_univ]; exact Finset.mem_univ _
  obtain ⟨x, -, rfl⟩ := Finset.mem_map.mp hy
  have hx : (x 0).val < 49152 := (x 0).isLt
  refine Finset.mem_biUnion.mpr ⟨(⟨(x 0).val / 128 % 2, by omega⟩, ⟨(x 0).val / 128 / 2 % 16, by omega⟩, ⟨(x 0).val / 128 / 32, by omega⟩), Finset.mem_univ _, ?_⟩
  unfold setG
  rw [View.set_slice]
  refine Finset.mem_map_of_mem _ (mem_rG.mpr ?_)
  show (x 0).val / 128 = 2 * ((x 0).val / 128 / 2 % 16) + (x 0).val / 128 % 2 + 32 * ((x 0).val / 128 / 32)
  omega

theorem aPts_blocks (f : Buf (Elt F) (C.aLoc d)) :
    (C.aLoc d ↦{fullShare} f : sProp 𝕄)
      = bigSep Finset.univ fun c : Fin 2 => bigSep Finset.univ fun i : Fin 16 => bigSep Finset.univ fun j : Fin 8 => C.aLoc d ↦[setA C d (c, i, j)]{fullShare} f := by
  have h : (_ : sProp 𝕄) = _ := pointsTo_biUnion (q := fullShare) (f := f) Finset.univ (ℓ := C.aLoc d) (setA C d) (setA_disjoint C d)
  rw [setA_cover] at h
  rw [h, bigSep_univ_prod]
  exact bigSep_congr fun c _ => bigSep_univ_prod _

theorem gPts_blocks (f : Buf (Elt F) (C.gLoc d)) :
    (C.gLoc d ↦{fullShare} f : sProp 𝕄)
      = bigSep Finset.univ fun c : Fin 2 => bigSep Finset.univ fun i : Fin 16 => bigSep Finset.univ fun j : Fin 12 => C.gLoc d ↦[setG C d (c, i, j)]{fullShare} f := by
  have h : (_ : sProp 𝕄) = _ := pointsTo_biUnion (q := fullShare) (f := f) Finset.univ (ℓ := C.gLoc d) (setG C d) (setG_disjoint C d)
  rw [setG_cover] at h
  rw [h, bigSep_univ_prod]
  exact bigSep_congr fun c _ => bigSep_univ_prod _

/-- What all tiles read, dealt in shares; the rest of it stays. -/
theorem read_shares {ℓ : Loc nD τ sig} (f : Buf (Elt F) ℓ) :
    (ℓ ↦{fullShare} f : sProp 𝕄)
      ⊣⊢ iprop((ℓ ↦{Transfers.shareDrop fullShare 32} f) ∗ bigSep Finset.univ fun c : Fin 2 => bigSep Finset.univ fun i : Fin 16 => ℓ ↦{shr c i} f) := by
  have h : (_ : sProp 𝕄) ⊣⊢ _ := Transfers.pointsTo_toks (ℓ := ℓ) (S := Finset.univ) (f := f) fullShare 32
  rw [bigSep_univ_equiv (finProdFinEquiv : Fin 2 × Fin 16 ≃ Fin 32), bigSep_univ_prod] at h
  exact h

/-- The twenty destinations are eight blocks of the first result and twelve of the second. -/
theorem bigSep_twenty (Φ : Fin 20 → sProp 𝕄) :
    bigSep Finset.univ Φ = iprop((bigSep Finset.univ fun j : Fin 8 => Φ (Fin.castAdd 12 j)) ∗ bigSep Finset.univ fun j : Fin 12 => Φ (Fin.natAdd 8 j)) := by
  rw [bigSep_univ_equiv (finSumFinEquiv : Fin 8 ⊕ Fin 12 ≃ Fin 20), bigSep_univ_sum]
  rfl

/-- What the call keeps while its tiles run. -/
def Kept : sProp 𝕄 :=
  iprop((C.iLoc d ↦{Transfers.shareDrop fullShare 32} C.hi.unread li) ∗ (C.tLoc d ↦{Transfers.shareDrop fullShare 32} C.ht.unread tv))

/-- A tile's destinations, from its blocks of the two results … -/
theorem dst_in (c : Fin 2) (i : Fin 16) (fa : Buf (Elt F) (C.aLoc d)) (fg : Buf (Elt F) (C.gLoc d)) :
    iprop((bigSep Finset.univ fun j : Fin 8 => C.aLoc d ↦[setA C d (c, i, j)]{fullShare} fa)
        ∗ bigSep Finset.univ fun j : Fin 12 => C.gLoc d ↦[setG C d (c, i, j)]{fullShare} fg)
      ⊢ (bigSep Finset.univ fun j =>
          iprop(∃ f, ((C.parts (crd c i)).out j).view.loc (thrL d (crd c i)) ↦[((C.parts (crd c i)).out j).view.set]{fullShare} f) : sProp 𝕄) := by
  rw [bigSep_twenty]
  refine BIClass.sep_mono (bigSep_mono fun j _ => ?_) (bigSep_mono fun j _ => ?_)
  · rw [show (C.parts (crd c i)).out (Fin.castAdd 12 j) = _ from outK_A (crd c i) C.ma C.mg j]
    refine (show (_ : sProp 𝕄) ⊢ _ from ?_)
    iintro H; iexists fa; iexact H
  · rw [show (C.parts (crd c i)).out (Fin.natAdd 8 j) = _ from outK_G (crd c i) C.ma C.mg j]
    refine (show (_ : sProp 𝕄) ⊢ _ from ?_)
    iintro H; iexists fg; iexact H

/-- Two contents that read the same through a view agree on its elements. -/
theorem agree_of_read {κ : Kind} {sp : Space} {s : Shape} {e : EltTy} (v : View sig κ sp s e) (f g : v.ty.Contents (Elt F))
    (h : v.read (Elt F) f = v.read (Elt F) g) : ∀ y ∈ v.set, f y = g y := by
  intro y hy
  obtain ⟨x, -, rfl⟩ := Finset.mem_map.mp hy
  have hx := congrFun h x
  rw [View.read_apply, View.read_apply] at hx
  exact (cast_inj _).mp hx

/-- … and back, the blocks at the results' values. -/
theorem dst_out (c : Fin 2) (i : Fin 16) :
    (bigSep Finset.univ fun j => iprop(∃ f, ⌜((C.parts (crd c i)).out j).view.read (Elt F) f = pick li tv (crd c i) j⌝
        ∗ ((C.parts (crd c i)).out j).view.loc (thrL d (crd c i)) ↦[((C.parts (crd c i)).out j).view.set]{fullShare} f) : sProp 𝕄)
      ⊢ iprop((bigSep Finset.univ fun j : Fin 8 => C.aLoc d ↦[setA C d (c, i, j)]{fullShare} C.ha.unread (valA li tv))
        ∗ bigSep Finset.univ fun j : Fin 12 => C.gLoc d ↦[setG C d (c, i, j)]{fullShare} C.hg.unread (valG li tv)) := by
  rw [bigSep_twenty]
  refine BIClass.sep_mono (bigSep_mono fun j _ => ?_) (bigSep_mono fun j _ => ?_)
  · rw [show (C.parts (crd c i)).out (Fin.castAdd 12 j) = _ from outK_A (crd c i) C.ma C.mg j]
    refine (show (_ : sProp 𝕄) ⊢ _ from ?_)
    iintro ⟨%f, %hf, H⟩
    iapply (Entails.of_eq (pointsTo_congr (ℓ := C.aLoc d) (I := setA C d (c, i, j)) (q := fullShare) (f := f) (g := C.ha.unread (valA li tv))
      (agree_of_read (C.ma.view.slice (rA (crd c i) j)) f (C.ha.unread (valA li tv)) (hf.trans (funext fun x => by
        show _ = C.ma.view.read (Elt F) (C.ha.unread (valA li tv)) ((rA (crd c i) j).emb x)
        rw [C.ha.read_unread, valA_rA])))))
    iexact H
  · rw [show (C.parts (crd c i)).out (Fin.natAdd 8 j) = _ from outK_G (crd c i) C.ma C.mg j]
    refine (show (_ : sProp 𝕄) ⊢ _ from ?_)
    iintro ⟨%f, %hf, H⟩
    iapply (Entails.of_eq (pointsTo_congr (ℓ := C.gLoc d) (I := setG C d (c, i, j)) (q := fullShare) (f := f) (g := C.hg.unread (valG li tv))
      (agree_of_read (C.mg.view.slice (rG (crd c i) j)) f (C.hg.unread (valG li tv)) (hf.trans (funext fun x => by
        show _ = C.mg.view.read (Elt F) (C.hg.unread (valG li tv)) ((rG (crd c i) j).emb x)
        rw [C.hg.read_unread, valG_rG])))))
    iexact H

/-- The call's arrays dealt to its tiles … -/
theorem deal (fa : Buf (Elt F) (C.aLoc d)) (fg : Buf (Elt F) (C.gLoc d)) :
    iprop((C.iLoc d ↦{fullShare} C.hi.unread li) ∗ (C.tLoc d ↦{fullShare} C.ht.unread tv) ∗ (C.aLoc d ↦{fullShare} fa) ∗ (C.gLoc d ↦{fullShare} fg))
      ⊢ (iprop(Kept C d li tv ∗ bigSep Finset.univ fun c => bigSep Finset.univ fun i => TileIn C d li tv c i) : sProp 𝕄) := by
  unfold Kept TileIn
  rw [aPts_blocks, gPts_blocks]
  simp only [bigSep_sep']
  iintro ⟨Hi, Ht, Ha, Hg⟩
  ihave Hi := (read_shares _).1 $$ Hi
  ihave Ht := (read_shares _).1 $$ Ht
  icases Hi with ⟨Hi, His⟩
  icases Ht with ⟨Ht, Hts⟩
  isplitl [Hi Ht]
  · isplitl [Hi] <;> iassumption
  isplitl [His]; · iexact His
  isplitl [Hts]; · iexact Hts
  have h : iprop((bigSep Finset.univ fun c : Fin 2 => bigSep Finset.univ fun i : Fin 16 => bigSep Finset.univ fun j : Fin 8 => C.aLoc d ↦[setA C d (c, i, j)]{fullShare} fa)
      ∗ bigSep Finset.univ fun c : Fin 2 => bigSep Finset.univ fun i : Fin 16 => bigSep Finset.univ fun j : Fin 12 => C.gLoc d ↦[setG C d (c, i, j)]{fullShare} fg)
      ⊢ (bigSep Finset.univ fun c : Fin 2 => bigSep Finset.univ fun i : Fin 16 => bigSep Finset.univ fun j =>
          iprop(∃ f, ((C.parts (crd c i)).out j).view.loc (thrL d (crd c i)) ↦[((C.parts (crd c i)).out j).view.set]{fullShare} f) : sProp 𝕄) := by
    rw [← bigSep_sep']
    refine bigSep_mono fun c _ => ?_
    rw [← bigSep_sep']
    exact bigSep_mono fun i _ => dst_in C d c i fa fg
  iapply h
  isplitl [Ha] <;> iassumption

/-- … and back from them, the two results at their values. -/
theorem gathered :
    iprop(Kept C d li tv ∗ bigSep Finset.univ fun c => bigSep Finset.univ fun i => TileOut C d li tv c i)
      ⊢ (iprop((C.iLoc d ↦{fullShare} C.hi.unread li) ∗ (C.tLoc d ↦{fullShare} C.ht.unread tv)
          ∗ (C.aLoc d ↦{fullShare} C.ha.unread (valA li tv)) ∗ (C.gLoc d ↦{fullShare} C.hg.unread (valG li tv))) : sProp 𝕄) := by
  unfold Kept TileOut
  rw [aPts_blocks, gPts_blocks]
  simp only [bigSep_sep']
  have h : (bigSep Finset.univ fun c : Fin 2 => bigSep Finset.univ fun i : Fin 16 => bigSep Finset.univ fun j =>
          iprop(∃ f, ⌜((C.parts (crd c i)).out j).view.read (Elt F) f = pick li tv (crd c i) j⌝
            ∗ ((C.parts (crd c i)).out j).view.loc (thrL d (crd c i)) ↦[((C.parts (crd c i)).out j).view.set]{fullShare} f) : sProp 𝕄)
      ⊢ iprop((bigSep Finset.univ fun c : Fin 2 => bigSep Finset.univ fun i : Fin 16 => bigSep Finset.univ fun j : Fin 8 =>
            C.aLoc d ↦[setA C d (c, i, j)]{fullShare} C.ha.unread (valA li tv))
        ∗ bigSep Finset.univ fun c : Fin 2 => bigSep Finset.univ fun i : Fin 16 => bigSep Finset.univ fun j : Fin 12 =>
            C.gLoc d ↦[setG C d (c, i, j)]{fullShare} C.hg.unread (valG li tv)) := by
    rw [← bigSep_sep']
    refine bigSep_mono fun c _ => ?_
    rw [← bigSep_sep']
    exact bigSep_mono fun i _ => dst_out C d li tv c i
  iintro ⟨⟨Hi, Ht⟩, His, Hts, Ho⟩
  isplitl [Hi His]
  · iapply (read_shares _).2; isplitl [Hi] <;> iassumption
  isplitl [Ht Hts]
  · iapply (read_shares _).2; isplitl [Ht] <;> iassumption
  iapply h
  iexact Ho

end Deal

/-! ## A tile's run -/

section Run

variable {Ix : Type} [DecidableEq Ix] {U : Type} [URA U] [CountersIn U] {Lvl : Type} [Preorder Lvl]

local notation "𝕄" => MT nD τ sig Ix (Elt F) ℕ U Lvl

/-- What a call's proof asks of the tile's own buffers and semaphores: its scratch is among them, at rest. -/
def Call.Own (C : Call) (Ix : Type) [DecidableEq Ix] (U : Type) [URA U] (Lvl : Type) [Preorder Lvl] (F : FTy → Type) : Prop :=
  ∀ (d : Dev nD) (L : grid1.Coords), ∃ X : sProp (MT nD τ sig Ix (Elt F) ℕ U Lvl),
    iprop(SparseCore.Cfg.ownBufs (thrL d L) ∗ SparseCore.Cfg.ownSems0 (thrL d L))
      ⊣⊢ (iprop(Rest d (C.parts L) (cV L) (jV L) ∗ (bigSep Finset.univ fun j => semVal (thrL d L, SemLoc.dma ((C.parts L).vs j)) 0) ∗ X) : sProp (MT nD τ sig Ix (Elt F) ℕ U Lvl))

variable [FloatOps F] {defs : Defs nD τ sig (Elt F) Λ₀} (𝒱 : Variants) (bd : Option 𝒱.V)
variable (C : Call) (d : Dev nD) (ι : Ix) (O : CellTallies nD τ sig Ix) (W : Waits sig Ix)
variable (li : S32x20x128.Idx → Elt F .i32) (tv : STab.Idx → Elt F .f32)

/-- The printed body on tile `(c, i)`. -/
theorem tile_wp (hown : C.Own Ix U Lvl F) (hin : ∀ y, (li y).toNat < 4096)
    (hcr : ∀ b s', sig.dmaCredit .scVector (Kind.table .scVector .vmem) ((C.parts (crd 0 0)).buf b).view.buf s' .f32 = s'.numel * 32)
    (c : Fin 2) (i : Fin 16) :
    (iprop(Transfers.MayWaits (thrL d (crd c i)) ι O ∗ TileIn C d li tv c i
        ∗ SparseCore.Cfg.ownBufs (thrL d (crd c i)) ∗ SparseCore.Cfg.ownSems0 (thrL d (crd c i)) ∗ owes (thrL d (crd c i)) O W) : sProp 𝕄)
      ⊢ wp frame (wpE defs 𝒱 (thrL d (crd c i)) bd) Set.univ (tileProg (C.parts (crd c i)))
          fun _ => iprop(TileOut C d li tv c i ∗ SparseCore.Cfg.ownBufs (thrL d (crd c i)) ∗ SparseCore.Cfg.ownSems0 (thrL d (crd c i))
            ∗ ∃ W', ⌜∀ p ∈ W', p ∈ W ∨ p.2 = ι⌝ ∗ owes (thrL d (crd c i)) O W') := by
  obtain ⟨X, hX⟩ := hown d (crd c i)
  have hin' : ∀ y, (block li (crd c i) y).toNat < 4096 := fun _ => hin _
  unfold TileIn TileOut
  iintro ⟨#Hmw, ⟨Hi, Ht, Ho⟩, Hb, Hs, HO⟩
  ihave HR := hX.1 $$ [Hb Hs]
  · isplitl [Hb] <;> iassumption
  icases HR with ⟨HR, Hv, HX⟩
  have hq : ∀ _ : PUnit, iprop(X ∗ ((C.iLoc d ↦{shr c i} C.hi.unread li) ∗ (C.tLoc d ↦{shr c i} C.ht.unread tv)
            ∗ Rest d (C.parts (crd c i)) (cV (crd c i)) (jV (crd c i))
            ∗ (bigSep Finset.univ fun j => Got d (C.parts (crd c i)) (block li (crd c i)) tv hin' (cV (crd c i)) (jV (crd c i)) j)
            ∗ Owe d ι O W (cV (crd c i)) (jV (crd c i))))
      ⊢ (iprop(((C.iLoc d ↦{shr c i} C.hi.unread li) ∗ (C.tLoc d ↦{shr c i} C.ht.unread tv)
            ∗ bigSep Finset.univ fun j => iprop(∃ f, ⌜((C.parts (crd c i)).out j).view.read (Elt F) f = pick li tv (crd c i) j⌝
              ∗ ((C.parts (crd c i)).out j).view.loc (thrL d (crd c i)) ↦[((C.parts (crd c i)).out j).view.set]{fullShare} f))
          ∗ SparseCore.Cfg.ownBufs (thrL d (crd c i)) ∗ SparseCore.Cfg.ownSems0 (thrL d (crd c i))
            ∗ ∃ W', ⌜∀ p ∈ W', p ∈ W ∨ p.2 = ι⌝ ∗ owes (thrL d (crd c i)) O W') : sProp 𝕄) := by
    intro _
    unfold Got
    simp only [group_eq li hin tv]
    rw [bigSep_sep']
    iintro ⟨HX, Hi, Ht, HR, ⟨Ho, Hv⟩, HO⟩
    isplitl [Hi Ht Ho]
    · isplitl [Hi]; · iexact Hi
      isplitl [Ht]; · iexact Ht
      iexact Ho
    ihave H := hX.2 $$ [HR Hv HX]
    · isplitl [HR]; · iexact HR
      isplitl [Hv] <;> iassumption
    icases H with ⟨Hb, Hs⟩
    isplitl [Hb]; · iexact Hb
    isplitl [Hs]; · iexact Hs
    unfold Owe
    iexact HO
  iapply (wp_mono frame _ _ hq)
  iapply (wp_frame_l frame _ _)
  isplitl [HX]; · iexact HX
  iapply (tileProg_wp 𝒱 bd d ι O W (C.parts (crd c i)) (block li (crd c i)) tv hin' hcr (shr c i) (C.ht.unread tv) (read_tab C (crd c i) tv)
    (shr c i) Finset.univ (Finset.subset_univ _) (C.hi.unread li) (read_src C (crd c i) li))
  isplitr; · iexact Hmw
  isplitl [Hi]; · iexact Hi
  isplitl [Ht]; · iexact Ht
  isplitl [HR]; · iexact HR
  isplitr [HO]; swap; · iexact HO
  unfold Dst
  rw [bigSep_sep']
  isplitl [Ho] <;> iassumption

end Run

end Cert.Proof.Call

end
-- ==== Proof.Region.lean ====
/-
  A TensorCore call inside the program: from the buffers' contents before it to their contents after it, with the
  SparseCore calls' handshakes carried past.
-/
module

public import proofs.«01_k».proof.KernelIdeal
public import Idealize.ShloMosaic.Lib.SparseCore.Quiescent
public import Idealize.ShloMosaic.Lib.StableHlo.Run
public import Idealize.ShloMosaic.Lib.Pipeline.RegionsLoop
public import Idealize.ShloMosaic.Lib.Pipeline.FrameSuffix
public import Idealize.ShloMosaic.Lib.Pipeline.FrameBody
public import proofs.«01_k».proof.Proof.Gen.KernelIdeal.Launch

@[expose] public section

noncomputable section

namespace Cert.Proof.Region

open Cert.KernelIdeal Cert.KernelIdeal.Gen
open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat ucRefs unscopedBufs_held BodyObligation)

variable {F : FTy → Type}

/-! ## The program as the launch theorem sees it -/

abbrev NQ : ℕ := 4
abbrev ΛP : Labels := Pipeline.Sig Λ₀ (Fin 10) fun p => (pcfgs (F := F) p).Adm
abbrev K : SparseCore.Cfg τ sig (ΛP (F := F)) NQ := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UT : Type := URounds (GSem nD τ sig) Unit
abbrev UU : Type := UH × (UT × Counters)

local notation "𝕄" => MT nD τ sig (HIx NQ) (Elt F) ℕ UU ℕ

/-- The handshakes' ghost state, and the TensorCore pipelines'. -/
abbrev EH : Emb UH (MT nD τ sig (HIx NQ) (Elt F) ℕ UU ℕ) := embL
abbrev ET : Emb UT (MT nD τ sig (HIx NQ) (Elt F) ℕ UU ℕ) := (Emb.inl : Emb UT (UT × Counters)).trans embR

/-- No pipeline has a prefetched table. -/
abbrev adm : (p : Fin 10) → (pcfgs (F := F) p).Adm := fun p => (cfgs p).toPCfg_adm

theorem launch : ∀ p, Pipeline.LaunchFacts (nD := nD) (τ := τ) (Pipeline.pin (pcfgs (F := F)) adm) p
  | 0 => launch0 | 1 => launch2 | 2 => launch3 | 3 => launch5 | 4 => launch6
  | 5 => launch8 | 6 => launch9 | 7 => launch11 | 8 => launch12 | 9 => launch13

/-! ## The proof data of a call -/

/-- A call's outputs, block by block, from what the device's buffers hold at its entry. -/
abbrev Outs : Type := (p : Fin 10) → Valuation τ sig (Elt F) →
  (w : Fin (Pipeline.pin (pcfgs (F := F)) adm p).W) → Fin (Pipeline.pin (pcfgs (F := F)) adm p).N →
    ((Pipeline.pin (pcfgs (F := F)) adm p).win w).block.Idx → Elt F ((Pipeline.pin (pcfgs (F := F)) adm p).win w).elt

variable (out : Outs (F := F))

/-- The pairs the SparseCore calls' waits may have recorded before call `n`. -/
def recd (c : Dev nD) (n : ℕ) : Set (SemLoc sig × HIx NQ) := {p | (K (F := F)).lev (T c, p.1) p.2 ≤ 8 * n}

def dat (n : ℕ) (V : Valuation τ sig (Elt F)) (p : Fin 10) (c : Dev nD) :
    Dat τ (Elt F) (HIx NQ) ℕ UU ℕ (Pipeline.pin (pcfgs (F := F)) adm p) c where
  A w := V (Proc.devRef .tc (Pipeline.arrRef (Pipeline.pin (pcfgs (F := F)) adm p).spec w))
  after w t := out p V w t
  Φ _ := iprop(Pipeline.scopedRest (Ix := HIx NQ) (Name := ℕ) (U := UU) (Lvl := ℕ) (Val := Elt F) (Pipeline.pin (pcfgs (F := F)) adm p).spec c ∗ ∃ r, prngReg c r)
  q _ := fullShare
  owed _ := (K (F := F)).Otc c n
  recorded _ := recd (F := F) c n

/-- What the device's buffers hold after the call. -/
def regionV (n : ℕ) (p : Fin 10) (c : Dev nD) (V : Valuation τ sig (Elt F)) : Valuation τ sig (Elt F) :=
  Pipeline.withArrays (Pipeline.pin (pcfgs (F := F)) adm p).spec c V fun w => (dat out n V p c).arrAt w (Pipeline.pin (pcfgs (F := F)) adm p).N

theorem regionV_arr (n : ℕ) (p : Fin 10) (c : Dev nD) (V : Valuation τ sig (Elt F)) (w : Fin (Pipeline.pin (pcfgs (F := F)) adm p).W) :
    regionV out n p c V (Proc.devRef .tc (Pipeline.arrRef (Pipeline.pin (pcfgs (F := F)) adm p).spec w))
      = (dat out n V p c).arrAt w (Pipeline.pin (pcfgs (F := F)) adm p).N := by
  unfold regionV; exact Pipeline.withArrays_arr _ (launch p).win.arr_inj c _ _ w

theorem regionV_of_ne (n : ℕ) (p : Fin 10) (c : Dev nD) (V : Valuation τ sig (Elt F)) (b : Ref sig .tc)
    (h : ∀ w, Pipeline.arrRef (Pipeline.pin (pcfgs (F := F)) adm p).spec w ≠ b) :
    regionV out n p c V (Proc.devRef .tc b) = V (Proc.devRef .tc b) := by
  unfold regionV; exact Pipeline.withArrays_of_ne _ c _ _ b h

theorem otc_none (c : Dev nD) (n : ℕ) (g : GSem nD τ sig) : (K (F := F)).Otc c n g (none : HIx NQ) = 0 := by
  by_contra h
  have := SparseCore.Cfg.lev_of_Otc_pos (K := K (F := F)) (N := NQ) (Nat.pos_of_ne_zero h)
  rw [SparseCore.Cfg.lev_none] at this; omega

variable [FloatOps F]

/-- What rides beside the buffers: the generator register, and what the TensorCore still owes the SparseCores. -/
abbrev Ride (c : Dev nD) (n : ℕ) : sProp 𝕄 :=
  iprop((∃ r, prngReg c r) ∗ ∃ W, ⌜(K (F := F)).WBelow (T c) W (8 * n)⌝ ∗ owes (T c) ((K (F := F)).Otc c n) W)

set_option backward.isDefEq.respectTransparency.types false in
/-- The call as a step from the buffers at `V` to the buffers at `regionV`. -/
def seg (n : ℕ) (V : Valuation τ sig (Elt F)) (p : Fin 10) (hbody : ∀ c, BodyObligation (dat out n V p c) (defs₀ (F := F)) 𝒱₀ none Set.univ) :
    Pipeline.RegionSeg (pcfgs (F := F)) adm (dat out n V) (none : HIx NQ) defs₀ 𝒱₀ (K (F := F)).L (K (F := F)).lev p where
  win := (launch (F := F) p).win.to₀
  block_pos := (launch (F := F) p).block_pos
  stage_whole := (launch (F := F) p).stage_whole
  K := PEmpty
  osem k := k.elim
  ho := Pipeline.OwnSemFacts.none _
  hbody c := (hbody c).loose
  hwaits c := Pipeline.PerCore.cellsWaits_intro _ _ _ p c fun w s t => (K (F := F)).mayWait_none _ fun g => otc_none c n g
  pre c := iprop(held (c.tc : Thread nD τ) (ucRefs τ sig) V ∗ Ride (F := F) c n)
  post c := iprop(held (c.tc : Thread nD τ) (ucRefs τ sig) (regionV out n p c V) ∗ Ride (F := F) c n)
  X c := iprop(∃ r, prngReg c r)
  Y c := iprop(∃ r, prngReg c r)
  Z c := Pipeline.unscopedRest (Ix := HIx NQ) (Name := ℕ) (U := UU) (Lvl := ℕ) (Pipeline.pin (pcfgs (F := F)) adm p).spec c fun b => V (Proc.devRef .tc b)
  hentry c := by
    rw [Pipeline.ownSems0_none]
    have hsplit := Pipeline.arrays_of_unscopedBufs (p := p) (pcfgs (F := F)) adm (dat out n V) (launch p).win (launch p).arr_whole c
      ((dat out n V p c).share_full fun _ => rfl) (fun b => V (Proc.devRef .tc b)) (fun _ => rfl)
    rw [unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun q hq => Or.inl (hW q hq)
      iexact HO
    isplitl [Hp]; · iexact Hp
    iexact Hrest
  hin c := by
    show _ ⊢ iprop(Pipeline.scopedRest _ c ∗ ∃ r, prngReg c r)
    iintro ⟨Hp, -, Hr⟩
    isplitl [Hr]; · iexact Hr
    iexact Hp
  hout c := by
    rw [Pipeline.ownSems0_none]
    show iprop(Pipeline.scopedRest _ c ∗ ∃ r, prngReg c r) ⊢ _
    iintro ⟨Hr, Hp⟩
    isplitl [Hp]; · iexact Hp
    isplitr; · iempintro
    iexact Hr
  hexit c := by
    have hjoin := Pipeline.unscopedBufs_of_arrays (p := p) (pcfgs (F := F)) adm (Ix := HIx NQ) (Name := ℕ) (U := UU) (Lvl := ℕ)
      (launch p).win (launch p).arr_whole c (dat out n V) ((dat out n V p c).share_full fun _ => rfl)
      (fun b => V (Proc.devRef .tc b)) (fun b => regionV out n p c V (Proc.devRef .tc b)) ((dat out n V p c).arrAt · (Pipeline.pin (pcfgs (F := F)) adm p).N)
      (fun w => (regionV_arr out n p c V w).symm)
      (fun b hb => regionV_of_ne out n p c V b fun w e => hb (Finset.mem_image.mpr ⟨w, Finset.mem_univ _, e⟩))
    rw [unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro; intro q hq
      rcases hW hq with h | ⟨w, s, e⟩
      · exact h
      · rw [e]; exact Nat.zero_le _
    iexact HO

variable {P : (K (F := F)).Pay (nD := nD) (Val := Elt F) (Name := ℕ) (U := UU)} [P.IsStorable]

/-- @main's step at a TensorCore call. -/
theorem wp_region (κ : GSem nD τ sig → ℕ) (d : Dev nD) (n : ℕ) (V : Valuation τ sig (Elt F)) (p : Fin 10)
    (hbody : ∀ c, BodyObligation (dat out n V p c) (defs₀ (F := F)) 𝒱₀ none Set.univ) (Φ : PUnit → sProp 𝕄) :
    iprop((K (F := F)).ctx EH P κ ∗ (K (F := F)).tcSt EH d n ∗ (boundary (T d) ∗ held (d.tc : Thread nD τ) (ucRefs τ sig) V ∗ ∃ r, prngReg d r)
        ∗ (Pipeline.cellsGhost (Pipeline.pin (pcfgs (F := F)) adm) ET p d ∗ Pipeline.toksInit (Pipeline.pin (pcfgs (F := F)) adm) ET p d)
        ∗ (((K (F := F)).tcSt EH d n ∗ boundary (T d) ∗ held (d.tc : Thread nD τ) (ucRefs τ sig) (regionV out n p d V) ∗ ∃ r, prngReg d r) -∗ Φ ⟨⟩))
      ⊢ wp frame (wpE ((K (F := F)).defs (D (F := F))) 𝒱 (T d) none) Set.univ
          (Prog.lift (.customCall (SparseCore.inner (Pipeline.entry p)) ())) Φ := by
  refine BI.Entails.trans ?_ ((K (F := F)).wp_liftProg (D (F := F)) 𝒱 (T d) Set.univ none (.op (.customCall (Pipeline.entry p) ()) .ret) Φ)
  refine BI.Entails.trans ?_ ((seg out n V p hbody).wp _ adm _ _ cellOf_inj ET _ _ _ _ d none (fun _ h => nomatch h) .ret Φ)
  show (_ : sProp 𝕄) ⊢ (_ : sProp 𝕄)
  unfold SparseCore.Cfg.tcSt
  iintro ⟨#Hctx, ⟨HO, Hst⟩, ⟨Hb, Hh, Hp⟩, ⟨Hc, Ht⟩, HΦ⟩
  ihave Hlv := (SparseCore.Cfg.ctx_levAts (K := K (F := F)) (EH := EH) (P := P) κ) $$ Hctx
  isplitl [HΦ Hst]
  · rw [show (seg out n V p hbody).post d = iprop(held (d.tc : Thread nD τ) (ucRefs τ sig) (regionV out n p d V) ∗ Ride (F := F) d n) from rfl]
    iintro ⟨Hb, Hh, Hp, HO⟩
    rw [wp_ret]
    imodintro
    iapply HΦ
    isplitl [Hst HO]
    · isplitl [HO] <;> iassumption
    isplitl [Hb]; · iexact Hb
    isplitl [Hh]; · iexact Hh
    iexact Hp
  isplitl [Hb]; · iexact Hb
  isplitl [Hh Hp HO]
  · rw [show (seg out n V p hbody).pre d = iprop(held (d.tc : Thread nD τ) (ucRefs τ sig) V ∗ Ride (F := F) d n) from rfl]
    isplitl [Hh]; · iexact Hh
    isplitl [Hp]; · iexact Hp
    iexact HO
  isplitr; · iexact Hlv
  isplitl [Hc] <;> iassumption

end Cert.Proof.Region

end
-- ==== Proof.Launch.lean ====
/-
  The program's launch: what the SparseCore call's handshakes carry, each tile's obligation, and the program's run with
  every array's final contents.
-/
module

public import proofs.«01_k».proof.Proof.Call
public import proofs.«01_k».proof.Proof.Region
public import Idealize.ShloMosaic.Lib.SparseCore.Quiescent
public import Idealize.ShloMosaic.Lib.StableHlo.Run

@[expose] public section

noncomputable section

namespace Cert.Proof.Launch

open Cert.KernelIdeal Cert.KernelIdeal.Gen Cert.Proof.Tile Cert.Proof.Call Cert.Proof.Region
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_seq after launchContents)
open Idealize.ShloMosaic.Pipeline (ucRefs unscopedBufs_held)

variable {F : FTy → Type}

/-! ## The program as the launch theorem sees it -/

theorem nCore_eq : ∀ q : Fin NQ, (K (F := F)).nCore q = 2 | 0 => rfl | 1 => rfl | 2 => rfl | 3 => rfl
theorem nSub_eq : ∀ q : Fin NQ, (K (F := F)).nSub q = 16 | 0 => rfl | 1 => rfl | 2 => rfl | 3 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx NQ) (Elt F) ℕ UU ℕ

/-! ## The calls -/

/-- The SparseCore calls of the program. -/
noncomputable def calls : Fin NQ → Call
  | 0 =>
    { mi := Memref.whole main_v12_scv, hi := Memref.isWhole_whole _, mt := Memref.whole main_v15_1_scv, ht := Memref.isWhole_whole _
      ma := Memref.whole main_v33_0_scv, ha := Memref.isWhole_whole _, mg := Memref.whole main_v33_1_scv, hg := Memref.isWhole_whole _
      idx := Memref.whole cc1_scratch0, hidx := Memref.isWhole_whole _, b0 := Memref.whole cc1_scratch1, hb0 := Memref.isWhole_whole _
      b1 := Memref.whole cc1_scratch2, hb1 := Memref.isWhole_whole _, s0 := cc1_scratch3, s1 := cc1_scratch4, fs := cc1_scoped0
      vs := ![cc1_scoped1, cc1_scoped2, cc1_scoped3, cc1_scoped4, cc1_scoped5, cc1_scoped6, cc1_scoped7, cc1_scoped8, cc1_scoped9, cc1_scoped10,
        cc1_scoped11, cc1_scoped12, cc1_scoped13, cc1_scoped14, cc1_scoped15, cc1_scoped16, cc1_scoped17, cc1_scoped18, cc1_scoped19, cc1_scoped20] }
  | 1 =>
    { mi := Memref.whole main_v12_scv, hi := Memref.isWhole_whole _, mt := Memref.whole main_v38_1_scv, ht := Memref.isWhole_whole _
      ma := Memref.whole main_v56_0_scv, ha := Memref.isWhole_whole _, mg := Memref.whole main_v56_1_scv, hg := Memref.isWhole_whole _
      idx := Memref.whole cc4_scratch0, hidx := Memref.isWhole_whole _, b0 := Memref.whole cc4_scratch1, hb0 := Memref.isWhole_whole _
      b1 := Memref.whole cc4_scratch2, hb1 := Memref.isWhole_whole _, s0 := cc4_scratch3, s1 := cc4_scratch4, fs := cc4_scoped0
      vs := ![cc4_scoped1, cc4_scoped2, cc4_scoped3, cc4_scoped4, cc4_scoped5, cc4_scoped6, cc4_scoped7, cc4_scoped8, cc4_scoped9, cc4_scoped10,
        cc4_scoped11, cc4_scoped12, cc4_scoped13, cc4_scoped14, cc4_scoped15, cc4_scoped16, cc4_scoped17, cc4_scoped18, cc4_scoped19, cc4_scoped20] }
  | 2 =>
    { mi := Memref.whole main_v12_scv, hi := Memref.isWhole_whole _, mt := Memref.whole main_v61_1_scv, ht := Memref.isWhole_whole _
      ma := Memref.whole main_v79_0_scv, ha := Memref.isWhole_whole _, mg := Memref.whole main_v79_1_scv, hg := Memref.isWhole_whole _
      idx := Memref.whole cc7_scratch0, hidx := Memref.isWhole_whole _, b0 := Memref.whole cc7_scratch1, hb0 := Memref.isWhole_whole _
      b1 := Memref.whole cc7_scratch2, hb1 := Memref.isWhole_whole _, s0 := cc7_scratch3, s1 := cc7_scratch4, fs := cc7_scoped0
      vs := ![cc7_scoped1, cc7_scoped2, cc7_scoped3, cc7_scoped4, cc7_scoped5, cc7_scoped6, cc7_scoped7, cc7_scoped8, cc7_scoped9, cc7_scoped10,
        cc7_scoped11, cc7_scoped12, cc7_scoped13, cc7_scoped14, cc7_scoped15, cc7_scoped16, cc7_scoped17, cc7_scoped18, cc7_scoped19, cc7_scoped20] }
  | 3 =>
    { mi := Memref.whole main_v12_scv, hi := Memref.isWhole_whole _, mt := Memref.whole main_v84_1_scv, ht := Memref.isWhole_whole _
      ma := Memref.whole main_v102_0_scv, ha := Memref.isWhole_whole _, mg := Memref.whole main_v102_1_scv, hg := Memref.isWhole_whole _
      idx := Memref.whole cc10_scratch0, hidx := Memref.isWhole_whole _, b0 := Memref.whole cc10_scratch1, hb0 := Memref.isWhole_whole _
      b1 := Memref.whole cc10_scratch2, hb1 := Memref.isWhole_whole _, s0 := cc10_scratch3, s1 := cc10_scratch4, fs := cc10_scoped0
      vs := ![cc10_scoped1, cc10_scoped2, cc10_scoped3, cc10_scoped4, cc10_scoped5, cc10_scoped6, cc10_scoped7, cc10_scoped8, cc10_scoped9, cc10_scoped10,
        cc10_scoped11, cc10_scoped12, cc10_scoped13, cc10_scoped14, cc10_scoped15, cc10_scoped16, cc10_scoped17, cc10_scoped18, cc10_scoped19, cc10_scoped20] }

/-- Members of a family of cells of a thread's own, split off its own semaphores. -/
theorem ownSems0_split {I : Type} [Fintype I] (thr : Thread nD τ) (g : I → SemLoc sig) (hinj : Function.Injective g)
    (hsc : ∀ i, (g i).isScoped thr.2.kind = true) :
    ∃ X : sProp 𝕄, (ownSems0 thr : sProp 𝕄) = iprop((bigSep Finset.univ fun i => semVal (thr, g i) 0) ∗ X) := by
  classical
  let e : I ↪ GSem nD τ sig := ⟨fun i => (thr, g i), fun i j h => hinj (Prod.ext_iff.mp h).2⟩
  have hs : Finset.univ.map e ⊆ ownCells thr := by
    intro x hx
    obtain ⟨i, -, rfl⟩ := Finset.mem_map.mp hx
    exact mem_ownCells.mpr ⟨rfl, hsc i⟩
  refine ⟨bigSep (ownCells thr \ Finset.univ.map e) fun g => semVal g 0, ?_⟩
  unfold SparseCore.Cfg.ownSems0
  rw [bigSep_sdiff_split hs, bigSep_map]
  rfl

/-- Members of a family of buffers of a processor's own, split off its own buffers. -/
theorem ownBufs_split {I : Type} [Fintype I] (thr : Thread nD τ) (r : I → Ref sig thr.2.kind) (hinj : Function.Injective r)
    (how : ∀ i, (thr.2.devRef (r i)).owner = .proc thr.2) :
    ∃ X : sProp 𝕄, (ownBufs thr : sProp 𝕄) = iprop((bigSep Finset.univ fun i => iprop(∃ f, thr.loc (r i) ↦{fullShare} f)) ∗ X) := by
  classical
  let e : I ↪ DevRef τ sig := ⟨fun i => thr.2.devRef (r i), fun i j h => hinj (Proc.devRef_injective _ h)⟩
  have hs : Finset.univ.map e ⊆ ownRefs thr.2 := by
    intro x hx
    obtain ⟨i, -, rfl⟩ := Finset.mem_map.mp hx
    exact SparseCore.Cfg.mem_ownRefs_of_owner (how i)
  refine ⟨bigSep (ownRefs thr.2 \ Finset.univ.map e) fun b => iprop(∃ f, ((thr.1, b) : Loc nD τ sig) ↦{fullShare} f), ?_⟩
  unfold SparseCore.Cfg.ownBufs
  rw [bigSep_sdiff_split hs, bigSep_map]
  rfl

/-- A call's twenty-three semaphores. -/
abbrev cells (C : Call) : Fin 3 ⊕ Fin 20 → SemLoc sig := Sum.elim ![.dma C.s0.sem, .dma C.s1.sem, .dma C.fs.sem] fun j => .dma (C.vs j).sem
/-- A call's three scratch buffers. -/
abbrev bufs (C : Call) : Fin 3 → Ref sig .scVector := ![C.idx.view.ref, C.b0.view.ref, C.b1.view.ref]

theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem own_of (C : Call) (hc : Function.Injective (cells C)) (hs : ∀ i, (cells C i).isScoped .scVector = true) (hb : Function.Injective (bufs C))
    (ho : ∀ (c : Fin τ.nSC) (i : Fin τ.nSub) k, ((Proc.scVector c i).devRef (bufs C k)).owner = .proc (.scVector c i)) :
    C.Own (HIx NQ) UU ℕ F := by
  intro d L
  obtain ⟨X, hX⟩ := ownSems0_split (F := F) (thrL d L) (cells C) hc hs
  obtain ⟨Y, hY⟩ := ownBufs_split (F := F) (thrL d L) (bufs C) hb (ho _ _)
  refine ⟨iprop(X ∗ Y), ?_⟩
  have hX' : (ownSems0 (thrL d L) : sProp 𝕄) = iprop(((semVal (thrL d L, SemLoc.dma C.s0.sem) 0 ∗ semVal (thrL d L, SemLoc.dma C.s1.sem) 0 ∗ semVal (thrL d L, SemLoc.dma C.fs.sem) 0)
      ∗ bigSep Finset.univ fun j : Fin 20 => semVal (thrL d L, SemLoc.dma (C.vs j).sem) 0) ∗ X) := by
    rw [hX, bigSep_univ_sum, bigSep_three]; rfl
  rw [hX', hY, bigSep_three]
  unfold Rest Any
  constructor
  · iintro ⟨⟨⟨Hi, Ha, Hb⟩, HY⟩, ⟨⟨H0, H1, H2⟩, Hv⟩, HX⟩
    isplitl [Hi Ha Hb H0 H1 H2]
    · isplitl [Hi]; · iexact Hi
      isplitl [Ha]; · iexact Ha
      isplitl [Hb]; · iexact Hb
      isplitl [H0]; · iexact H0
      isplitl [H1]; · iexact H1
      iexact H2
    isplitl [Hv]; · iexact Hv
    isplitl [HX] <;> iassumption
  · iintro ⟨⟨Hi, Ha, Hb, H0, H1, H2⟩, Hv, HX, HY⟩
    isplitl [Hi Ha Hb HY]
    · isplitr [HY]; swap; · iexact HY
      isplitl [Hi]; · iexact Hi
      isplitl [Ha]; · iexact Ha
      iexact Hb
    isplitr [HX]; swap; · iexact HX
    isplitr [Hv]; swap; · iexact Hv
    isplitl [H0]; · iexact H0
    isplitl [H1]; · iexact H1
    iexact H2

theorem own : ∀ q, (calls q).Own (HIx NQ) UU ℕ F
  | 0 => own_of _ (by decide) (by decide) (by decide) (fun _ _ k => match k with | 0 => rfl | 1 => rfl | 2 => rfl)
  | 1 => own_of _ (by decide) (by decide) (by decide) (fun _ _ k => match k with | 0 => rfl | 1 => rfl | 2 => rfl)
  | 2 => own_of _ (by decide) (by decide) (by decide) (fun _ _ k => match k with | 0 => rfl | 1 => rfl | 2 => rfl)
  | 3 => own_of _ (by decide) (by decide) (by decide) (fun _ _ k => match k with | 0 => rfl | 1 => rfl | 2 => rfl)

/-! ## What the handshakes carry -/

section Pay

variable (li : Fin NQ → Dev nD → S32x20x128.Idx → Elt F .i32) (tv : Fin NQ → Dev nD → STab.Idx → Elt F .f32)

/-- Each call takes its list, its table and its results' arrays, dealt to the tiles; they bring the results back. -/
def P : (K (F := F)).Pay (nD := nD) (Val := Elt F) (Name := ℕ) (U := UU) where
  st := fun q d c => bigSep Finset.univ fun i => TileIn (calls q) d (li q d) (tv q d) (Fin.cast (nCore_eq q) c) i
  dn := fun q d c => bigSep Finset.univ fun i => TileOut (calls q) d (li q d) (tv q d) (Fin.cast (nCore_eq q) c) i
  go := fun q d c i => TileIn (calls q) d (li q d) (tv q d) (Fin.cast (nCore_eq q) c) (Fin.cast (nSub_eq q) i)
  td := fun q d c i => TileOut (calls q) d (li q d) (tv q d) (Fin.cast (nCore_eq q) c) (Fin.cast (nSub_eq q) i)
  x := fun _ _ => iprop(emp)

instance TileIn_storable (C : Call) (d : Dev nD) (l : S32x20x128.Idx → Elt F .i32) (t : STab.Idx → Elt F .f32) (c : Fin 2) (i : Fin 16) :
    BI.Storable (upEmb : UEmb _ 𝕄) (TileIn C d l t c i) := by unfold TileIn; infer_instance
instance TileOut_storable (C : Call) (d : Dev nD) (l : S32x20x128.Idx → Elt F .i32) (t : STab.Idx → Elt F .f32) (c : Fin 2) (i : Fin 16) :
    BI.Storable (upEmb : UEmb _ 𝕄) (TileOut C d l t c i) := by unfold TileOut; infer_instance

instance P_storable : (P li tv).IsStorable where
  st q d c := (inferInstance : BI.Storable (upEmb : UEmb _ 𝕄) (bigSep Finset.univ fun i => TileIn (calls q) d (li q d) (tv q d) (Fin.cast (nCore_eq q) c) i))
  dn q d c := (inferInstance : BI.Storable (upEmb : UEmb _ 𝕄) (bigSep Finset.univ fun i => TileOut (calls q) d (li q d) (tv q d) (Fin.cast (nCore_eq q) c) i))
  go q d c i := (inferInstance : BI.Storable (upEmb : UEmb _ 𝕄) (TileIn (calls q) d (li q d) (tv q d) (Fin.cast (nCore_eq q) c) (Fin.cast (nSub_eq q) i)))
  td q d c i := (inferInstance : BI.Storable (upEmb : UEmb _ 𝕄) (TileOut (calls q) d (li q d) (tv q d) (Fin.cast (nCore_eq q) c) (Fin.cast (nSub_eq q) i)))

theorem vecSplit (q : Fin NQ) : (K (F := F)).VecSplit' (P li tv) q := by
  intro d c
  have h (Φ : Fin 16 → sProp 𝕄) : (bigSep Finset.univ fun i : Fin ((K (F := F)).nSub q) => Φ (Fin.cast (nSub_eq q) i)) = bigSep Finset.univ Φ :=
    (bigSep_univ_equiv (finCongr (nSub_eq q)) Φ).symm
  show (bigSep Finset.univ fun i => TileIn (calls q) d (li q d) (tv q d) (Fin.cast (nCore_eq q) c) i) ⊢ |={Set.univ}=> iprop(
      (bigSep Finset.univ fun i : Fin ((K (F := F)).nSub q) => TileIn (calls q) d (li q d) (tv q d) (Fin.cast (nCore_eq q) c) (Fin.cast (nSub_eq q) i))
      ∗ ((bigSep Finset.univ fun i : Fin ((K (F := F)).nSub q) => TileOut (calls q) d (li q d) (tv q d) (Fin.cast (nCore_eq q) c) (Fin.cast (nSub_eq q) i))
          -∗ (bigSep Finset.univ fun i => TileOut (calls q) d (li q d) (tv q d) (Fin.cast (nCore_eq q) c) i)))
  rw [h (fun i => TileIn (calls q) d (li q d) (tv q d) (Fin.cast (nCore_eq q) c) i), h (fun i => TileOut (calls q) d (li q d) (tv q d) (Fin.cast (nCore_eq q) c) i)]
  iintro H; imodintro
  isplitl [H]; · iexact H
  iintro H'; iexact H'

/-! ## The tiles' obligations -/

variable [FloatOps F]

theorem obl_post {thr : Thread nD τ} {A B C : sProp 𝕄} {O : CellTallies nD τ sig (HIx NQ)} {W : Waits sig (HIx NQ)} {q : Fin NQ} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

/-- A tile's run, from what the launch hands it. -/
theorem tile_obl (C : Call) (hown : C.Own (HIx NQ) UU ℕ F)
    (hcr : ∀ b s', sig.dmaCredit .scVector (Kind.table .scVector .vmem) ((C.parts (crd 0 0)).buf b).view.buf s' .f32 = s'.numel * 32)
    (d : Dev nD) (l : S32x20x128.Idx → Elt F .i32) (t : STab.Idx → Elt F .f32) (hin : ∀ y, (l y).toNat < 4096) (c : Fin 2) (i : Fin 16)
    (O : CellTallies nD τ sig (HIx NQ)) (W : Waits sig (HIx NQ)) (hO : ∀ g, O g none = 0) :
    (iprop(levAts (K (F := F)).L (K (F := F)).lev ∗ emp ∗ TileIn C d l t c i ∗ scopedBufs (thrL d (crd c i)) ∗ scopedSems0 (thrL d (crd c i)) ∗ owes (thrL d (crd c i)) O W) : sProp 𝕄)
      ⊢ wp frame (wpE (defs₀ (F := F)) 𝒱₀ (thrL d (crd c i)) none) Set.univ (tileProg (C.parts (crd c i)))
          fun _ => iprop(TileOut C d l t c i ∗ scopedBufs (thrL d (crd c i)) ∗ scopedSems0 (thrL d (crd c i))
            ∗ ∃ W', ⌜∀ p ∈ W', p ∈ W ∨ p.2 = none⌝ ∗ owes (thrL d (crd c i)) O W') := by
  rw [(K (F := F)).scopedBufs_V facts d (cV (crd c i)) (jV (crd c i)), SparseCore.Cfg.scopedSems0_V (Val := Elt F) d (cV (crd c i)) (jV (crd c i))]
  iintro ⟨#Hlv, -, HI, Hb, Hs, HO⟩
  ihave Hmw := (show levAts (K (F := F)).L (K (F := F)).lev ⊢ Transfers.MayWaits (thrL d (crd c i)) (none : HIx NQ) O from
    (K (F := F)).mayWaits_none (thr := thrL d (crd c i)) hO) $$ Hlv
  iapply (tile_wp 𝒱₀ none C d none O W l t hown hin hcr c i)
  isplitl [Hmw]; · iexact Hmw
  iframe HI Hb Hs HO

theorem coords_eq (c : Fin 2) (i : Fin 16) : (fun | 0 => c | 1 => i | ⟨_ + 2, h⟩ => absurd h (Nat.not_lt.2 (Nat.le_add_left _ _)) : grid1.Coords) = crd c i := rfl

theorem dmaCredit_ok : ∀ q (b : Fin 2) s', sig.dmaCredit .scVector (Kind.table .scVector .vmem) (((calls q).parts (crd 0 0)).buf b).view.buf s' .f32 = s'.numel * 32
  | 0, 0, _ => rfl
  | 0, 1, _ => rfl
  | 1, 0, _ => rfl
  | 1, 1, _ => rfl
  | 2, 0, _ => rfl
  | 2, 1, _ => rfl
  | 3, 0, _ => rfl
  | 3, 1, _ => rfl

/-- Every word of a call's list names a row of its table. -/
def ListOK : Prop := ∀ q d y, (li q d y).toNat < 4096

theorem tile_core (hin : ListOK li) (q : Fin NQ) (d : Dev nD) (c : Fin ((K (F := F)).nCore q)) (i : Fin ((K (F := F)).nSub q))
    (O : CellTallies nD τ sig (HIx NQ)) (W : Waits sig (HIx NQ)) (hO : ∀ g, O g none = 0) :
    iprop(levAts (K (F := F)).L (K (F := F)).lev ∗ (P li tv).x q (V d ((K (F := F)).core q c) ((K (F := F)).sub q i)) ∗ (P li tv).go q d c i
        ∗ scopedBufs (V d ((K (F := F)).core q c) ((K (F := F)).sub q i)) ∗ scopedSems0 (V d ((K (F := F)).core q c) ((K (F := F)).sub q i))
        ∗ owes (V d ((K (F := F)).core q c) ((K (F := F)).sub q i)) O W)
      ⊢ wp frame (wpE (D (F := F)) 𝒱 (V d ((K (F := F)).core q c) ((K (F := F)).sub q i)) (some v₀)) Set.univ
          (Pipeline.liftProg (SparseCore.onTile hcore1 hsub1 (fun c s => tileProg (F := F) (Λ := Λ₀) (nD := nD) ((calls q).parts (crd c s))) ⟨⟩ ((K (F := F)).core q c) ((K (F := F)).sub q i)))
          fun _ => iprop((P li tv).td q d c i ∗ scopedBufs (V d ((K (F := F)).core q c) ((K (F := F)).sub q i)) ∗ scopedSems0 (V d ((K (F := F)).core q c) ((K (F := F)).sub q i))
            ∗ ∃ W', ⌜∀ p ∈ W', p ∈ W ∨ p.2 = none ∨ p.2 = some q⌝ ∗ owes (V d ((K (F := F)).core q c) ((K (F := F)).sub q i)) O W') := by
  have hci : ((K (F := F)).core q c).val < grid1.bound 0 ∧ ((K (F := F)).sub q i).val < grid1.bound 1 :=
    ⟨c.isLt.trans_eq (nCore_eq q), i.isLt.trans_eq (nSub_eq q)⟩
  refine BI.Entails.trans ?_ (Pipeline.wp_liftProg (D (F := F)) (Pipeline.defs_kernel pcfgs defs₀) 𝒱₀ _ Set.univ none _ _)
  simp only [SparseCore.onTile, hci, _root_.and_self, ↓reduceDIte]
  exact (tile_obl (calls q) (own q) (dmaCredit_ok q) d (li q d) (tv q d) (hin q d) (Fin.cast (nCore_eq q) c) (Fin.cast (nSub_eq q) i) O W hO).trans
    (wp_mono frame _ _ fun _ => obl_post)

/-- Each call's body is its tiles'. -/
theorem tileObl (hin : ListOK li) : ∀ q, (K (F := F)).TileObl (D (F := F)) 𝒱 (P li tv) v₀ q
  | 0 => fun d c i O W hO _ _ => by simp only [show (P li tv).ox = fun _ _ => 0 from rfl, add_zero]; exact tile_core li tv hin 0 d c i O W hO
  | 1 => fun d c i O W hO _ _ => by simp only [show (P li tv).ox = fun _ _ => 0 from rfl, add_zero]; exact tile_core li tv hin 1 d c i O W hO
  | 2 => fun d c i O W hO _ _ => by simp only [show (P li tv).ox = fun _ _ => 0 from rfl, add_zero]; exact tile_core li tv hin 2 d c i O W hO
  | 3 => fun d c i O W hO _ _ => by simp only [show (P li tv).ox = fun _ _ => 0 from rfl, add_zero]; exact tile_core li tv hin 3 d c i O W hO

/-! ## The launch element of the ghost state -/

/-- The pipelines' part of it. -/
noncomputable abbrev uT : UT := initOf (Pipeline.cells (nD := nD) (Pipeline.pin (pcfgs (F := F)) adm) cellOf_inj) (Pipeline.launchToks (Pipeline.pin (pcfgs (F := F)) adm) cellOf_inj)

noncomputable def u₀ : UU := (initOf (K (F := F)).hsCells (K (F := F)).hsToks, (uT (F := F), 1))

/-- What a device's TensorCore needs to enter pipeline `p`. -/
abbrev ghost (d : Dev nD) (p : Fin 10) : sProp 𝕄 :=
  iprop(Pipeline.cellsGhost (Pipeline.pin (pcfgs (F := F)) adm) ET p d ∗ Pipeline.toksInit (Pipeline.pin (pcfgs (F := F)) adm) ET p d)

omit [FloatOps F] in
theorem emp_all {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks))
        ∗ (bigSep Finset.univ fun d : Dev nD => bigSep Finset.univ fun p => ghost (F := F) d p)
        ∗ bigSep Finset.univ fun thr : Thread nD τ => bigSep Finset.univ fun q : Fin NQ => (P li tv).x q thr) := by
  have hx : (bigSep Finset.univ fun thr : Thread nD τ => bigSep Finset.univ fun q : Fin NQ => (P li tv).x q thr) = (iprop(emp) : sProp 𝕄) :=
    (bigSep_congr fun _ _ => emp_all _).trans (emp_all _)
  have hg : (bigSep Finset.univ fun d : Dev nD => bigSep Finset.univ fun p => ghost (F := F) d p)
      = (iprop((bigSep Finset.univ fun c : Dev nD => bigSep Finset.univ fun p => Pipeline.cellsGhost (Pipeline.pin (pcfgs (F := F)) adm) ET p c)
          ∗ (bigSep Finset.univ fun c : Dev nD => bigSep Finset.univ fun p => Pipeline.toksInit (Pipeline.pin (pcfgs (F := F)) adm) ET p c)) : sProp 𝕄) := by
    simp only [ghost, bigSep_sep']
  rw [hx, hg]
  unfold u₀
  iintro Hu
  ihave H := (ownU_pair (initOf (K (F := F)).hsCells (K (F := F)).hsToks) ((uT (F := F), 1) : UT × Counters)) $$ Hu
  icases H with ⟨HH, HT⟩
  ihave HT := (own_pair_emb embR (uT (F := F)) (1 : Counters)) $$ HT
  icases HT with ⟨HT, -⟩
  imod (Pipeline.fund_ghost (Pipeline.pin (pcfgs (F := F)) adm) (ER := ET) cellOf_inj) $$ HT with HG
  imodintro
  isplitl [HH]; · iexact HH
  isplitl [HG]; · iexact HG
  iempintro

end Pay

/-! ## One SparseCore call in @main -/

section Main

abbrev refI (C : Call) : DevRef τ sig := (Proc.scVector 0 0 : Proc τ).devRef C.mi.view.ref
abbrev refT (C : Call) : DevRef τ sig := (Proc.scVector 0 0 : Proc τ).devRef C.mt.view.ref
abbrev refA (C : Call) : DevRef τ sig := (Proc.scVector 0 0 : Proc τ).devRef C.ma.view.ref
abbrev refG (C : Call) : DevRef τ sig := (Proc.scVector 0 0 : Proc τ).devRef C.mg.view.ref

/-- The call's list, as a function of what the device's buffers hold. -/
def listOf (C : Call) (V : Valuation τ sig (Elt F)) : S32x20x128.Idx → Elt F .i32 := C.mi.view.read (Elt F) (V (refI C))
/-- The call's table. -/
def tabOf (C : Call) (V : Valuation τ sig (Elt F)) : STab.Idx → Elt F .f32 := C.mt.view.read (Elt F) (V (refT C))

/-- What the device's buffers hold after the call. -/
def gatherV (C : Call) (V : Valuation τ sig (Elt F)) : Valuation τ sig (Elt F) :=
  Function.update (Function.update V (refA C) (C.ha.unread (valA (listOf C V) (tabOf C V)))) (refG C) (C.hg.unread (valG (listOf C V) (tabOf C V)))

/-- The call's four buffers, all different. -/
structure Four (C : Call) : Prop where
  it : refI C ≠ refT C
  ia : refI C ≠ refA C
  ig : refI C ≠ refG C
  ta : refT C ≠ refA C
  tg : refT C ≠ refG C
  ag : refA C ≠ refG C
  sub : {refI C, refT C, refA C, refG C} ⊆ ucRefs τ sig

theorem held_four {C : Call} (h : Four C) (d : Dev nD) (V : Valuation τ sig (Elt F)) :
    (held (d.tc : Thread nD τ) {refI C, refT C, refA C, refG C} V : sProp 𝕄)
      = iprop((C.iLoc d ↦{fullShare} V (refI C)) ∗ (C.tLoc d ↦{fullShare} V (refT C)) ∗ (C.aLoc d ↦{fullShare} V (refA C)) ∗ (C.gLoc d ↦{fullShare} V (refG C))) := by
  unfold held
  rw [SparseCore.bigSep_insert' (by simp [h.it, h.ia, h.ig]), SparseCore.bigSep_insert' (by simp [h.ta, h.tg]), SparseCore.bigSep_insert' (by simp [h.ag]), bigSep_singleton]

theorem gatherV_of_ne (C : Call) (V : Valuation τ sig (Elt F)) {b : DevRef τ sig} (ha : b ≠ refA C) (hg : b ≠ refG C) : gatherV C V b = V b := by
  unfold gatherV; rw [Function.update_of_ne hg, Function.update_of_ne ha]
theorem gatherV_A {C : Call} (h : Four C) (V : Valuation τ sig (Elt F)) : gatherV C V (refA C) = C.ha.unread (valA (listOf C V) (tabOf C V)) := by
  unfold gatherV; rw [Function.update_of_ne h.ag, Function.update_self]
theorem gatherV_G (C : Call) (V : Valuation τ sig (Elt F)) : gatherV C V (refG C) = C.hg.unread (valG (listOf C V) (tabOf C V)) := by
  unfold gatherV; rw [Function.update_self]

theorem mem_uc (b : Ref sig .tc) (hb : (Proc.devRef (τ := τ) .tc b).isScoped = false) : (Proc.devRef .tc b : DevRef τ sig) ∈ ucRefs τ sig :=
  Finset.mem_filter.mpr ⟨StableHlo.devRef_mem_tcRefs b, by rw [hb]; exact Bool.false_ne_true⟩

theorem four_uc (a b c e : Ref sig .tc) (ha : (Proc.devRef (τ := τ) .tc a).isScoped = false) (hb : (Proc.devRef (τ := τ) .tc b).isScoped = false)
    (hc : (Proc.devRef (τ := τ) .tc c).isScoped = false) (he : (Proc.devRef (τ := τ) .tc e).isScoped = false) :
    ({Proc.devRef .tc a, Proc.devRef .tc b, Proc.devRef .tc c, Proc.devRef .tc e} : Finset (DevRef τ sig)) ⊆ ucRefs τ sig := by
  intro x hx
  simp only [Finset.mem_insert, Finset.mem_singleton] at hx
  rcases hx with rfl | rfl | rfl | rfl
  exacts [mem_uc a ha, mem_uc b hb, mem_uc c hc, mem_uc e he]

theorem four : ∀ q, Four (calls q)
  | 0 => ⟨by decide, by decide, by decide, by decide, by decide, by decide, four_uc main_v12 main_v15_1 main_v33_0 main_v33_1 rfl rfl rfl rfl⟩
  | 1 => ⟨by decide, by decide, by decide, by decide, by decide, by decide, four_uc main_v12 main_v38_1 main_v56_0 main_v56_1 rfl rfl rfl rfl⟩
  | 2 => ⟨by decide, by decide, by decide, by decide, by decide, by decide, four_uc main_v12 main_v61_1 main_v79_0 main_v79_1 rfl rfl rfl rfl⟩
  | 3 => ⟨by decide, by decide, by decide, by decide, by decide, by decide, four_uc main_v12 main_v84_1 main_v102_0 main_v102_1 rfl rfl rfl rfl⟩

variable (li : Fin NQ → Dev nD → S32x20x128.Idx → Elt F .i32) (tv : Fin NQ → Dev nD → STab.Idx → Elt F .f32)
variable [FloatOps F]

omit [FloatOps F] in
theorem cast_all (q : Fin NQ) (Φ : Fin 2 → sProp 𝕄) :
    (bigSep Finset.univ fun c : Fin ((K (F := F)).nCore q) => Φ (Fin.cast (nCore_eq q) c)) = bigSep Finset.univ Φ :=
  (bigSep_univ_equiv (finCongr (nCore_eq (F := F) q)) Φ).symm

/-- @main's step at a SparseCore call: the buffers go from `V` to `gatherV` of it. -/
theorem wp_gather (κ : GSem nD τ sig → ℕ) (d : Dev nD) (q : Fin NQ) (V : Valuation τ sig (Elt F))
    (hl : li q d = listOf (calls q) V) (ht : tv q d = tabOf (calls q) V) (Φ : PUnit → sProp 𝕄) :
    iprop((K (F := F)).ctx EH (P li tv) κ ∗ (K (F := F)).tcSt EH d q.val ∗ held (d.tc : Thread nD τ) (ucRefs τ sig) V
        ∗ (((K (F := F)).tcSt EH d (q.val + 1) ∗ held (d.tc : Thread nD τ) (ucRefs τ sig) (gatherV (calls q) V)) -∗ Φ ⟨⟩))
      ⊢ wp frame (wpE ((K (F := F)).defs (D (F := F))) 𝒱 (SparseCore.T d) none) Set.univ ((K (F := F)).run d q) Φ := by
  have hrest : (held (d.tc : Thread nD τ) (ucRefs τ sig \ {refI (calls q), refT (calls q), refA (calls q), refG (calls q)}) (gatherV (calls q) V) : sProp 𝕄)
      = held (d.tc : Thread nD τ) (ucRefs τ sig \ {refI (calls q), refT (calls q), refA (calls q), refG (calls q)}) V :=
    held_congr _ fun b hb => gatherV_of_ne _ _ (fun e => (Finset.mem_sdiff.mp hb).2 (by simp [e])) (fun e => (Finset.mem_sdiff.mp hb).2 (by simp [e]))
  have hI : V (refI (calls q)) = (calls q).hi.unread (li q d) := by rw [hl]; exact ((calls q).hi.unread_read _).symm
  have hT : V (refT (calls q)) = (calls q).ht.unread (tv q d) := by rw [ht]; exact ((calls q).ht.unread_read _).symm
  have hst : (bigSep Finset.univ fun c : Fin ((K (F := F)).nCore q) => (P li tv).st q d c)
      = bigSep Finset.univ fun c => bigSep Finset.univ fun i => TileIn (calls q) d (li q d) (tv q d) c i :=
    cast_all q fun c => bigSep Finset.univ fun i => TileIn (calls q) d (li q d) (tv q d) c i
  have hdn : (bigSep Finset.univ fun c : Fin ((K (F := F)).nCore q) => (P li tv).dn q d c)
      = bigSep Finset.univ fun c => bigSep Finset.univ fun i => TileOut (calls q) d (li q d) (tv q d) c i :=
    cast_all q fun c => bigSep Finset.univ fun i => TileOut (calls q) d (li q d) (tv q d) c i
  rw [StableHlo.held_sub_split _ (four q).sub V, StableHlo.held_sub_split _ (four q).sub (gatherV (calls q) V), hrest, held_four (four q), held_four (four q),
    gatherV_of_ne _ _ (four q).ia (four q).ig, gatherV_of_ne _ _ (four q).ta (four q).tg, gatherV_A (four q), gatherV_G, ← hl, ← ht, hI, hT]
  iintro ⟨#Hctx, Hst, ⟨Hf, Hr⟩, HΦ⟩
  ihave Hd := (deal (calls q) d (li q d) (tv q d) _ _) $$ Hf
  icases Hd with ⟨Hk, Hd⟩
  iapply ((K (F := F)).wp_run (D (F := F)) 𝒱 (EH := EH) (P := P li tv) κ d q) $$ [Hst Hd Hr Hk HΦ]
  isplitr; · iexact Hctx
  isplitl [Hst]; · iexact Hst
  isplitl [Hd]; · rw [hst]; iexact Hd
  iintro ⟨Hst, Hdn⟩
  ihave Hdn := (Entails.of_eq hdn) $$ Hdn
  ihave Hg := (gathered (calls q) d (li q d) (tv q d)) $$ [Hk Hdn]
  · isplitl [Hk] <;> iassumption
  iapply HΦ
  isplitl [Hst]; · iexact Hst
  isplitl [Hg]; · iexact Hg
  iexact Hr

end Main

end Cert.Proof.Launch

end
-- ==== Proof.Bodies.lean ====
/-
  The four bodies of the TensorCore calls: what each leaves in its outputs' blocks, from its inputs' blocks.
-/
module

public import proofs.«01_k».proof.Proof.Region
public import proofs.«01_k».proof.Proof.Gen.KernelIdeal.Skeleton
public import Idealize.ShloMosaic.Lib.Tactic

@[expose] public section

set_option maxRecDepth 16384

noncomputable section

namespace Cert.Proof.Bodies

open Cert.KernelIdeal Cert.KernelIdeal.Gen Cert.Proof.Region
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx NQ) (Elt F) ℕ UU ℕ

/-! ## The blocks' parts -/

abbrev rH : Rect S512x128 := Rect.unit (s := S512x128) ![0, 0] S512x128.size inb_S512x128_S512x128_0_0
abbrev rW : Rect S128x128 := Rect.unit (s := S128x128) ![0, 0] S128x128.size inb_S128x128_S128x128_0_0
abbrev rE : Rect S16x128 := Rect.unit (s := S16x128) ![0, 0] S16x128.size inb_S16x128_S16x128_0_0
abbrev rN : Rect S512x16 := Rect.unit (s := S512x16) ![0, 0] S512x16.size inb_S512x16_S512x16_0_0
abbrev rT : Rect S512x8 := Rect.unit (s := S512x8) ![0, 0] S512x1.size inb_S512x8_S512x1_0_0
abbrev rO : Rect S128x32 := Rect.unit (s := S128x32) ![0, 0] S128x32.size inb_S128x32_S128x32_0_0
abbrev rR : Rect S512x32 := Rect.unit (s := S512x32) ![0, 0] S512x32.size inb_S512x32_S512x32_0_0

theorem inbAg : ∀ k : Fin 8, ∀ a, (![0, k.val, 0] : Fin 3 → Nat) a + S512x1x128.size a ≤ S512x8x128.size a := by decide
theorem inbAs : ∀ k : Fin 8, ∀ a, (![0, k.val, 0] : Fin 3 → Nat) a + S512x1x16.size a ≤ S512x8x16.size a := by decide
theorem inbGg : ∀ k : Fin 24, ∀ a, (![0, k.val, 0] : Fin 3 → Nat) a + S512x1x128.size a ≤ S512x24x128.size a := by decide
theorem inbGs : ∀ k : Fin 24, ∀ a, (![0, k.val, 0] : Fin 3 → Nat) a + S512x1x16.size a ≤ S512x24x16.size a := by decide

/-- The `k`-th edge of every node of an atom block, and of a grid block. -/
abbrev rAg (k : Fin 8) : Rect S512x8x128 := Rect.unit (s := S512x8x128) ![0, k.val, 0] S512x1x128.size (inbAg k)
abbrev rAs (k : Fin 8) : Rect S512x8x16 := Rect.unit (s := S512x8x16) ![0, k.val, 0] S512x1x16.size (inbAs k)
abbrev rGg (k : Fin 24) : Rect S512x24x128 := Rect.unit (s := S512x24x128) ![0, k.val, 0] S512x1x128.size (inbGg k)
abbrev rGs (k : Fin 24) : Rect S512x24x16 := Rect.unit (s := S512x24x16) ![0, k.val, 0] S512x1x16.size (inbGs k)

/-! ## What the bodies compute -/

abbrev zH : FVec F S512x128 .f32 := constant S512x128 .f32 0x00000000#32
def silu {s : Shape} (z : FVec F s .f32) : FVec F s .f32 := mulf z (logistic z)
/-- A block of states by a square of weights. -/
def dotW (h : FVec F S512x128 .f32) (w : Vec F S128x128 .f32) : FVec F S512x128 .f32 :=
  matmul dot_S512x128_S128x128_S512x128_1_0_0_1_n_n none h (shapeCast S128x128 w shapeCasts_S128x128_S128x128) zH
/-- A block of sixteen attributes by their weights. -/
def dotE (s : FVec F S512x16 .f32) (w : Vec F S16x128 .f32) : FVec F S512x128 .f32 :=
  matmul dot_S512x16_S16x128_S512x128_1_0_0_1_n_n none s (shapeCast S16x128 w shapeCasts_S16x128_S16x128) zH
/-- One edge of every node: its message. -/
def edge (p2 : FVec F S512x128 .f32) (g : Vec F S512x1x128 .f32) (s : Vec F S512x1x16 .f32) (we : Vec F S16x128 .f32) : FVec F S512x128 .f32 :=
  mulf (silu (addf (addf (shapeCast S512x128 g shapeCasts_S512x1x128_S512x128) p2) (dotE (shapeCast S512x16 s shapeCasts_S512x1x16_S512x16) we)))
    (broadcastTo S512x128 (extractStridedSlice S512x1 ![0, 9] (shapeCast S512x16 s shapeCasts_S512x1x16_S512x16) slices_S512x16_o0_9_S512x1) broadcasts_S512x1_S512x128)
/-- The messages' sum, edge after edge. -/
def sumEdges {n : ℕ} (l : List (Fin n)) (m : Fin n → FVec F S512x128 .f32) : FVec F S512x128 .f32 :=
  l.foldl (fun a k => addf a (m k)) (broadcast S512x128 (Scalar.ofBits .f32 0x00000000#32))
/-- A node's update. -/
def update (h agg : FVec F S512x128 .f32) (at' : Vec F S512x16 .f32) (wuh wua : Vec F S128x128 .f32) (wun : Vec F S16x128 .f32) : FVec F S512x128 .f32 :=
  addf h (silu (addf (addf (dotW h wuh) (dotW agg wua)) (dotE (shapeCast S512x16 at' shapeCasts_S512x16_S512x16) wun)))

abbrev eight : List (Fin 8) := [0, 1, 2, 3, 4, 5, 6, 7]
abbrev twentyfour : List (Fin 24) := [0, 1, 2, 3, 4, 5, 6, 7, 8, 9, 10, 11, 12, 13, 14, 15, 16, 17, 18, 19, 20, 21, 22, 23]

abbrev hOf (x2 : Vec F S512x128 .f32) : FVec F S512x128 .f32 := shapeCast S512x128 (View.ld x2 rH) shapeCasts_S512x128_S512x128

def aggA (x0 : Vec F S512x8x128 .f32) (x1 : Vec F S512x8x16 .f32) (x2 : Vec F S512x128 .f32) (x4 : Vec F S128x128 .f32) (x5 : Vec F S16x128 .f32) : FVec F S512x128 .f32 :=
  sumEdges eight fun k => edge (dotW (hOf x2) (View.ld x4 rW)) (View.ld x0 (rAg k)) (View.ld x1 (rAs k)) (View.ld x5 rE)
def aggG (x0 : Vec F S512x24x128 .f32) (x1 : Vec F S512x24x16 .f32) (x2 : Vec F S512x128 .f32) (x4 : Vec F S128x128 .f32) (x5 : Vec F S16x128 .f32) : FVec F S512x128 .f32 :=
  sumEdges twentyfour fun k => edge (dotW (hOf x2) (View.ld x4 rW)) (View.ld x0 (rGg k)) (View.ld x1 (rGs k)) (View.ld x5 rE)

/-- The atoms' new states, and the next layer's part of them. -/
def newA (x0 : Vec F S512x8x128 .f32) (x1 : Vec F S512x8x16 .f32) (x2 : Vec F S512x128 .f32) (x3 : Vec F S512x16 .f32) (x4 : Vec F S128x128 .f32) (x5 : Vec F S16x128 .f32) (x6 x7 : Vec F S128x128 .f32) (x8 : Vec F S16x128 .f32) : FVec F S512x128 .f32 :=
  update (hOf x2) (aggA x0 x1 x2 x4 x5) (View.ld x3 rN) (View.ld x6 rW) (View.ld x7 rW) (View.ld x8 rE)
def newG (x0 : Vec F S512x24x128 .f32) (x1 : Vec F S512x24x16 .f32) (x2 : Vec F S512x128 .f32) (x3 : Vec F S512x16 .f32) (x4 : Vec F S128x128 .f32) (x5 : Vec F S16x128 .f32) (x6 x7 : Vec F S128x128 .f32) (x8 : Vec F S16x128 .f32) : FVec F S512x128 .f32 :=
  update (hOf x2) (aggG x0 x1 x2 x4 x5) (View.ld x3 rN) (View.ld x6 rW) (View.ld x7 rW) (View.ld x8 rE)

def embH (x0 : Vec F S512x8 .i32) (x1 : Vec F S16x128 .f32) : FVec F S512x128 .f32 := k0_pay1 (View.ld x0 rT) (View.ld x1 rE)

/-! ## The outputs' blocks -/

def outE3 (x0 : Vec F S512x8 .i32) (x1 : Vec F S16x128 .f32) (_x2 : Vec F S128x128 .f32) : Vec F S512x128 .f32 := View.canon [⟨rH, embH x0 x1⟩]
def outE4 (x0 : Vec F S512x8 .i32) (x1 : Vec F S16x128 .f32) (x2 : Vec F S128x128 .f32) : Vec F S512x128 .f32 := View.canon [⟨rH, dotW (embH x0 x1) (View.ld x2 rW)⟩]
def outA10 (x0 : Vec F S512x8x128 .f32) (x1 : Vec F S512x8x16 .f32) (x2 : Vec F S512x128 .f32) (x3 : Vec F S512x16 .f32) (x4 : Vec F S128x128 .f32) (x5 : Vec F S16x128 .f32) (x6 x7 : Vec F S128x128 .f32) (x8 : Vec F S16x128 .f32) (_x9 : Vec F S128x128 .f32) : Vec F S512x128 .f32 :=
  View.canon [⟨rH, newA x0 x1 x2 x3 x4 x5 x6 x7 x8⟩]
def outA11 (x0 : Vec F S512x8x128 .f32) (x1 : Vec F S512x8x16 .f32) (x2 : Vec F S512x128 .f32) (x3 : Vec F S512x16 .f32) (x4 : Vec F S128x128 .f32) (x5 : Vec F S16x128 .f32) (x6 x7 : Vec F S128x128 .f32) (x8 : Vec F S16x128 .f32) (x9 : Vec F S128x128 .f32) : Vec F S512x128 .f32 :=
  View.canon [⟨rH, dotW (newA x0 x1 x2 x3 x4 x5 x6 x7 x8) (View.ld x9 rW)⟩]
def outG9 (x0 : Vec F S512x24x128 .f32) (x1 : Vec F S512x24x16 .f32) (x2 : Vec F S512x128 .f32) (x3 : Vec F S512x16 .f32) (x4 : Vec F S128x128 .f32) (x5 : Vec F S16x128 .f32) (x6 x7 : Vec F S128x128 .f32) (x8 : Vec F S16x128 .f32) : Vec F S512x128 .f32 :=
  View.canon [⟨rH, newG x0 x1 x2 x3 x4 x5 x6 x7 x8⟩]
def outO2 (x0 : Vec F S512x128 .f32) (x1 : Vec F S128x32 .f32) : Vec F S512x32 .f32 := View.canon [⟨rR, k13_pay1 (View.ld x0 rH) (View.ld x1 rO)⟩]

theorem cover (p0 : Vec F S512x128 .f32) (y : S512x128.Idx) : ∃ pc ∈ ([⟨rH, p0⟩] : List (View.Piece (Elt F) S512x128 .f32)), y ∈ pc.1.set :=
  View.cover_of_tiled [⟨rH, p0⟩] S512x128.size (by rfl) y
theorem coverO (p0 : Vec F S512x32 .f32) (y : S512x32.Idx) : ∃ pc ∈ ([⟨rR, p0⟩] : List (View.Piece (Elt F) S512x32 .f32)), y ∈ pc.1.set :=
  View.cover_of_tiled [⟨rR, p0⟩] S512x32.size (by rfl) y

/-! ## The bodies' runs -/

set_option maxHeartbeats 4000000 in
/-- The embedding's body. -/
theorem embed_wp (c : Dev nD) (i : grid0.Coords) (a0 : Memref sig .tc .vmem S512x8 .i32) (ha0 : a0.IsWhole) (a1 : Memref sig .tc .vmem S16x128 .f32) (ha1 : a1.IsWhole) (a2 : Memref sig .tc .vmem S128x128 .f32) (ha2 : a2.IsWhole) (a3 : Memref sig .tc .vmem S512x128 .f32) (ha3 : a3.IsWhole) (a4 : Memref sig .tc .vmem S512x128 .f32) (ha4 : a4.IsWhole)
    (x0 : Vec F S512x8 .i32) (x1 : Vec F S16x128 .f32) (x2 : Vec F S128x128 .f32) (Q : sProp 𝕄) :
    iprop((owns (c.tc : Thread nD τ) a0 fullShare x0 ∗ owns (c.tc : Thread nD τ) a1 fullShare x1 ∗ owns (c.tc : Thread nD τ) a2 fullShare x2 ∗ (∃ d, owns (c.tc : Thread nD τ) a3 fullShare d) ∗ (∃ d, owns (c.tc : Thread nD τ) a4 fullShare d))
        ∗ ((owns (c.tc : Thread nD τ) a0 fullShare x0 ∗ owns (c.tc : Thread nD τ) a1 fullShare x1 ∗ owns (c.tc : Thread nD τ) a2 fullShare x2 ∗ owns (c.tc : Thread nD τ) a3 fullShare (outE3 x0 x1 x2) ∗ owns (c.tc : Thread nD τ) a4 fullShare (outE4 x0 x1 x2)) -∗ Q))
      ⊢ wp frame (wpE (defs₀ (F := F)) 𝒱₀ (c.tc : Thread nD τ) none) Set.univ (cc0__embed_body i a0 ha0 a1 ha1 a2 ha2 a3 ha3 a4 ha4) fun _ => Q := by
  simp only [cc0__embed_body_eq_skeleton]; unfold cc0__embed_body_skel
  unfold owns
  iintro ⟨⟨⟨%f0, %hf0, H0⟩, ⟨%f1, %hf1, H1⟩, ⟨%f2, %hf2, H2⟩, ⟨%d3, %f3, -, H3⟩, ⟨%d4, %f4, -, H4⟩⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (cover _)).trans rfl
  iexists _; isplitr
  swap; · iexact H4
  ipureintro
  exact (View.read_writes_eq_canon _ _ _ (cover _)).trans rfl

set_option maxHeartbeats 4000000 in
/-- The atoms' body. -/
theorem msgA_wp (c : Dev nD) (i : grid2.Coords) (a0 : Memref sig .tc .vmem S512x8x128 .f32) (ha0 : a0.IsWhole) (a1 : Memref sig .tc .vmem S512x8x16 .f32) (ha1 : a1.IsWhole) (a2 : Memref sig .tc .vmem S512x128 .f32) (ha2 : a2.IsWhole) (a3 : Memref sig .tc .vmem S512x16 .f32) (ha3 : a3.IsWhole) (a4 : Memref sig .tc .vmem S128x128 .f32) (ha4 : a4.IsWhole) (a5 : Memref sig .tc .vmem S16x128 .f32) (ha5 : a5.IsWhole) (a6 : Memref sig .tc .vmem S128x128 .f32) (ha6 : a6.IsWhole) (a7 : Memref sig .tc .vmem S128x128 .f32) (ha7 : a7.IsWhole) (a8 : Memref sig .tc .vmem S16x128 .f32) (ha8 : a8.IsWhole) (a9 : Memref sig .tc .vmem S128x128 .f32) (ha9 : a9.IsWhole) (a10 : Memref sig .tc .vmem S512x128 .f32) (ha10 : a10.IsWhole) (a11 : Memref sig .tc .vmem S512x128 .f32) (ha11 : a11.IsWhole)
    (x0 : Vec F S512x8x128 .f32) (x1 : Vec F S512x8x16 .f32) (x2 : Vec F S512x128 .f32) (x3 : Vec F S512x16 .f32) (x4 : Vec F S128x128 .f32) (x5 : Vec F S16x128 .f32) (x6 : Vec F S128x128 .f32) (x7 : Vec F S128x128 .f32) (x8 : Vec F S16x128 .f32) (x9 : Vec F S128x128 .f32) (Q : sProp 𝕄) :
    iprop((owns (c.tc : Thread nD τ) a0 fullShare x0 ∗ owns (c.tc : Thread nD τ) a1 fullShare x1 ∗ owns (c.tc : Thread nD τ) a2 fullShare x2 ∗ owns (c.tc : Thread nD τ) a3 fullShare x3 ∗ owns (c.tc : Thread nD τ) a4 fullShare x4 ∗ owns (c.tc : Thread nD τ) a5 fullShare x5 ∗ owns (c.tc : Thread nD τ) a6 fullShare x6 ∗ owns (c.tc : Thread nD τ) a7 fullShare x7 ∗ owns (c.tc : Thread nD τ) a8 fullShare x8 ∗ owns (c.tc : Thread nD τ) a9 fullShare x9 ∗ (∃ d, owns (c.tc : Thread nD τ) a10 fullShare d) ∗ (∃ d, owns (c.tc : Thread nD τ) a11 fullShare d))
        ∗ ((owns (c.tc : Thread nD τ) a0 fullShare x0 ∗ owns (c.tc : Thread nD τ) a1 fullShare x1 ∗ owns (c.tc : Thread nD τ) a2 fullShare x2 ∗ owns (c.tc : Thread nD τ) a3 fullShare x3 ∗ owns (c.tc : Thread nD τ) a4 fullShare x4 ∗ owns (c.tc : Thread nD τ) a5 fullShare x5 ∗ owns (c.tc : Thread nD τ) a6 fullShare x6 ∗ owns (c.tc : Thread nD τ) a7 fullShare x7 ∗ owns (c.tc : Thread nD τ) a8 fullShare x8 ∗ owns (c.tc : Thread nD τ) a9 fullShare x9 ∗ owns (c.tc : Thread nD τ) a10 fullShare (outA10 x0 x1 x2 x3 x4 x5 x6 x7 x8 x9) ∗ owns (c.tc : Thread nD τ) a11 fullShare (outA11 x0 x1 x2 x3 x4 x5 x6 x7 x8 x9)) -∗ Q))
      ⊢ wp frame (wpE (defs₀ (F := F)) 𝒱₀ (c.tc : Thread nD τ) none) Set.univ (cc2__msg_body i a0 ha0 a1 ha1 a2 ha2 a3 ha3 a4 ha4 a5 ha5 a6 ha6 a7 ha7 a8 ha8 a9 ha9 a10 ha10 a11 ha11) fun _ => Q := by
  simp only [cc2__msg_body_eq_skeleton]; unfold cc2__msg_body_skel
  simp only [k2_part1_eq_skeleton, k2_part2_eq_skeleton, k2_part3_eq_skeleton, k2_part4_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (cover _)).trans rfl
  iexists _; isplitr
  swap; · iexact H11
  ipureintro
  exact (View.read_writes_eq_canon _ _ _ (cover _)).trans rfl

set_option maxHeartbeats 4000000 in
/-- The grid nodes' body. -/
theorem msgG_wp (c : Dev nD) (i : grid3.Coords) (a0 : Memref sig .tc .vmem S512x24x128 .f32) (ha0 : a0.IsWhole) (a1 : Memref sig .tc .vmem S512x24x16 .f32) (ha1 : a1.IsWhole) (a2 : Memref sig .tc .vmem S512x128 .f32) (ha2 : a2.IsWhole) (a3 : Memref sig .tc .vmem S512x16 .f32) (ha3 : a3.IsWhole) (a4 : Memref sig .tc .vmem S128x128 .f32) (ha4 : a4.IsWhole) (a5 : Memref sig .tc .vmem S16x128 .f32) (ha5 : a5.IsWhole) (a6 : Memref sig .tc .vmem S128x128 .f32) (ha6 : a6.IsWhole) (a7 : Memref sig .tc .vmem S128x128 .f32) (ha7 : a7.IsWhole) (a8 : Memref sig .tc .vmem S16x128 .f32) (ha8 : a8.IsWhole) (a9 : Memref sig .tc .vmem S512x128 .f32) (ha9 : a9.IsWhole)
    (x0 : Vec F S512x24x128 .f32) (x1 : Vec F S512x24x16 .f32) (x2 : Vec F S512x128 .f32) (x3 : Vec F S512x16 .f32) (x4 : Vec F S128x128 .f32) (x5 : Vec F S16x128 .f32) (x6 : Vec F S128x128 .f32) (x7 : Vec F S128x128 .f32) (x8 : Vec F S16x128 .f32) (Q : sProp 𝕄) :
    iprop((owns (c.tc : Thread nD τ) a0 fullShare x0 ∗ owns (c.tc : Thread nD τ) a1 fullShare x1 ∗ owns (c.tc : Thread nD τ) a2 fullShare x2 ∗ owns (c.tc : Thread nD τ) a3 fullShare x3 ∗ owns (c.tc : Thread nD τ) a4 fullShare x4 ∗ owns (c.tc : Thread nD τ) a5 fullShare x5 ∗ owns (c.tc : Thread nD τ) a6 fullShare x6 ∗ owns (c.tc : Thread nD τ) a7 fullShare x7 ∗ owns (c.tc : Thread nD τ) a8 fullShare x8 ∗ (∃ d, owns (c.tc : Thread nD τ) a9 fullShare d))
        ∗ ((owns (c.tc : Thread nD τ) a0 fullShare x0 ∗ owns (c.tc : Thread nD τ) a1 fullShare x1 ∗ owns (c.tc : Thread nD τ) a2 fullShare x2 ∗ owns (c.tc : Thread nD τ) a3 fullShare x3 ∗ owns (c.tc : Thread nD τ) a4 fullShare x4 ∗ owns (c.tc : Thread nD τ) a5 fullShare x5 ∗ owns (c.tc : Thread nD τ) a6 fullShare x6 ∗ owns (c.tc : Thread nD τ) a7 fullShare x7 ∗ owns (c.tc : Thread nD τ) a8 fullShare x8 ∗ owns (c.tc : Thread nD τ) a9 fullShare (outG9 x0 x1 x2 x3 x4 x5 x6 x7 x8)) -∗ Q))
      ⊢ wp frame (wpE (defs₀ (F := F)) 𝒱₀ (c.tc : Thread nD τ) none) Set.univ (cc3__msg_body i a0 ha0 a1 ha1 a2 ha2 a3 ha3 a4 ha4 a5 ha5 a6 ha6 a7 ha7 a8 ha8 a9 ha9) fun _ => Q := by
  simp only [cc3__msg_body_eq_skeleton]; unfold cc3__msg_body_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton, k3_part10_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact (View.read_writes_eq_canon _ _ _ (cover _)).trans rfl

set_option maxHeartbeats 4000000 in
/-- The last body. -/
theorem out_wp (c : Dev nD) (i : grid13.Coords) (a0 : Memref sig .tc .vmem S512x128 .f32) (ha0 : a0.IsWhole) (a1 : Memref sig .tc .vmem S128x32 .f32) (ha1 : a1.IsWhole) (a2 : Memref sig .tc .vmem S512x32 .f32) (ha2 : a2.IsWhole)
    (x0 : Vec F S512x128 .f32) (x1 : Vec F S128x32 .f32) (Q : sProp 𝕄) :
    iprop((owns (c.tc : Thread nD τ) a0 fullShare x0 ∗ owns (c.tc : Thread nD τ) a1 fullShare x1 ∗ (∃ d, owns (c.tc : Thread nD τ) a2 fullShare d))
        ∗ ((owns (c.tc : Thread nD τ) a0 fullShare x0 ∗ owns (c.tc : Thread nD τ) a1 fullShare x1 ∗ owns (c.tc : Thread nD τ) a2 fullShare (outO2 x0 x1)) -∗ Q))
      ⊢ wp frame (wpE (defs₀ (F := F)) 𝒱₀ (c.tc : Thread nD τ) none) Set.univ (cc13__out_body i a0 ha0 a1 ha1 a2 ha2) fun _ => Q := by
  simp only [cc13__out_body_eq_skeleton]; unfold cc13__out_body_skel
  unfold owns
  iintro ⟨⟨⟨%f0, %hf0, H0⟩, ⟨%f1, %hf1, H1⟩, ⟨%d2, %f2, -, H2⟩⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (coverO _)).trans rfl

end Cert.Proof.Bodies

end
-- ==== Proof.Steps.lean ====
/-
  Every TensorCore call's proof data: each input block as fetched, each output block as the body leaves it.
-/
module

public import proofs.«01_k».proof.Proof.Bodies

@[expose] public section

set_option maxRecDepth 16384

noncomputable section

namespace Cert.Proof.Steps

open Cert.KernelIdeal Cert.KernelIdeal.Gen Cert.Proof.Region Cert.Proof.Bodies
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx NQ) (Elt F) ℕ UU ℕ

noncomputable abbrev pn (p : Fin 10) := Pipeline.pin (pcfgs (F := F)) adm p

/-- A call's input block at a point, read off what the buffers hold at its entry. -/
noncomputable def iblk (p : Fin 10) (V : Valuation τ sig (Elt F)) (w : Fin (pn (F := F) p).W) (t : Fin (pn (F := F) p).N) :
    (((pn (F := F) p).win w).xblock ((pn (F := F) p).grid.coords t)).Idx → Elt F ((pn (F := F) p).win w).elt :=
  (((pn (F := F) p).win w).blk t).view.read (Elt F) (V (Proc.devRef .tc (Pipeline.arrRef (pn (F := F) p).spec w)))

noncomputable def out0 (V : Valuation τ sig (Elt F)) (t : Fin (pn (F := F) 0).N) : (w : Fin (pn (F := F) 0).W) → ((pn (F := F) 0).win w).block.Idx → Elt F ((pn (F := F) 0).win w).elt
  | ⟨0, _⟩ => iblk 0 V 0 t
  | ⟨1, _⟩ => iblk 0 V 1 t
  | ⟨2, _⟩ => iblk 0 V 2 t
  | ⟨3, _⟩ => outE3 (iblk 0 V 0 t) (iblk 0 V 1 t) (iblk 0 V 2 t)
  | ⟨4, _⟩ => outE4 (iblk 0 V 0 t) (iblk 0 V 1 t) (iblk 0 V 2 t)
noncomputable def out2 (V : Valuation τ sig (Elt F)) (t : Fin (pn (F := F) 1).N) : (w : Fin (pn (F := F) 1).W) → ((pn (F := F) 1).win w).block.Idx → Elt F ((pn (F := F) 1).win w).elt
  | ⟨0, _⟩ => iblk 1 V 0 t
  | ⟨1, _⟩ => iblk 1 V 1 t
  | ⟨2, _⟩ => iblk 1 V 2 t
  | ⟨3, _⟩ => iblk 1 V 3 t
  | ⟨4, _⟩ => iblk 1 V 4 t
  | ⟨5, _⟩ => iblk 1 V 5 t
  | ⟨6, _⟩ => iblk 1 V 6 t
  | ⟨7, _⟩ => iblk 1 V 7 t
  | ⟨8, _⟩ => iblk 1 V 8 t
  | ⟨9, _⟩ => iblk 1 V 9 t
  | ⟨10, _⟩ => outA10 (iblk 1 V 0 t) (iblk 1 V 1 t) (iblk 1 V 2 t) (iblk 1 V 3 t) (iblk 1 V 4 t) (iblk 1 V 5 t) (iblk 1 V 6 t) (iblk 1 V 7 t) (iblk 1 V 8 t) (iblk 1 V 9 t)
  | ⟨11, _⟩ => outA11 (iblk 1 V 0 t) (iblk 1 V 1 t) (iblk 1 V 2 t) (iblk 1 V 3 t) (iblk 1 V 4 t) (iblk 1 V 5 t) (iblk 1 V 6 t) (iblk 1 V 7 t) (iblk 1 V 8 t) (iblk 1 V 9 t)
noncomputable def out3 (V : Valuation τ sig (Elt F)) (t : Fin (pn (F := F) 2).N) : (w : Fin (pn (F := F) 2).W) → ((pn (F := F) 2).win w).block.Idx → Elt F ((pn (F := F) 2).win w).elt
  | ⟨0, _⟩ => iblk 2 V 0 t
  | ⟨1, _⟩ => iblk 2 V 1 t
  | ⟨2, _⟩ => iblk 2 V 2 t
  | ⟨3, _⟩ => iblk 2 V 3 t
  | ⟨4, _⟩ => iblk 2 V 4 t
  | ⟨5, _⟩ => iblk 2 V 5 t
  | ⟨6, _⟩ => iblk 2 V 6 t
  | ⟨7, _⟩ => iblk 2 V 7 t
  | ⟨8, _⟩ => iblk 2 V 8 t
  | ⟨9, _⟩ => outG9 (iblk 2 V 0 t) (iblk 2 V 1 t) (iblk 2 V 2 t) (iblk 2 V 3 t) (iblk 2 V 4 t) (iblk 2 V 5 t) (iblk 2 V 6 t) (iblk 2 V 7 t) (iblk 2 V 8 t)
noncomputable def out5 (V : Valuation τ sig (Elt F)) (t : Fin (pn (F := F) 3).N) : (w : Fin (pn (F := F) 3).W) → ((pn (F := F) 3).win w).block.Idx → Elt F ((pn (F := F) 3).win w).elt
  | ⟨0, _⟩ => iblk 3 V 0 t
  | ⟨1, _⟩ => iblk 3 V 1 t
  | ⟨2, _⟩ => iblk 3 V 2 t
  | ⟨3, _⟩ => iblk 3 V 3 t
  | ⟨4, _⟩ => iblk 3 V 4 t
  | ⟨5, _⟩ => iblk 3 V 5 t
  | ⟨6, _⟩ => iblk 3 V 6 t
  | ⟨7, _⟩ => iblk 3 V 7 t
  | ⟨8, _⟩ => iblk 3 V 8 t
  | ⟨9, _⟩ => iblk 3 V 9 t
  | ⟨10, _⟩ => outA10 (iblk 3 V 0 t) (iblk 3 V 1 t) (iblk 3 V 2 t) (iblk 3 V 3 t) (iblk 3 V 4 t) (iblk 3 V 5 t) (iblk 3 V 6 t) (iblk 3 V 7 t) (iblk 3 V 8 t) (iblk 3 V 9 t)
  | ⟨11, _⟩ => outA11 (iblk 3 V 0 t) (iblk 3 V 1 t) (iblk 3 V 2 t) (iblk 3 V 3 t) (iblk 3 V 4 t) (iblk 3 V 5 t) (iblk 3 V 6 t) (iblk 3 V 7 t) (iblk 3 V 8 t) (iblk 3 V 9 t)
noncomputable def out6 (V : Valuation τ sig (Elt F)) (t : Fin (pn (F := F) 4).N) : (w : Fin (pn (F := F) 4).W) → ((pn (F := F) 4).win w).block.Idx → Elt F ((pn (F := F) 4).win w).elt
  | ⟨0, _⟩ => iblk 4 V 0 t
  | ⟨1, _⟩ => iblk 4 V 1 t
  | ⟨2, _⟩ => iblk 4 V 2 t
  | ⟨3, _⟩ => iblk 4 V 3 t
  | ⟨4, _⟩ => iblk 4 V 4 t
  | ⟨5, _⟩ => iblk 4 V 5 t
  | ⟨6, _⟩ => iblk 4 V 6 t
  | ⟨7, _⟩ => iblk 4 V 7 t
  | ⟨8, _⟩ => iblk 4 V 8 t
  | ⟨9, _⟩ => outG9 (iblk 4 V 0 t) (iblk 4 V 1 t) (iblk 4 V 2 t) (iblk 4 V 3 t) (iblk 4 V 4 t) (iblk 4 V 5 t) (iblk 4 V 6 t) (iblk 4 V 7 t) (iblk 4 V 8 t)
noncomputable def out8 (V : Valuation τ sig (Elt F)) (t : Fin (pn (F := F) 5).N) : (w : Fin (pn (F := F) 5).W) → ((pn (F := F) 5).win w).block.Idx → Elt F ((pn (F := F) 5).win w).elt
  | ⟨0, _⟩ => iblk 5 V 0 t
  | ⟨1, _⟩ => iblk 5 V 1 t
  | ⟨2, _⟩ => iblk 5 V 2 t
  | ⟨3, _⟩ => iblk 5 V 3 t
  | ⟨4, _⟩ => iblk 5 V 4 t
  | ⟨5, _⟩ => iblk 5 V 5 t
  | ⟨6, _⟩ => iblk 5 V 6 t
  | ⟨7, _⟩ => iblk 5 V 7 t
  | ⟨8, _⟩ => iblk 5 V 8 t
  | ⟨9, _⟩ => iblk 5 V 9 t
  | ⟨10, _⟩ => outA10 (iblk 5 V 0 t) (iblk 5 V 1 t) (iblk 5 V 2 t) (iblk 5 V 3 t) (iblk 5 V 4 t) (iblk 5 V 5 t) (iblk 5 V 6 t) (iblk 5 V 7 t) (iblk 5 V 8 t) (iblk 5 V 9 t)
  | ⟨11, _⟩ => outA11 (iblk 5 V 0 t) (iblk 5 V 1 t) (iblk 5 V 2 t) (iblk 5 V 3 t) (iblk 5 V 4 t) (iblk 5 V 5 t) (iblk 5 V 6 t) (iblk 5 V 7 t) (iblk 5 V 8 t) (iblk 5 V 9 t)
noncomputable def out9 (V : Valuation τ sig (Elt F)) (t : Fin (pn (F := F) 6).N) : (w : Fin (pn (F := F) 6).W) → ((pn (F := F) 6).win w).block.Idx → Elt F ((pn (F := F) 6).win w).elt
  | ⟨0, _⟩ => iblk 6 V 0 t
  | ⟨1, _⟩ => iblk 6 V 1 t
  | ⟨2, _⟩ => iblk 6 V 2 t
  | ⟨3, _⟩ => iblk 6 V 3 t
  | ⟨4, _⟩ => iblk 6 V 4 t
  | ⟨5, _⟩ => iblk 6 V 5 t
  | ⟨6, _⟩ => iblk 6 V 6 t
  | ⟨7, _⟩ => iblk 6 V 7 t
  | ⟨8, _⟩ => iblk 6 V 8 t
  | ⟨9, _⟩ => outG9 (iblk 6 V 0 t) (iblk 6 V 1 t) (iblk 6 V 2 t) (iblk 6 V 3 t) (iblk 6 V 4 t) (iblk 6 V 5 t) (iblk 6 V 6 t) (iblk 6 V 7 t) (iblk 6 V 8 t)
noncomputable def out11 (V : Valuation τ sig (Elt F)) (t : Fin (pn (F := F) 7).N) : (w : Fin (pn (F := F) 7).W) → ((pn (F := F) 7).win w).block.Idx → Elt F ((pn (F := F) 7).win w).elt
  | ⟨0, _⟩ => iblk 7 V 0 t
  | ⟨1, _⟩ => iblk 7 V 1 t
  | ⟨2, _⟩ => iblk 7 V 2 t
  | ⟨3, _⟩ => iblk 7 V 3 t
  | ⟨4, _⟩ => iblk 7 V 4 t
  | ⟨5, _⟩ => iblk 7 V 5 t
  | ⟨6, _⟩ => iblk 7 V 6 t
  | ⟨7, _⟩ => iblk 7 V 7 t
  | ⟨8, _⟩ => iblk 7 V 8 t
  | ⟨9, _⟩ => iblk 7 V 9 t
  | ⟨10, _⟩ => outA10 (iblk 7 V 0 t) (iblk 7 V 1 t) (iblk 7 V 2 t) (iblk 7 V 3 t) (iblk 7 V 4 t) (iblk 7 V 5 t) (iblk 7 V 6 t) (iblk 7 V 7 t) (iblk 7 V 8 t) (iblk 7 V 9 t)
  | ⟨11, _⟩ => outA11 (iblk 7 V 0 t) (iblk 7 V 1 t) (iblk 7 V 2 t) (iblk 7 V 3 t) (iblk 7 V 4 t) (iblk 7 V 5 t) (iblk 7 V 6 t) (iblk 7 V 7 t) (iblk 7 V 8 t) (iblk 7 V 9 t)
noncomputable def out12 (V : Valuation τ sig (Elt F)) (t : Fin (pn (F := F) 8).N) : (w : Fin (pn (F := F) 8).W) → ((pn (F := F) 8).win w).block.Idx → Elt F ((pn (F := F) 8).win w).elt
  | ⟨0, _⟩ => iblk 8 V 0 t
  | ⟨1, _⟩ => iblk 8 V 1 t
  | ⟨2, _⟩ => iblk 8 V 2 t
  | ⟨3, _⟩ => iblk 8 V 3 t
  | ⟨4, _⟩ => iblk 8 V 4 t
  | ⟨5, _⟩ => iblk 8 V 5 t
  | ⟨6, _⟩ => iblk 8 V 6 t
  | ⟨7, _⟩ => iblk 8 V 7 t
  | ⟨8, _⟩ => iblk 8 V 8 t
  | ⟨9, _⟩ => outG9 (iblk 8 V 0 t) (iblk 8 V 1 t) (iblk 8 V 2 t) (iblk 8 V 3 t) (iblk 8 V 4 t) (iblk 8 V 5 t) (iblk 8 V 6 t) (iblk 8 V 7 t) (iblk 8 V 8 t)
noncomputable def out13 (V : Valuation τ sig (Elt F)) (t : Fin (pn (F := F) 9).N) : (w : Fin (pn (F := F) 9).W) → ((pn (F := F) 9).win w).block.Idx → Elt F ((pn (F := F) 9).win w).elt
  | ⟨0, _⟩ => iblk 9 V 0 t
  | ⟨1, _⟩ => iblk 9 V 1 t
  | ⟨2, _⟩ => outO2 (iblk 9 V 0 t) (iblk 9 V 1 t)

/-- Every call's blocks after its body. -/
noncomputable def outs : Outs (F := F)
  | 0, V, w, t => out0 V t w
  | 1, V, w, t => out2 V t w
  | 2, V, w, t => out3 V t w
  | 3, V, w, t => out5 V t w
  | 4, V, w, t => out6 V t w
  | 5, V, w, t => out8 V t w
  | 6, V, w, t => out9 V t w
  | 7, V, w, t => out11 V t w
  | 8, V, w, t => out12 V t w
  | 9, V, w, t => out13 V t w

/-- A body's obligation from its run, the inputs' blocks as fetched. -/
theorem body_ob (n : ℕ) (V : Valuation τ sig (Elt F)) (p : Fin 10) (c : Dev nD)
    (hidle : ∀ w i, (pn (F := F) p).idle w i = false)
    (hbefore : ∀ w, ((pn (F := F) p).win w).isOut = false → ∀ t d, (dat outs n V p c).before w t d = outs p V w t)
    (hrun : ∀ t (Q : sProp 𝕄), iprop((bigSep Finset.univ fun w => match ((pn (F := F) p).win w).isOut with
          | true => iprop(∃ d, owns (c.tc : Thread nD τ) (((pn (F := F) p).win w).stage ((pn (F := F) p).slots t w)) fullShare d)
          | false => owns (c.tc : Thread nD τ) (((pn (F := F) p).win w).stage ((pn (F := F) p).slots t w)) fullShare (outs p V w t))
        ∗ ((bigSep Finset.univ fun w => owns (c.tc : Thread nD τ) (((pn (F := F) p).win w).stage ((pn (F := F) p).slots t w)) fullShare (outs p V w t)) -∗ Q))
      ⊢ wp frame (wpE (defs₀ (F := F)) 𝒱₀ (c.tc : Thread nD τ) none) Set.univ
          (defs₀ .tc (pn (F := F) p).body ((pn (F := F) p).bodyArgs t ((pn (F := F) p).slots t))) fun _ => Q) :
    BodyObligation (dat outs n V p c) (defs₀ (F := F)) 𝒱₀ none Set.univ := fun t => by
  have hpre : (bigSep Finset.univ fun w => iprop(∃ d, owns (c.tc : Thread nD τ) (((pn (F := F) p).win w).stage ((pn (F := F) p).slots t w)) fullShare ((dat outs n V p c).before w t d)) : sProp 𝕄)
      ⊢ bigSep Finset.univ fun w => match ((pn (F := F) p).win w).isOut with
          | true => iprop(∃ d, owns (c.tc : Thread nD τ) (((pn (F := F) p).win w).stage ((pn (F := F) p).slots t w)) fullShare d)
          | false => owns (c.tc : Thread nD τ) (((pn (F := F) p).win w).stage ((pn (F := F) p).slots t w)) fullShare (outs p V w t) := by
    refine bigSep_mono fun w _ => ?_
    rcases h : ((pn (F := F) p).win w).isOut with _ | _
    · show (_ : sProp 𝕄) ⊢ owns (c.tc : Thread nD τ) (((pn (F := F) p).win w).stage ((pn (F := F) p).slots t w)) fullShare (outs p V w t)
      iintro ⟨%d, H⟩
      rw [hbefore w h t d]; iexact H
    · show (_ : sProp 𝕄) ⊢ iprop(∃ d, owns (c.tc : Thread nD τ) (((pn (F := F) p).win w).stage ((pn (F := F) p).slots t w)) fullShare d)
      iintro ⟨%d, H⟩; iexists _; iexact H
  have hpost : (bigSep Finset.univ fun w => owns (c.tc : Thread nD τ) (((pn (F := F) p).win w).stage ((pn (F := F) p).slots t w)) fullShare (outs p V w t) : sProp 𝕄)
      ⊢ bigSep Finset.univ fun w => match (pn (F := F) p).idle w ((pn (F := F) p).grid.coords t) with
        | true => match ((pn (F := F) p).win w).flush t with
          | false => iprop(∃ d, owns (c.tc : Thread nD τ) (((pn (F := F) p).win w).stage ((pn (F := F) p).slots t w)) fullShare ((dat outs n V p c).before w t d))
          | true => owns (c.tc : Thread nD τ) (((pn (F := F) p).win w).stage ((pn (F := F) p).slots t w)) fullShare ((dat outs n V p c).after w t)
        | false => owns (c.tc : Thread nD τ) (((pn (F := F) p).win w).stage ((pn (F := F) p).slots t w)) fullShare ((dat outs n V p c).after w t) := by
    refine bigSep_mono fun w _ => ?_
    rw [hidle]
    show (_ : sProp 𝕄) ⊢ owns (c.tc : Thread nD τ) (((pn (F := F) p).win w).stage ((pn (F := F) p).slots t w)) fullShare (outs p V w t)
    iintro H; iexact H
  show iprop((dat outs n V p c).Φ t.castSucc ∗ (dat outs n V p c).owesAt none t.castSucc
      ∗ bigSep Finset.univ fun w => iprop(∃ d, owns (c.tc : Thread nD τ) (((pn (F := F) p).win w).stage ((pn (F := F) p).slots t w)) fullShare ((dat outs n V p c).before w t d))) ⊢ _
  refine BI.Entails.trans ?_ (hrun t _)
  show (_ : sProp 𝕄) ⊢ (_ : sProp 𝕄)
  iintro ⟨HΦ, HO, Hw⟩
  isplitl [Hw]; · iapply hpre; iexact Hw
  iintro H
  rw [show (dat outs n V p c).Φ t.succ = (dat outs n V p c).Φ t.castSucc from rfl,
    show (dat outs n V p c).owesAt none t.succ = (dat outs n V p c).owesAt none t.castSucc from rfl]
  isplitl [HΦ]; · iexact HΦ
  isplitl [HO]; · iexact HO
  iapply hpost; iexact H

/-- A block inside its array is filled whole. -/
theorem fill_cut {G : Pipeline.Grid} (w : Pipeline.Window sig G) (i : G.Coords) (h : ∀ a, w.clip i a = none) {α : Type} (d X : w.block.Idx → α) :
    w.fill i d (w.cut i X) = X := by
  funext j
  have hm : w.moved i j = true := (w.moved_iff i j).mpr fun a => by
    have : w.xsize i a = w.size a := by unfold Pipeline.Window.xsize; rw [h]
    rw [this]; exact (j a).isLt
  unfold Pipeline.Window.fill
  rw [dif_pos hm]

/-- An input block is as fetched at every point. -/
theorem before_of (n : ℕ) (V : Valuation τ sig (Elt F)) (p : Fin 10) (c : Dev nD) (w : Fin (pn (F := F) p).W)
    (hw : ((pn (F := F) p).win w).isOut = false) (hlive : ∀ i, (pn (F := F) p).idle w i = false)
    (hclip : ∀ i a, ((pn (F := F) p).win w).clip i a = none)
    (hcut : ∀ t, ((pn (F := F) p).win w).cut ((pn (F := F) p).grid.coords t) (outs p V w t) = iblk p V w t) (t d) :
    (dat outs n V p c).before w t d = outs p V w t :=
  ((dat outs n V p c).before_in_eq_fetched w hw hlive (fun _ _ _ => by funext a; rw [hclip, hclip]) (fun t => hcut t) t d).trans (by
    refine Eq.trans ?_ (fill_cut _ ((pn (F := F) p).grid.coords t) (hclip _) d (outs p V w t))
    rw [hcut]; rfl)

theorem ob0 (n : ℕ) (V : Valuation τ sig (Elt F)) (c : Dev nD) : BodyObligation (dat outs n V 0 c) (defs₀ (F := F)) 𝒱₀ none Set.univ :=
  body_ob n V 0 c (fun _ _ => rfl)
    (fun w hw t d => by
      match w with
      | ⟨0, _⟩ => exact before_of n V 0 c 0 rfl (fun _ => rfl) (fun _ _ => rfl) (fun _ => rfl) t d
      | ⟨1, _⟩ => exact before_of n V 0 c 1 rfl (fun _ => rfl) (fun _ _ => rfl) (fun _ => rfl) t d
      | ⟨2, _⟩ => exact before_of n V 0 c 2 rfl (fun _ => rfl) (fun _ _ => rfl) (fun _ => rfl) t d
      | ⟨3, _⟩ => exact nomatch hw
      | ⟨4, _⟩ => exact nomatch hw
    )
    fun t Q => BI.Entails.trans (BIClass.sep_mono (Entails.of_eq (bigSep_W0 _)) (wand_mono (Entails.of_eq (bigSep_W0 _).symm) .rfl))
      (embed_wp c (grid0.coords t) _ (hstage0_0 (((pn (F := F) 0).slots t 0).cast nbuf0_0)) _ (hstage0_1 (((pn (F := F) 0).slots t 1).cast nbuf0_1)) _ (hstage0_2 (((pn (F := F) 0).slots t 2).cast nbuf0_2)) _ (hstage0_3 (((pn (F := F) 0).slots t 3).cast nbuf0_3)) _ (hstage0_4 (((pn (F := F) 0).slots t 4).cast nbuf0_4)) (iblk 0 V 0 t) (iblk 0 V 1 t) (iblk 0 V 2 t) Q)

theorem ob2 (n : ℕ) (V : Valuation τ sig (Elt F)) (c : Dev nD) : BodyObligation (dat outs n V 1 c) (defs₀ (F := F)) 𝒱₀ none Set.univ :=
  body_ob n V 1 c (fun _ _ => rfl)
    (fun w hw t d => by
      match w with
      | ⟨0, _⟩ => exact before_of n V 1 c 0 rfl (fun _ => rfl) (fun _ _ => rfl) (fun _ => rfl) t d
      | ⟨1, _⟩ => exact before_of n V 1 c 1 rfl (fun _ => rfl) (fun _ _ => rfl) (fun _ => rfl) t d
      | ⟨2, _⟩ => exact before_of n V 1 c 2 rfl (fun _ => rfl) (fun _ _ => rfl) (fun _ => rfl) t d
      | ⟨3, _⟩ => exact before_of n V 1 c 3 rfl (fun _ => rfl) (fun _ _ => rfl) (fun _ => rfl) t d
      | ⟨4, _⟩ => exact before_of n V 1 c 4 rfl (fun _ => rfl) (fun _ _ => rfl) (fun _ => rfl) t d
      | ⟨5, _⟩ => exact before_of n V 1 c 5 rfl (fun _ => rfl) (fun _ _ => rfl) (fun _ => rfl) t d
      | ⟨6, _⟩ => exact before_of n V 1 c 6 rfl (fun _ => rfl) (fun _ _ => rfl) (fun _ => rfl) t d
      | ⟨7, _⟩ => exact before_of n V 1 c 7 rfl (fun _ => rfl) (fun _ _ => rfl) (fun _ => rfl) t d
      | ⟨8, _⟩ => exact before_of n V 1 c 8 rfl (fun _ => rfl) (fun _ _ => rfl) (fun _ => rfl) t d
      | ⟨9, _⟩ => exact before_of n V 1 c 9 rfl (fun _ => rfl) (fun _ _ => rfl) (fun _ => rfl) t d
      | ⟨10, _⟩ => exact nomatch hw
      | ⟨11, _⟩ => exact nomatch hw
    )
    fun t Q => BI.Entails.trans (BIClass.sep_mono (Entails.of_eq (bigSep_W2 _)) (wand_mono (Entails.of_eq (bigSep_W2 _).symm) .rfl))
      (msgA_wp c (grid2.coords t) _ (hstage2_0 (((pn (F := F) 1).slots t 0).cast nbuf2_0)) _ (hstage2_1 (((pn (F := F) 1).slots t 1).cast nbuf2_1)) _ (hstage2_2 (((pn (F := F) 1).slots t 2).cast nbuf2_2)) _ (hstage2_3 (((pn (F := F) 1).slots t 3).cast nbuf2_3)) _ (hstage2_4 (((pn (F := F) 1).slots t 4).cast nbuf2_4)) _ (hstage2_5 (((pn (F := F) 1).slots t 5).cast nbuf2_5)) _ (hstage2_6 (((pn (F := F) 1).slots t 6).cast nbuf2_6)) _ (hstage2_7 (((pn (F := F) 1).slots t 7).cast nbuf2_7)) _ (hstage2_8 (((pn (F := F) 1).slots t 8).cast nbuf2_8)) _ (hstage2_9 (((pn (F := F) 1).slots t 9).cast nbuf2_9)) _ (hstage2_10 (((pn (F := F) 1).slots t 10).cast nbuf2_10)) _ (hstage2_11 (((pn (F := F) 1).slots t 11).cast nbuf2_11)) (iblk 1 V 0 t) (iblk 1 V 1 t) (iblk 1 V 2 t) (iblk 1 V 3 t) (iblk 1 V 4 t) (iblk 1 V 5 t) (iblk 1 V 6 t) (iblk 1 V 7 t) (iblk 1 V 8 t) (iblk 1 V 9 t) Q)

theorem ob3 (n : ℕ) (V : Valuation τ sig (Elt F)) (c : Dev nD) : BodyObligation (dat outs n V 2 c) (defs₀ (F := F)) 𝒱₀ none Set.univ :=
  body_ob n V 2 c (fun _ _ => rfl)
    (fun w hw t d => by
      match w with
      | ⟨0, _⟩ => exact before_of n V 2 c 0 rfl (fun _ => rfl) (fun _ _ => rfl) (fun _ => rfl) t d
      | ⟨1, _⟩ => exact before_of n V 2 c 1 rfl (fun _ => rfl) (fun _ _ => rfl) (fun _ => rfl) t d
      | ⟨2, _⟩ => exact before_of n V 2 c 2 rfl (fun _ => rfl) (fun _ _ => rfl) (fun _ => rfl) t d
      | ⟨3, _⟩ => exact before_of n V 2 c 3 rfl (fun _ => rfl) (fun _ _ => rfl) (fun _ => rfl) t d
      | ⟨4, _⟩ => exact before_of n V 2 c 4 rfl (fun _ => rfl) (fun _ _ => rfl) (fun _ => rfl) t d
      | ⟨5, _⟩ => exact before_of n V 2 c 5 rfl (fun _ => rfl) (fun _ _ => rfl) (fun _ => rfl) t d
      | ⟨6, _⟩ => exact before_of n V 2 c 6 rfl (fun _ => rfl) (fun _ _ => rfl) (fun _ => rfl) t d
      | ⟨7, _⟩ => exact before_of n V 2 c 7 rfl (fun _ => rfl) (fun _ _ => rfl) (fun _ => rfl) t d
      | ⟨8, _⟩ => exact before_of n V 2 c 8 rfl (fun _ => rfl) (fun _ _ => rfl) (fun _ => rfl) t d
      | ⟨9, _⟩ => exact nomatch hw
    )
    fun t Q => BI.Entails.trans (BIClass.sep_mono (Entails.of_eq (bigSep_W3 _)) (wand_mono (Entails.of_eq (bigSep_W3 _).symm) .rfl))
      (msgG_wp c (grid3.coords t) _ (hstage3_0 (((pn (F := F) 2).slots t 0).cast nbuf3_0)) _ (hstage3_1 (((pn (F := F) 2).slots t 1).cast nbuf3_1)) _ (hstage3_2 (((pn (F := F) 2).slots t 2).cast nbuf3_2)) _ (hstage3_3 (((pn (F := F) 2).slots t 3).cast nbuf3_3)) _ (hstage3_4 (((pn (F := F) 2).slots t 4).cast nbuf3_4)) _ (hstage3_5 (((pn (F := F) 2).slots t 5).cast nbuf3_5)) _ (hstage3_6 (((pn (F := F) 2).slots t 6).cast nbuf3_6)) _ (hstage3_7 (((pn (F := F) 2).slots t 7).cast nbuf3_7)) _ (hstage3_8 (((pn (F := F) 2).slots t 8).cast nbuf3_8)) _ (hstage3_9 (((pn (F := F) 2).slots t 9).cast nbuf3_9)) (iblk 2 V 0 t) (iblk 2 V 1 t) (iblk 2 V 2 t) (iblk 2 V 3 t) (iblk 2 V 4 t) (iblk 2 V 5 t) (iblk 2 V 6 t) (iblk 2 V 7 t) (iblk 2 V 8 t) Q)

theorem ob5 (n : ℕ) (V : Valuation τ sig (Elt F)) (c : Dev nD) : BodyObligation (dat outs n V 3 c) (defs₀ (F := F)) 𝒱₀ none Set.univ :=
  body_ob n V 3 c (fun _ _ => rfl)
    (fun w hw t d => by
      match w with
      | ⟨0, _⟩ => exact before_of n V 3 c 0 rfl (fun _ => rfl) (fun _ _ => rfl) (fun _ => rfl) t d
      | ⟨1, _⟩ => exact before_of n V 3 c 1 rfl (fun _ => rfl) (fun _ _ => rfl) (fun _ => rfl) t d
      | ⟨2, _⟩ => exact before_of n V 3 c 2 rfl (fun _ => rfl) (fun _ _ => rfl) (fun _ => rfl) t d
      | ⟨3, _⟩ => exact before_of n V 3 c 3 rfl (fun _ => rfl) (fun _ _ => rfl) (fun _ => rfl) t d
      | ⟨4, _⟩ => exact before_of n V 3 c 4 rfl (fun _ => rfl) (fun _ _ => rfl) (fun _ => rfl) t d
      | ⟨5, _⟩ => exact before_of n V 3 c 5 rfl (fun _ => rfl) (fun _ _ => rfl) (fun _ => rfl) t d
      | ⟨6, _⟩ => exact before_of n V 3 c 6 rfl (fun _ => rfl) (fun _ _ => rfl) (fun _ => rfl) t d
      | ⟨7, _⟩ => exact before_of n V 3 c 7 rfl (fun _ => rfl) (fun _ _ => rfl) (fun _ => rfl) t d
      | ⟨8, _⟩ => exact before_of n V 3 c 8 rfl (fun _ => rfl) (fun _ _ => rfl) (fun _ => rfl) t d
      | ⟨9, _⟩ => exact before_of n V 3 c 9 rfl (fun _ => rfl) (fun _ _ => rfl) (fun _ => rfl) t d
      | ⟨10, _⟩ => exact nomatch hw
      | ⟨11, _⟩ => exact nomatch hw
    )
    fun t Q => BI.Entails.trans (BIClass.sep_mono (Entails.of_eq (bigSep_W5 _)) (wand_mono (Entails.of_eq (bigSep_W5 _).symm) .rfl))
      (msgA_wp c (grid5.coords t) _ (hstage5_0 (((pn (F := F) 3).slots t 0).cast nbuf5_0)) _ (hstage5_1 (((pn (F := F) 3).slots t 1).cast nbuf5_1)) _ (hstage5_2 (((pn (F := F) 3).slots t 2).cast nbuf5_2)) _ (hstage5_3 (((pn (F := F) 3).slots t 3).cast nbuf5_3)) _ (hstage5_4 (((pn (F := F) 3).slots t 4).cast nbuf5_4)) _ (hstage5_5 (((pn (F := F) 3).slots t 5).cast nbuf5_5)) _ (hstage5_6 (((pn (F := F) 3).slots t 6).cast nbuf5_6)) _ (hstage5_7 (((pn (F := F) 3).slots t 7).cast nbuf5_7)) _ (hstage5_8 (((pn (F := F) 3).slots t 8).cast nbuf5_8)) _ (hstage5_9 (((pn (F := F) 3).slots t 9).cast nbuf5_9)) _ (hstage5_10 (((pn (F := F) 3).slots t 10).cast nbuf5_10)) _ (hstage5_11 (((pn (F := F) 3).slots t 11).cast nbuf5_11)) (iblk 3 V 0 t) (iblk 3 V 1 t) (iblk 3 V 2 t) (iblk 3 V 3 t) (iblk 3 V 4 t) (iblk 3 V 5 t) (iblk 3 V 6 t) (iblk 3 V 7 t) (iblk 3 V 8 t) (iblk 3 V 9 t) Q)

theorem ob6 (n : ℕ) (V : Valuation τ sig (Elt F)) (c : Dev nD) : BodyObligation (dat outs n V 4 c) (defs₀ (F := F)) 𝒱₀ none Set.univ :=
  body_ob n V 4 c (fun _ _ => rfl)
    (fun w hw t d => by
      match w with
      | ⟨0, _⟩ => exact before_of n V 4 c 0 rfl (fun _ => rfl) (fun _ _ => rfl) (fun _ => rfl) t d
      | ⟨1, _⟩ => exact before_of n V 4 c 1 rfl (fun _ => rfl) (fun _ _ => rfl) (fun _ => rfl) t d
      | ⟨2, _⟩ => exact before_of n V 4 c 2 rfl (fun _ => rfl) (fun _ _ => rfl) (fun _ => rfl) t d
      | ⟨3, _⟩ => exact before_of n V 4 c 3 rfl (fun _ => rfl) (fun _ _ => rfl) (fun _ => rfl) t d
      | ⟨4, _⟩ => exact before_of n V 4 c 4 rfl (fun _ => rfl) (fun _ _ => rfl) (fun _ => rfl) t d
      | ⟨5, _⟩ => exact before_of n V 4 c 5 rfl (fun _ => rfl) (fun _ _ => rfl) (fun _ => rfl) t d
      | ⟨6, _⟩ => exact before_of n V 4 c 6 rfl (fun _ => rfl) (fun _ _ => rfl) (fun _ => rfl) t d
      | ⟨7, _⟩ => exact before_of n V 4 c 7 rfl (fun _ => rfl) (fun _ _ => rfl) (fun _ => rfl) t d
      | ⟨8, _⟩ => exact before_of n V 4 c 8 rfl (fun _ => rfl) (fun _ _ => rfl) (fun _ => rfl) t d
      | ⟨9, _⟩ => exact nomatch hw
    )
    fun t Q => BI.Entails.trans (BIClass.sep_mono (Entails.of_eq (bigSep_W6 _)) (wand_mono (Entails.of_eq (bigSep_W6 _).symm) .rfl))
      (msgG_wp c (grid6.coords t) _ (hstage6_0 (((pn (F := F) 4).slots t 0).cast nbuf6_0)) _ (hstage6_1 (((pn (F := F) 4).slots t 1).cast nbuf6_1)) _ (hstage6_2 (((pn (F := F) 4).slots t 2).cast nbuf6_2)) _ (hstage6_3 (((pn (F := F) 4).slots t 3).cast nbuf6_3)) _ (hstage6_4 (((pn (F := F) 4).slots t 4).cast nbuf6_4)) _ (hstage6_5 (((pn (F := F) 4).slots t 5).cast nbuf6_5)) _ (hstage6_6 (((pn (F := F) 4).slots t 6).cast nbuf6_6)) _ (hstage6_7 (((pn (F := F) 4).slots t 7).cast nbuf6_7)) _ (hstage6_8 (((pn (F := F) 4).slots t 8).cast nbuf6_8)) _ (hstage6_9 (((pn (F := F) 4).slots t 9).cast nbuf6_9)) (iblk 4 V 0 t) (iblk 4 V 1 t) (iblk 4 V 2 t) (iblk 4 V 3 t) (iblk 4 V 4 t) (iblk 4 V 5 t) (iblk 4 V 6 t) (iblk 4 V 7 t) (iblk 4 V 8 t) Q)

theorem ob8 (n : ℕ) (V : Valuation τ sig (Elt F)) (c : Dev nD) : BodyObligation (dat outs n V 5 c) (defs₀ (F := F)) 𝒱₀ none Set.univ :=
  body_ob n V 5 c (fun _ _ => rfl)
    (fun w hw t d => by
      match w with
      | ⟨0, _⟩ => exact before_of n V 5 c 0 rfl (fun _ => rfl) (fun _ _ => rfl) (fun _ => rfl) t d
      | ⟨1, _⟩ => exact before_of n V 5 c 1 rfl (fun _ => rfl) (fun _ _ => rfl) (fun _ => rfl) t d
      | ⟨2, _⟩ => exact before_of n V 5 c 2 rfl (fun _ => rfl) (fun _ _ => rfl) (fun _ => rfl) t d
      | ⟨3, _⟩ => exact before_of n V 5 c 3 rfl (fun _ => rfl) (fun _ _ => rfl) (fun _ => rfl) t d
      | ⟨4, _⟩ => exact before_of n V 5 c 4 rfl (fun _ => rfl) (fun _ _ => rfl) (fun _ => rfl) t d
      | ⟨5, _⟩ => exact before_of n V 5 c 5 rfl (fun _ => rfl) (fun _ _ => rfl) (fun _ => rfl) t d
      | ⟨6, _⟩ => exact before_of n V 5 c 6 rfl (fun _ => rfl) (fun _ _ => rfl) (fun _ => rfl) t d
      | ⟨7, _⟩ => exact before_of n V 5 c 7 rfl (fun _ => rfl) (fun _ _ => rfl) (fun _ => rfl) t d
      | ⟨8, _⟩ => exact before_of n V 5 c 8 rfl (fun _ => rfl) (fun _ _ => rfl) (fun _ => rfl) t d
      | ⟨9, _⟩ => exact before_of n V 5 c 9 rfl (fun _ => rfl) (fun _ _ => rfl) (fun _ => rfl) t d
      | ⟨10, _⟩ => exact nomatch hw
      | ⟨11, _⟩ => exact nomatch hw
    )
    fun t Q => BI.Entails.trans (BIClass.sep_mono (Entails.of_eq (bigSep_W8 _)) (wand_mono (Entails.of_eq (bigSep_W8 _).symm) .rfl))
      (msgA_wp c (grid8.coords t) _ (hstage8_0 (((pn (F := F) 5).slots t 0).cast nbuf8_0)) _ (hstage8_1 (((pn (F := F) 5).slots t 1).cast nbuf8_1)) _ (hstage8_2 (((pn (F := F) 5).slots t 2).cast nbuf8_2)) _ (hstage8_3 (((pn (F := F) 5).slots t 3).cast nbuf8_3)) _ (hstage8_4 (((pn (F := F) 5).slots t 4).cast nbuf8_4)) _ (hstage8_5 (((pn (F := F) 5).slots t 5).cast nbuf8_5)) _ (hstage8_6 (((pn (F := F) 5).slots t 6).cast nbuf8_6)) _ (hstage8_7 (((pn (F := F) 5).slots t 7).cast nbuf8_7)) _ (hstage8_8 (((pn (F := F) 5).slots t 8).cast nbuf8_8)) _ (hstage8_9 (((pn (F := F) 5).slots t 9).cast nbuf8_9)) _ (hstage8_10 (((pn (F := F) 5).slots t 10).cast nbuf8_10)) _ (hstage8_11 (((pn (F := F) 5).slots t 11).cast nbuf8_11)) (iblk 5 V 0 t) (iblk 5 V 1 t) (iblk 5 V 2 t) (iblk 5 V 3 t) (iblk 5 V 4 t) (iblk 5 V 5 t) (iblk 5 V 6 t) (iblk 5 V 7 t) (iblk 5 V 8 t) (iblk 5 V 9 t) Q)

theorem ob9 (n : ℕ) (V : Valuation τ sig (Elt F)) (c : Dev nD) : BodyObligation (dat outs n V 6 c) (defs₀ (F := F)) 𝒱₀ none Set.univ :=
  body_ob n V 6 c (fun _ _ => rfl)
    (fun w hw t d => by
      match w with
      | ⟨0, _⟩ => exact before_of n V 6 c 0 rfl (fun _ => rfl) (fun _ _ => rfl) (fun _ => rfl) t d
      | ⟨1, _⟩ => exact before_of n V 6 c 1 rfl (fun _ => rfl) (fun _ _ => rfl) (fun _ => rfl) t d
      | ⟨2, _⟩ => exact before_of n V 6 c 2 rfl (fun _ => rfl) (fun _ _ => rfl) (fun _ => rfl) t d
      | ⟨3, _⟩ => exact before_of n V 6 c 3 rfl (fun _ => rfl) (fun _ _ => rfl) (fun _ => rfl) t d
      | ⟨4, _⟩ => exact before_of n V 6 c 4 rfl (fun _ => rfl) (fun _ _ => rfl) (fun _ => rfl) t d
      | ⟨5, _⟩ => exact before_of n V 6 c 5 rfl (fun _ => rfl) (fun _ _ => rfl) (fun _ => rfl) t d
      | ⟨6, _⟩ => exact before_of n V 6 c 6 rfl (fun _ => rfl) (fun _ _ => rfl) (fun _ => rfl) t d
      | ⟨7, _⟩ => exact before_of n V 6 c 7 rfl (fun _ => rfl) (fun _ _ => rfl) (fun _ => rfl) t d
      | ⟨8, _⟩ => exact before_of n V 6 c 8 rfl (fun _ => rfl) (fun _ _ => rfl) (fun _ => rfl) t d
      | ⟨9, _⟩ => exact nomatch hw
    )
    fun t Q => BI.Entails.trans (BIClass.sep_mono (Entails.of_eq (bigSep_W9 _)) (wand_mono (Entails.of_eq (bigSep_W9 _).symm) .rfl))
      (msgG_wp c (grid9.coords t) _ (hstage9_0 (((pn (F := F) 6).slots t 0).cast nbuf9_0)) _ (hstage9_1 (((pn (F := F) 6).slots t 1).cast nbuf9_1)) _ (hstage9_2 (((pn (F := F) 6).slots t 2).cast nbuf9_2)) _ (hstage9_3 (((pn (F := F) 6).slots t 3).cast nbuf9_3)) _ (hstage9_4 (((pn (F := F) 6).slots t 4).cast nbuf9_4)) _ (hstage9_5 (((pn (F := F) 6).slots t 5).cast nbuf9_5)) _ (hstage9_6 (((pn (F := F) 6).slots t 6).cast nbuf9_6)) _ (hstage9_7 (((pn (F := F) 6).slots t 7).cast nbuf9_7)) _ (hstage9_8 (((pn (F := F) 6).slots t 8).cast nbuf9_8)) _ (hstage9_9 (((pn (F := F) 6).slots t 9).cast nbuf9_9)) (iblk 6 V 0 t) (iblk 6 V 1 t) (iblk 6 V 2 t) (iblk 6 V 3 t) (iblk 6 V 4 t) (iblk 6 V 5 t) (iblk 6 V 6 t) (iblk 6 V 7 t) (iblk 6 V 8 t) Q)

theorem ob11 (n : ℕ) (V : Valuation τ sig (Elt F)) (c : Dev nD) : BodyObligation (dat outs n V 7 c) (defs₀ (F := F)) 𝒱₀ none Set.univ :=
  body_ob n V 7 c (fun _ _ => rfl)
    (fun w hw t d => by
      match w with
      | ⟨0, _⟩ => exact before_of n V 7 c 0 rfl (fun _ => rfl) (fun _ _ => rfl) (fun _ => rfl) t d
      | ⟨1, _⟩ => exact before_of n V 7 c 1 rfl (fun _ => rfl) (fun _ _ => rfl) (fun _ => rfl) t d
      | ⟨2, _⟩ => exact before_of n V 7 c 2 rfl (fun _ => rfl) (fun _ _ => rfl) (fun _ => rfl) t d
      | ⟨3, _⟩ => exact before_of n V 7 c 3 rfl (fun _ => rfl) (fun _ _ => rfl) (fun _ => rfl) t d
      | ⟨4, _⟩ => exact before_of n V 7 c 4 rfl (fun _ => rfl) (fun _ _ => rfl) (fun _ => rfl) t d
      | ⟨5, _⟩ => exact before_of n V 7 c 5 rfl (fun _ => rfl) (fun _ _ => rfl) (fun _ => rfl) t d
      | ⟨6, _⟩ => exact before_of n V 7 c 6 rfl (fun _ => rfl) (fun _ _ => rfl) (fun _ => rfl) t d
      | ⟨7, _⟩ => exact before_of n V 7 c 7 rfl (fun _ => rfl) (fun _ _ => rfl) (fun _ => rfl) t d
      | ⟨8, _⟩ => exact before_of n V 7 c 8 rfl (fun _ => rfl) (fun _ _ => rfl) (fun _ => rfl) t d
      | ⟨9, _⟩ => exact before_of n V 7 c 9 rfl (fun _ => rfl) (fun _ _ => rfl) (fun _ => rfl) t d
      | ⟨10, _⟩ => exact nomatch hw
      | ⟨11, _⟩ => exact nomatch hw
    )
    fun t Q => BI.Entails.trans (BIClass.sep_mono (Entails.of_eq (bigSep_W11 _)) (wand_mono (Entails.of_eq (bigSep_W11 _).symm) .rfl))
      (msgA_wp c (grid11.coords t) _ (hstage11_0 (((pn (F := F) 7).slots t 0).cast nbuf11_0)) _ (hstage11_1 (((pn (F := F) 7).slots t 1).cast nbuf11_1)) _ (hstage11_2 (((pn (F := F) 7).slots t 2).cast nbuf11_2)) _ (hstage11_3 (((pn (F := F) 7).slots t 3).cast nbuf11_3)) _ (hstage11_4 (((pn (F := F) 7).slots t 4).cast nbuf11_4)) _ (hstage11_5 (((pn (F := F) 7).slots t 5).cast nbuf11_5)) _ (hstage11_6 (((pn (F := F) 7).slots t 6).cast nbuf11_6)) _ (hstage11_7 (((pn (F := F) 7).slots t 7).cast nbuf11_7)) _ (hstage11_8 (((pn (F := F) 7).slots t 8).cast nbuf11_8)) _ (hstage11_9 (((pn (F := F) 7).slots t 9).cast nbuf11_9)) _ (hstage11_10 (((pn (F := F) 7).slots t 10).cast nbuf11_10)) _ (hstage11_11 (((pn (F := F) 7).slots t 11).cast nbuf11_11)) (iblk 7 V 0 t) (iblk 7 V 1 t) (iblk 7 V 2 t) (iblk 7 V 3 t) (iblk 7 V 4 t) (iblk 7 V 5 t) (iblk 7 V 6 t) (iblk 7 V 7 t) (iblk 7 V 8 t) (iblk 7 V 9 t) Q)

theorem ob12 (n : ℕ) (V : Valuation τ sig (Elt F)) (c : Dev nD) : BodyObligation (dat outs n V 8 c) (defs₀ (F := F)) 𝒱₀ none Set.univ :=
  body_ob n V 8 c (fun _ _ => rfl)
    (fun w hw t d => by
      match w with
      | ⟨0, _⟩ => exact before_of n V 8 c 0 rfl (fun _ => rfl) (fun _ _ => rfl) (fun _ => rfl) t d
      | ⟨1, _⟩ => exact before_of n V 8 c 1 rfl (fun _ => rfl) (fun _ _ => rfl) (fun _ => rfl) t d
      | ⟨2, _⟩ => exact before_of n V 8 c 2 rfl (fun _ => rfl) (fun _ _ => rfl) (fun _ => rfl) t d
      | ⟨3, _⟩ => exact before_of n V 8 c 3 rfl (fun _ => rfl) (fun _ _ => rfl) (fun _ => rfl) t d
      | ⟨4, _⟩ => exact before_of n V 8 c 4 rfl (fun _ => rfl) (fun _ _ => rfl) (fun _ => rfl) t d
      | ⟨5, _⟩ => exact before_of n V 8 c 5 rfl (fun _ => rfl) (fun _ _ => rfl) (fun _ => rfl) t d
      | ⟨6, _⟩ => exact before_of n V 8 c 6 rfl (fun _ => rfl) (fun _ _ => rfl) (fun _ => rfl) t d
      | ⟨7, _⟩ => exact before_of n V 8 c 7 rfl (fun _ => rfl) (fun _ _ => rfl) (fun _ => rfl) t d
      | ⟨8, _⟩ => exact before_of n V 8 c 8 rfl (fun _ => rfl) (fun _ _ => rfl) (fun _ => rfl) t d
      | ⟨9, _⟩ => exact nomatch hw
    )
    fun t Q => BI.Entails.trans (BIClass.sep_mono (Entails.of_eq (bigSep_W12 _)) (wand_mono (Entails.of_eq (bigSep_W12 _).symm) .rfl))
      (msgG_wp c (grid12.coords t) _ (hstage12_0 (((pn (F := F) 8).slots t 0).cast nbuf12_0)) _ (hstage12_1 (((pn (F := F) 8).slots t 1).cast nbuf12_1)) _ (hstage12_2 (((pn (F := F) 8).slots t 2).cast nbuf12_2)) _ (hstage12_3 (((pn (F := F) 8).slots t 3).cast nbuf12_3)) _ (hstage12_4 (((pn (F := F) 8).slots t 4).cast nbuf12_4)) _ (hstage12_5 (((pn (F := F) 8).slots t 5).cast nbuf12_5)) _ (hstage12_6 (((pn (F := F) 8).slots t 6).cast nbuf12_6)) _ (hstage12_7 (((pn (F := F) 8).slots t 7).cast nbuf12_7)) _ (hstage12_8 (((pn (F := F) 8).slots t 8).cast nbuf12_8)) _ (hstage12_9 (((pn (F := F) 8).slots t 9).cast nbuf12_9)) (iblk 8 V 0 t) (iblk 8 V 1 t) (iblk 8 V 2 t) (iblk 8 V 3 t) (iblk 8 V 4 t) (iblk 8 V 5 t) (iblk 8 V 6 t) (iblk 8 V 7 t) (iblk 8 V 8 t) Q)

theorem ob13 (n : ℕ) (V : Valuation τ sig (Elt F)) (c : Dev nD) : BodyObligation (dat outs n V 9 c) (defs₀ (F := F)) 𝒱₀ none Set.univ :=
  body_ob n V 9 c (fun _ _ => rfl)
    (fun w hw t d => by
      match w with
      | ⟨0, _⟩ => exact before_of n V 9 c 0 rfl (fun _ => rfl) (fun _ _ => rfl) (fun _ => rfl) t d
      | ⟨1, _⟩ => exact before_of n V 9 c 1 rfl (fun _ => rfl) (fun _ _ => rfl) (fun _ => rfl) t d
      | ⟨2, _⟩ => exact nomatch hw
    )
    fun t Q => BI.Entails.trans (BIClass.sep_mono (Entails.of_eq (bigSep_W13 _)) (wand_mono (Entails.of_eq (bigSep_W13 _).symm) .rfl))
      (out_wp c (grid13.coords t) _ (hstage13_0 (((pn (F := F) 9).slots t 0).cast nbuf13_0)) _ (hstage13_1 (((pn (F := F) 9).slots t 1).cast nbuf13_1)) _ (hstage13_2 (((pn (F := F) 9).slots t 2).cast nbuf13_2)) (iblk 9 V 0 t) (iblk 9 V 1 t) Q)

theorem body (n : ℕ) (V : Valuation τ sig (Elt F)) : ∀ p c, BodyObligation (dat outs n V p c) (defs₀ (F := F)) 𝒱₀ none Set.univ
  | 0, c => ob0 n V c
  | 1, c => ob2 n V c
  | 2, c => ob3 n V c
  | 3, c => ob5 n V c
  | 4, c => ob6 n V c
  | 5, c => ob8 n V c
  | 6, c => ob9 n V c
  | 7, c => ob11 n V c
  | 8, c => ob12 n V c
  | 9, c => ob13 n V c

end Cert.Proof.Steps

end
-- ==== Proof.Main.lean ====
/-
  @main: its StableHLO operations, TensorCore calls and SparseCore calls in order, what every buffer holds after each, and
  the program's run.
-/
module

public import proofs.«01_k».proof.Proof.Launch
public import proofs.«01_k».proof.Proof.Steps

@[expose] public section

set_option maxRecDepth 16384

noncomputable section

namespace Cert.Proof.Main

open Cert.KernelIdeal Cert.KernelIdeal.Gen Cert.Proof.Tile Cert.Proof.Call Cert.Proof.Region Cert.Proof.Launch Cert.Proof.Steps
open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held wp_seq after launchContents)
open Idealize.ShloMosaic.Pipeline (ucRefs unscopedBufs_held)

variable {F : FTy → Type} [FloatOps F]

local notation "𝕄" => MT nD τ sig (HIx NQ) (Elt F) ℕ UU ℕ

/-! ## The StableHLO operations -/

noncomputable def ops0 : List (HloOp τ sig (Elt F)) :=
  [StableHlo.unary main_arg0 main_v0 (broadcastInDim S4096x1 ![0] bcast_S4096_S4096x1_0 : (⟨S4096, .i32⟩ : BufTy).Contents (Elt F) → (⟨S4096x1, .i32⟩ : BufTy).Contents (Elt F)),
   StableHlo.unary main_v0 main_v1 (broadcastInDim S4096x8 ![0, 1] bcast_S4096x1_S4096x8_0_1 : (⟨S4096x1, .i32⟩ : BufTy).Contents (Elt F) → (⟨S4096x8, .i32⟩ : BufTy).Contents (Elt F)),
   StableHlo.unary main_arg1 main_v2 ((transpose S4096x8 [1, 0] · transposes_S8x4096_S4096x8_1_0) : (⟨S8x4096, .i32⟩ : BufTy).Contents (Elt F) → (⟨S4096x8, .i32⟩ : BufTy).Contents (Elt F)),
   StableHlo.unary main_arg2 main_v3 ((transpose S2048x24 [1, 0] · transposes_S24x2048_S2048x24_1_0) : (⟨S24x2048, .i32⟩ : BufTy).Contents (Elt F) → (⟨S2048x24, .i32⟩ : BufTy).Contents (Elt F)),
   StableHlo.unary main_arg3 main_v4 ((transpose S4096x8x16 [2, 0, 1] · transposes_S8x16x4096_S4096x8x16_2_0_1) : (⟨S8x16x4096, .f32⟩ : BufTy).Contents (Elt F) → (⟨S4096x8x16, .f32⟩ : BufTy).Contents (Elt F)),
   StableHlo.unary main_arg4 main_v5 ((transpose S2048x24x16 [2, 0, 1] · transposes_S24x16x2048_S2048x24x16_2_0_1) : (⟨S24x16x2048, .f32⟩ : BufTy).Contents (Elt F) → (⟨S2048x24x16, .f32⟩ : BufTy).Contents (Elt F)),
   StableHlo.unary main_arg5 main_v6 ((transpose S4096x16 [1, 0] · transposes_S16x4096_S4096x16_1_0) : (⟨S16x4096, .f32⟩ : BufTy).Contents (Elt F) → (⟨S4096x16, .f32⟩ : BufTy).Contents (Elt F)),
   StableHlo.unary main_arg6 main_v7 ((transpose S2048x16 [1, 0] · transposes_S16x2048_S2048x16_1_0) : (⟨S16x2048, .f32⟩ : BufTy).Contents (Elt F) → (⟨S2048x16, .f32⟩ : BufTy).Contents (Elt F)),
   StableHlo.reshape main_v2 main_v8 (rfl : (.i32 : EltTy) = .i32) shapeCasts_S4096x8_S32768,
   StableHlo.reshape main_v3 main_v9 (rfl : (.i32 : EltTy) = .i32) shapeCasts_S2048x24_S49152,
   StableHlo.binary main_v8 main_v9 main_v10 ((fun a b => concatenate S81920 0 [⟨S32768, a⟩, ⟨S49152, b⟩] concatenates_S32768_S49152_S81920_d0) : (⟨S32768, .i32⟩ : BufTy).Contents (Elt F) → (⟨S49152, .i32⟩ : BufTy).Contents (Elt F) → (⟨S81920, .i32⟩ : BufTy).Contents (Elt F)),
   StableHlo.reshape main_v10 main_v11 (rfl : (.i32 : EltTy) = .i32) shapeCasts_S81920_S20x32x128,
   StableHlo.unary main_v11 main_v12 ((transpose S32x20x128 [1, 0, 2] · transposes_S20x32x128_S32x20x128_1_0_2) : (⟨S20x32x128, .i32⟩ : BufTy).Contents (Elt F) → (⟨S32x20x128, .i32⟩ : BufTy).Contents (Elt F)),
   StableHlo.unary main_arg8 main_v13 ((extractStridedSlice S1x128x128 ![0, 0, 0] · slices_S4x265x128_S1x128x128_0_0_0) : (⟨S4x265x128, .f32⟩ : BufTy).Contents (Elt F) → (⟨S1x128x128, .f32⟩ : BufTy).Contents (Elt F)),
   StableHlo.reshape main_v13 main_v14 (rfl : (.f32 : EltTy) = .f32) shapeCasts_S1x128x128_S128x128]

noncomputable def ops1 : List (HloOp τ sig (Elt F)) :=
  [StableHlo.nullary main_cst (constant S_ .f32 0x00000000#32),
   StableHlo.unary main_cst main_v16 (broadcastInDim S2048x128 ![] bcast_S_S2048x128 : (⟨S_, .f32⟩ : BufTy).Contents (Elt F) → (⟨S2048x128, .f32⟩ : BufTy).Contents (Elt F)),
   StableHlo.unary main_arg8 main_v17 ((extractStridedSlice S1x128x128 ![0, 128, 0] · slices_S4x265x128_S1x128x128_0_128_0) : (⟨S4x265x128, .f32⟩ : BufTy).Contents (Elt F) → (⟨S1x128x128, .f32⟩ : BufTy).Contents (Elt F)),
   StableHlo.reshape main_v17 main_v18 (rfl : (.f32 : EltTy) = .f32) shapeCasts_S1x128x128_S128x128,
   StableHlo.nullary main_cst_0 (constant S_ .f32 0x00000000#32),
   StableHlo.unary main_cst_0 main_v19 (broadcastInDim S16x128 ![] bcast_S_S16x128 : (⟨S_, .f32⟩ : BufTy).Contents (Elt F) → (⟨S16x128, .f32⟩ : BufTy).Contents (Elt F)),
   StableHlo.unary main_arg8 main_v20 ((extractStridedSlice S1x9x128 ![0, 256, 0] · slices_S4x265x128_S1x9x128_0_256_0) : (⟨S4x265x128, .f32⟩ : BufTy).Contents (Elt F) → (⟨S1x9x128, .f32⟩ : BufTy).Contents (Elt F)),
   StableHlo.reshape main_v20 main_v21 (rfl : (.f32 : EltTy) = .f32) shapeCasts_S1x9x128_S9x128,
   StableHlo.nullary main_c (constantI S_ 32 0#32),
   StableHlo.unary main_c main_v22 (broadcastInDim S1 ![] bcast_S_S1 : (⟨S_, .i32⟩ : BufTy).Contents (Elt F) → (⟨S1, .i32⟩ : BufTy).Contents (Elt F)),
   StableHlo.ternary main_v19 main_v22 main_v21 main_v23 ((fun x i u => Host.scatter scatter_S16x128_S1_S9x128_01_n_0_0 (fun _ b => b) x i u) : (⟨S16x128, .f32⟩ : BufTy).Contents (Elt F) → (⟨S1, .i32⟩ : BufTy).Contents (Elt F) → (⟨S9x128, .f32⟩ : BufTy).Contents (Elt F) → (⟨S16x128, .f32⟩ : BufTy).Contents (Elt F)),
   StableHlo.unary main_arg9 main_v24 ((extractStridedSlice S1x128x128 ![0, 0, 0] · slices_S4x265x128_S1x128x128_0_0_0) : (⟨S4x265x128, .f32⟩ : BufTy).Contents (Elt F) → (⟨S1x128x128, .f32⟩ : BufTy).Contents (Elt F)),
   StableHlo.reshape main_v24 main_v25 (rfl : (.f32 : EltTy) = .f32) shapeCasts_S1x128x128_S128x128,
   StableHlo.unary main_arg9 main_v26 ((extractStridedSlice S1x128x128 ![0, 128, 0] · slices_S4x265x128_S1x128x128_0_128_0) : (⟨S4x265x128, .f32⟩ : BufTy).Contents (Elt F) → (⟨S1x128x128, .f32⟩ : BufTy).Contents (Elt F)),
   StableHlo.reshape main_v26 main_v27 (rfl : (.f32 : EltTy) = .f32) shapeCasts_S1x128x128_S128x128,
   StableHlo.nullary main_cst_1 (constant S_ .f32 0x00000000#32),
   StableHlo.unary main_cst_1 main_v28 (broadcastInDim S16x128 ![] bcast_S_S16x128 : (⟨S_, .f32⟩ : BufTy).Contents (Elt F) → (⟨S16x128, .f32⟩ : BufTy).Contents (Elt F)),
   StableHlo.unary main_arg9 main_v29 ((extractStridedSlice S1x9x128 ![0, 256, 0] · slices_S4x265x128_S1x9x128_0_256_0) : (⟨S4x265x128, .f32⟩ : BufTy).Contents (Elt F) → (⟨S1x9x128, .f32⟩ : BufTy).Contents (Elt F)),
   StableHlo.reshape main_v29 main_v30 (rfl : (.f32 : EltTy) = .f32) shapeCasts_S1x9x128_S9x128,
   StableHlo.nullary main_c_2 (constantI S_ 32 0#32),
   StableHlo.unary main_c_2 main_v31 (broadcastInDim S1 ![] bcast_S_S1 : (⟨S_, .i32⟩ : BufTy).Contents (Elt F) → (⟨S1, .i32⟩ : BufTy).Contents (Elt F)),
   StableHlo.ternary main_v28 main_v31 main_v30 main_v32 ((fun x i u => Host.scatter scatter_S16x128_S1_S9x128_01_n_0_0 (fun _ b => b) x i u) : (⟨S16x128, .f32⟩ : BufTy).Contents (Elt F) → (⟨S1, .i32⟩ : BufTy).Contents (Elt F) → (⟨S9x128, .f32⟩ : BufTy).Contents (Elt F) → (⟨S16x128, .f32⟩ : BufTy).Contents (Elt F))]

noncomputable def ops2 : List (HloOp τ sig (Elt F)) :=
  [StableHlo.reshape main_v33_0 main_v34 (rfl : (.f32 : EltTy) = .f32) shapeCasts_S32768x128_S4096x8x128,
   StableHlo.reshape main_v33_1 main_v35 (rfl : (.f32 : EltTy) = .f32) shapeCasts_S49152x128_S2048x24x128,
   StableHlo.unary main_arg8 main_v36 ((extractStridedSlice S1x128x128 ![1, 0, 0] · slices_S4x265x128_S1x128x128_1_0_0) : (⟨S4x265x128, .f32⟩ : BufTy).Contents (Elt F) → (⟨S1x128x128, .f32⟩ : BufTy).Contents (Elt F)),
   StableHlo.reshape main_v36 main_v37 (rfl : (.f32 : EltTy) = .f32) shapeCasts_S1x128x128_S128x128]

noncomputable def ops3 : List (HloOp τ sig (Elt F)) :=
  [StableHlo.unary main_arg8 main_v40 ((extractStridedSlice S1x128x128 ![1, 128, 0] · slices_S4x265x128_S1x128x128_1_128_0) : (⟨S4x265x128, .f32⟩ : BufTy).Contents (Elt F) → (⟨S1x128x128, .f32⟩ : BufTy).Contents (Elt F)),
   StableHlo.reshape main_v40 main_v41 (rfl : (.f32 : EltTy) = .f32) shapeCasts_S1x128x128_S128x128,
   StableHlo.nullary main_cst_3 (constant S_ .f32 0x00000000#32),
   StableHlo.unary main_cst_3 main_v42 (broadcastInDim S16x128 ![] bcast_S_S16x128 : (⟨S_, .f32⟩ : BufTy).Contents (Elt F) → (⟨S16x128, .f32⟩ : BufTy).Contents (Elt F)),
   StableHlo.unary main_arg8 main_v43 ((extractStridedSlice S1x9x128 ![1, 256, 0] · slices_S4x265x128_S1x9x128_1_256_0) : (⟨S4x265x128, .f32⟩ : BufTy).Contents (Elt F) → (⟨S1x9x128, .f32⟩ : BufTy).Contents (Elt F)),
   StableHlo.reshape main_v43 main_v44 (rfl : (.f32 : EltTy) = .f32) shapeCasts_S1x9x128_S9x128,
   StableHlo.nullary main_c_4 (constantI S_ 32 0#32),
   StableHlo.unary main_c_4 main_v45 (broadcastInDim S1 ![] bcast_S_S1 : (⟨S_, .i32⟩ : BufTy).Contents (Elt F) → (⟨S1, .i32⟩ : BufTy).Contents (Elt F)),
   StableHlo.ternary main_v42 main_v45 main_v44 main_v46 ((fun x i u => Host.scatter scatter_S16x128_S1_S9x128_01_n_0_0 (fun _ b => b) x i u) : (⟨S16x128, .f32⟩ : BufTy).Contents (Elt F) → (⟨S1, .i32⟩ : BufTy).Contents (Elt F) → (⟨S9x128, .f32⟩ : BufTy).Contents (Elt F) → (⟨S16x128, .f32⟩ : BufTy).Contents (Elt F)),
   StableHlo.unary main_arg9 main_v47 ((extractStridedSlice S1x128x128 ![1, 0, 0] · slices_S4x265x128_S1x128x128_1_0_0) : (⟨S4x265x128, .f32⟩ : BufTy).Contents (Elt F) → (⟨S1x128x128, .f32⟩ : BufTy).Contents (Elt F)),
   StableHlo.reshape main_v47 main_v48 (rfl : (.f32 : EltTy) = .f32) shapeCasts_S1x128x128_S128x128,
   StableHlo.unary main_arg9 main_v49 ((extractStridedSlice S1x128x128 ![1, 128, 0] · slices_S4x265x128_S1x128x128_1_128_0) : (⟨S4x265x128, .f32⟩ : BufTy).Contents (Elt F) → (⟨S1x128x128, .f32⟩ : BufTy).Contents (Elt F)),
   StableHlo.reshape main_v49 main_v50 (rfl : (.f32 : EltTy) = .f32) shapeCasts_S1x128x128_S128x128,
   StableHlo.nullary main_cst_5 (constant S_ .f32 0x00000000#32),
   StableHlo.unary main_cst_5 main_v51 (broadcastInDim S16x128 ![] bcast_S_S16x128 : (⟨S_, .f32⟩ : BufTy).Contents (Elt F) → (⟨S16x128, .f32⟩ : BufTy).Contents (Elt F)),
   StableHlo.unary main_arg9 main_v52 ((extractStridedSlice S1x9x128 ![1, 256, 0] · slices_S4x265x128_S1x9x128_1_256_0) : (⟨S4x265x128, .f32⟩ : BufTy).Contents (Elt F) → (⟨S1x9x128, .f32⟩ : BufTy).Contents (Elt F)),
   StableHlo.reshape main_v52 main_v53 (rfl : (.f32 : EltTy) = .f32) shapeCasts_S1x9x128_S9x128,
   StableHlo.nullary main_c_6 (constantI S_ 32 0#32),
   StableHlo.unary main_c_6 main_v54 (broadcastInDim S1 ![] bcast_S_S1 : (⟨S_, .i32⟩ : BufTy).Contents (Elt F) → (⟨S1, .i32⟩ : BufTy).Contents (Elt F)),
   StableHlo.ternary main_v51 main_v54 main_v53 main_v55 ((fun x i u => Host.scatter scatter_S16x128_S1_S9x128_01_n_0_0 (fun _ b => b) x i u) : (⟨S16x128, .f32⟩ : BufTy).Contents (Elt F) → (⟨S1, .i32⟩ : BufTy).Contents (Elt F) → (⟨S9x128, .f32⟩ : BufTy).Contents (Elt F) → (⟨S16x128, .f32⟩ : BufTy).Contents (Elt F))]

noncomputable def ops4 : List (HloOp τ sig (Elt F)) :=
  [StableHlo.reshape main_v56_0 main_v57 (rfl : (.f32 : EltTy) = .f32) shapeCasts_S32768x128_S4096x8x128,
   StableHlo.reshape main_v56_1 main_v58 (rfl : (.f32 : EltTy) = .f32) shapeCasts_S49152x128_S2048x24x128,
   StableHlo.unary main_arg8 main_v59 ((extractStridedSlice S1x128x128 ![2, 0, 0] · slices_S4x265x128_S1x128x128_2_0_0) : (⟨S4x265x128, .f32⟩ : BufTy).Contents (Elt F) → (⟨S1x128x128, .f32⟩ : BufTy).Contents (Elt F)),
   StableHlo.reshape main_v59 main_v60 (rfl : (.f32 : EltTy) = .f32) shapeCasts_S1x128x128_S128x128]

noncomputable def ops5 : List (HloOp τ sig (Elt F)) :=
  [StableHlo.unary main_arg8 main_v63 ((extractStridedSlice S1x128x128 ![2, 128, 0] · slices_S4x265x128_S1x128x128_2_128_0) : (⟨S4x265x128, .f32⟩ : BufTy).Contents (Elt F) → (⟨S1x128x128, .f32⟩ : BufTy).Contents (Elt F)),
   StableHlo.reshape main_v63 main_v64 (rfl : (.f32 : EltTy) = .f32) shapeCasts_S1x128x128_S128x128,
   StableHlo.nullary main_cst_7 (constant S_ .f32 0x00000000#32),
   StableHlo.unary main_cst_7 main_v65 (broadcastInDim S16x128 ![] bcast_S_S16x128 : (⟨S_, .f32⟩ : BufTy).Contents (Elt F) → (⟨S16x128, .f32⟩ : BufTy).Contents (Elt F)),
   StableHlo.unary main_arg8 main_v66 ((extractStridedSlice S1x9x128 ![2, 256, 0] · slices_S4x265x128_S1x9x128_2_256_0) : (⟨S4x265x128, .f32⟩ : BufTy).Contents (Elt F) → (⟨S1x9x128, .f32⟩ : BufTy).Contents (Elt F)),
   StableHlo.reshape main_v66 main_v67 (rfl : (.f32 : EltTy) = .f32) shapeCasts_S1x9x128_S9x128,
   StableHlo.nullary main_c_8 (constantI S_ 32 0#32),
   StableHlo.unary main_c_8 main_v68 (broadcastInDim S1 ![] bcast_S_S1 : (⟨S_, .i32⟩ : BufTy).Contents (Elt F) → (⟨S1, .i32⟩ : BufTy).Contents (Elt F)),
   StableHlo.ternary main_v65 main_v68 main_v67 main_v69 ((fun x i u => Host.scatter scatter_S16x128_S1_S9x128_01_n_0_0 (fun _ b => b) x i u) : (⟨S16x128, .f32⟩ : BufTy).Contents (Elt F) → (⟨S1, .i32⟩ : BufTy).Contents (Elt F) → (⟨S9x128, .f32⟩ : BufTy).Contents (Elt F) → (⟨S16x128, .f32⟩ : BufTy).Contents (Elt F)),
   StableHlo.unary main_arg9 main_v70 ((extractStridedSlice S1x128x128 ![2, 0, 0] · slices_S4x265x128_S1x128x128_2_0_0) : (⟨S4x265x128, .f32⟩ : BufTy).Contents (Elt F) → (⟨S1x128x128, .f32⟩ : BufTy).Contents (Elt F)),
   StableHlo.reshape main_v70 main_v71 (rfl : (.f32 : EltTy) = .f32) shapeCasts_S1x128x128_S128x128,
   StableHlo.unary main_arg9 main_v72 ((extractStridedSlice S1x128x128 ![2, 128, 0] · slices_S4x265x128_S1x128x128_2_128_0) : (⟨S4x265x128, .f32⟩ : BufTy).Contents (Elt F) → (⟨S1x128x128, .f32⟩ : BufTy).Contents (Elt F)),
   StableHlo.reshape main_v72 main_v73 (rfl : (.f32 : EltTy) = .f32) shapeCasts_S1x128x128_S128x128,
   StableHlo.nullary main_cst_9 (constant S_ .f32 0x00000000#32),
   StableHlo.unary main_cst_9 main_v74 (broadcastInDim S16x128 ![] bcast_S_S16x128 : (⟨S_, .f32⟩ : BufTy).Contents (Elt F) → (⟨S16x128, .f32⟩ : BufTy).Contents (Elt F)),
   StableHlo.unary main_arg9 main_v75 ((extractStridedSlice S1x9x128 ![2, 256, 0] · slices_S4x265x128_S1x9x128_2_256_0) : (⟨S4x265x128, .f32⟩ : BufTy).Contents (Elt F) → (⟨S1x9x128, .f32⟩ : BufTy).Contents (Elt F)),
   StableHlo.reshape main_v75 main_v76 (rfl : (.f32 : EltTy) = .f32) shapeCasts_S1x9x128_S9x128,
   StableHlo.nullary main_c_10 (constantI S_ 32 0#32),
   StableHlo.unary main_c_10 main_v77 (broadcastInDim S1 ![] bcast_S_S1 : (⟨S_, .i32⟩ : BufTy).Contents (Elt F) → (⟨S1, .i32⟩ : BufTy).Contents (Elt F)),
   StableHlo.ternary main_v74 main_v77 main_v76 main_v78 ((fun x i u => Host.scatter scatter_S16x128_S1_S9x128_01_n_0_0 (fun _ b => b) x i u) : (⟨S16x128, .f32⟩ : BufTy).Contents (Elt F) → (⟨S1, .i32⟩ : BufTy).Contents (Elt F) → (⟨S9x128, .f32⟩ : BufTy).Contents (Elt F) → (⟨S16x128, .f32⟩ : BufTy).Contents (Elt F))]

noncomputable def ops6 : List (HloOp τ sig (Elt F)) :=
  [StableHlo.reshape main_v79_0 main_v80 (rfl : (.f32 : EltTy) = .f32) shapeCasts_S32768x128_S4096x8x128,
   StableHlo.reshape main_v79_1 main_v81 (rfl : (.f32 : EltTy) = .f32) shapeCasts_S49152x128_S2048x24x128,
   StableHlo.unary main_arg8 main_v82 ((extractStridedSlice S1x128x128 ![3, 0, 0] · slices_S4x265x128_S1x128x128_3_0_0) : (⟨S4x265x128, .f32⟩ : BufTy).Contents (Elt F) → (⟨S1x128x128, .f32⟩ : BufTy).Contents (Elt F)),
   StableHlo.reshape main_v82 main_v83 (rfl : (.f32 : EltTy) = .f32) shapeCasts_S1x128x128_S128x128]

noncomputable def ops7 : List (HloOp τ sig (Elt F)) :=
  [StableHlo.unary main_arg8 main_v86 ((extractStridedSlice S1x128x128 ![3, 128, 0] · slices_S4x265x128_S1x128x128_3_128_0) : (⟨S4x265x128, .f32⟩ : BufTy).Contents (Elt F) → (⟨S1x128x128, .f32⟩ : BufTy).Contents (Elt F)),
   StableHlo.reshape main_v86 main_v87 (rfl : (.f32 : EltTy) = .f32) shapeCasts_S1x128x128_S128x128,
   StableHlo.nullary main_cst_11 (constant S_ .f32 0x00000000#32),
   StableHlo.unary main_cst_11 main_v88 (broadcastInDim S16x128 ![] bcast_S_S16x128 : (⟨S_, .f32⟩ : BufTy).Contents (Elt F) → (⟨S16x128, .f32⟩ : BufTy).Contents (Elt F)),
   StableHlo.unary main_arg8 main_v89 ((extractStridedSlice S1x9x128 ![3, 256, 0] · slices_S4x265x128_S1x9x128_3_256_0) : (⟨S4x265x128, .f32⟩ : BufTy).Contents (Elt F) → (⟨S1x9x128, .f32⟩ : BufTy).Contents (Elt F)),
   StableHlo.reshape main_v89 main_v90 (rfl : (.f32 : EltTy) = .f32) shapeCasts_S1x9x128_S9x128,
   StableHlo.nullary main_c_12 (constantI S_ 32 0#32),
   StableHlo.unary main_c_12 main_v91 (broadcastInDim S1 ![] bcast_S_S1 : (⟨S_, .i32⟩ : BufTy).Contents (Elt F) → (⟨S1, .i32⟩ : BufTy).Contents (Elt F)),
   StableHlo.ternary main_v88 main_v91 main_v90 main_v92 ((fun x i u => Host.scatter scatter_S16x128_S1_S9x128_01_n_0_0 (fun _ b => b) x i u) : (⟨S16x128, .f32⟩ : BufTy).Contents (Elt F) → (⟨S1, .i32⟩ : BufTy).Contents (Elt F) → (⟨S9x128, .f32⟩ : BufTy).Contents (Elt F) → (⟨S16x128, .f32⟩ : BufTy).Contents (Elt F)),
   StableHlo.unary main_arg9 main_v93 ((extractStridedSlice S1x128x128 ![3, 0, 0] · slices_S4x265x128_S1x128x128_3_0_0) : (⟨S4x265x128, .f32⟩ : BufTy).Contents (Elt F) → (⟨S1x128x128, .f32⟩ : BufTy).Contents (Elt F)),
   StableHlo.reshape main_v93 main_v94 (rfl : (.f32 : EltTy) = .f32) shapeCasts_S1x128x128_S128x128,
   StableHlo.unary main_arg9 main_v95 ((extractStridedSlice S1x128x128 ![3, 128, 0] · slices_S4x265x128_S1x128x128_3_128_0) : (⟨S4x265x128, .f32⟩ : BufTy).Contents (Elt F) → (⟨S1x128x128, .f32⟩ : BufTy).Contents (Elt F)),
   StableHlo.reshape main_v95 main_v96 (rfl : (.f32 : EltTy) = .f32) shapeCasts_S1x128x128_S128x128,
   StableHlo.nullary main_cst_13 (constant S_ .f32 0x00000000#32),
   StableHlo.unary main_cst_13 main_v97 (broadcastInDim S16x128 ![] bcast_S_S16x128 : (⟨S_, .f32⟩ : BufTy).Contents (Elt F) → (⟨S16x128, .f32⟩ : BufTy).Contents (Elt F)),
   StableHlo.unary main_arg9 main_v98 ((extractStridedSlice S1x9x128 ![3, 256, 0] · slices_S4x265x128_S1x9x128_3_256_0) : (⟨S4x265x128, .f32⟩ : BufTy).Contents (Elt F) → (⟨S1x9x128, .f32⟩ : BufTy).Contents (Elt F)),
   StableHlo.reshape main_v98 main_v99 (rfl : (.f32 : EltTy) = .f32) shapeCasts_S1x9x128_S9x128,
   StableHlo.nullary main_c_14 (constantI S_ 32 0#32),
   StableHlo.unary main_c_14 main_v100 (broadcastInDim S1 ![] bcast_S_S1 : (⟨S_, .i32⟩ : BufTy).Contents (Elt F) → (⟨S1, .i32⟩ : BufTy).Contents (Elt F)),
   StableHlo.ternary main_v97 main_v100 main_v99 main_v101 ((fun x i u => Host.scatter scatter_S16x128_S1_S9x128_01_n_0_0 (fun _ b => b) x i u) : (⟨S16x128, .f32⟩ : BufTy).Contents (Elt F) → (⟨S1, .i32⟩ : BufTy).Contents (Elt F) → (⟨S9x128, .f32⟩ : BufTy).Contents (Elt F) → (⟨S16x128, .f32⟩ : BufTy).Contents (Elt F))]

noncomputable def ops8 : List (HloOp τ sig (Elt F)) :=
  [StableHlo.reshape main_v102_0 main_v103 (rfl : (.f32 : EltTy) = .f32) shapeCasts_S32768x128_S4096x8x128,
   StableHlo.reshape main_v102_1 main_v104 (rfl : (.f32 : EltTy) = .f32) shapeCasts_S49152x128_S2048x24x128,
   StableHlo.unary main_arg8 main_v105 ((extractStridedSlice S1x128x128 ![0, 0, 0] · slices_S4x265x128_S1x128x128_0_0_0) : (⟨S4x265x128, .f32⟩ : BufTy).Contents (Elt F) → (⟨S1x128x128, .f32⟩ : BufTy).Contents (Elt F)),
   StableHlo.reshape main_v105 main_v106 (rfl : (.f32 : EltTy) = .f32) shapeCasts_S1x128x128_S128x128]

noncomputable def ops9 : List (HloOp τ sig (Elt F)) :=
  [StableHlo.reshape main_v109 main_v110 (rfl : (.f32 : EltTy) = .f32) shapeCasts_S2048x32_S4x512x32]

theorem ops0_sub : ∀ op ∈ (ops0 : List (HloOp τ sig (Elt F))), op.bufs ⊆ StableHlo.tcRefs τ sig := by simp [ops0]
theorem ops0_fresh : ∀ op ∈ (ops0 : List (HloOp τ sig (Elt F))), op.fresh = ∅ :=
  List.forall_iff_forall_mem.mp (StableHlo.forall_fresh_of_map rfl)
theorem ops1_sub : ∀ op ∈ (ops1 : List (HloOp τ sig (Elt F))), op.bufs ⊆ StableHlo.tcRefs τ sig := by simp [ops1]
theorem ops1_fresh : ∀ op ∈ (ops1 : List (HloOp τ sig (Elt F))), op.fresh = ∅ :=
  List.forall_iff_forall_mem.mp (StableHlo.forall_fresh_of_map rfl)
theorem ops2_sub : ∀ op ∈ (ops2 : List (HloOp τ sig (Elt F))), op.bufs ⊆ StableHlo.tcRefs τ sig := by simp [ops2]
theorem ops2_fresh : ∀ op ∈ (ops2 : List (HloOp τ sig (Elt F))), op.fresh = ∅ :=
  List.forall_iff_forall_mem.mp (StableHlo.forall_fresh_of_map rfl)
theorem ops3_sub : ∀ op ∈ (ops3 : List (HloOp τ sig (Elt F))), op.bufs ⊆ StableHlo.tcRefs τ sig := by simp [ops3]
theorem ops3_fresh : ∀ op ∈ (ops3 : List (HloOp τ sig (Elt F))), op.fresh = ∅ :=
  List.forall_iff_forall_mem.mp (StableHlo.forall_fresh_of_map rfl)
theorem ops4_sub : ∀ op ∈ (ops4 : List (HloOp τ sig (Elt F))), op.bufs ⊆ StableHlo.tcRefs τ sig := by simp [ops4]
theorem ops4_fresh : ∀ op ∈ (ops4 : List (HloOp τ sig (Elt F))), op.fresh = ∅ :=
  List.forall_iff_forall_mem.mp (StableHlo.forall_fresh_of_map rfl)
theorem ops5_sub : ∀ op ∈ (ops5 : List (HloOp τ sig (Elt F))), op.bufs ⊆ StableHlo.tcRefs τ sig := by simp [ops5]
theorem ops5_fresh : ∀ op ∈ (ops5 : List (HloOp τ sig (Elt F))), op.fresh = ∅ :=
  List.forall_iff_forall_mem.mp (StableHlo.forall_fresh_of_map rfl)
theorem ops6_sub : ∀ op ∈ (ops6 : List (HloOp τ sig (Elt F))), op.bufs ⊆ StableHlo.tcRefs τ sig := by simp [ops6]
theorem ops6_fresh : ∀ op ∈ (ops6 : List (HloOp τ sig (Elt F))), op.fresh = ∅ :=
  List.forall_iff_forall_mem.mp (StableHlo.forall_fresh_of_map rfl)
theorem ops7_sub : ∀ op ∈ (ops7 : List (HloOp τ sig (Elt F))), op.bufs ⊆ StableHlo.tcRefs τ sig := by simp [ops7]
theorem ops7_fresh : ∀ op ∈ (ops7 : List (HloOp τ sig (Elt F))), op.fresh = ∅ :=
  List.forall_iff_forall_mem.mp (StableHlo.forall_fresh_of_map rfl)
theorem ops8_sub : ∀ op ∈ (ops8 : List (HloOp τ sig (Elt F))), op.bufs ⊆ StableHlo.tcRefs τ sig := by simp [ops8]
theorem ops8_fresh : ∀ op ∈ (ops8 : List (HloOp τ sig (Elt F))), op.fresh = ∅ :=
  List.forall_iff_forall_mem.mp (StableHlo.forall_fresh_of_map rfl)
theorem ops9_sub : ∀ op ∈ (ops9 : List (HloOp τ sig (Elt F))), op.bufs ⊆ StableHlo.tcRefs τ sig := by simp [ops9]
theorem ops9_fresh : ∀ op ∈ (ops9 : List (HloOp τ sig (Elt F))), op.fresh = ∅ :=
  List.forall_iff_forall_mem.mp (StableHlo.forall_fresh_of_map rfl)

/-! ## The program as a sequence of steps -/

/-- A run of StableHLO operations, a TensorCore call (with the number of SparseCore calls before it), or a SparseCore call. -/
inductive Step (F : FTy → Type) where
  | host (ops : List (HloOp τ sig (Elt F)))
  | tc (n : ℕ) (p : Fin 10)
  | sc (q : Fin NQ)

/-- @main's steps in order. -/
noncomputable def stepAt : ℕ → Step F
  | 0 => .host ops0
  | 1 => .tc 0 0
  | 2 => .host ops1
  | 3 => .sc 0
  | 4 => .host ops2
  | 5 => .tc 1 1
  | 6 => .tc 1 2
  | 7 => .host ops3
  | 8 => .sc 1
  | 9 => .host ops4
  | 10 => .tc 2 3
  | 11 => .tc 2 4
  | 12 => .host ops5
  | 13 => .sc 2
  | 14 => .host ops6
  | 15 => .tc 3 5
  | 16 => .tc 3 6
  | 17 => .host ops7
  | 18 => .sc 3
  | 19 => .host ops8
  | 20 => .tc 4 7
  | 21 => .tc 4 8
  | 22 => .tc 4 9
  | 23 => .host ops9
  | _ => .host []

/-- A step's effect on the buffers. -/
noncomputable def Step.apply (d : Dev nD) : Step F → Valuation τ sig (Elt F) → Valuation τ sig (Elt F)
  | .host ops, V => after ops V
  | .tc n p, V => regionV outs n p d V
  | .sc q, V => gatherV (calls q) V

/-- Steps `k`, `k + 1`, … (`j` of them) as a program. -/
noncomputable def prog (d : Dev nD) : ℕ → ℕ → Prog (TpuEff nD τ sig (Elt F) (SparseCore.Sig (ΛP (F := F)) 4) .tc) PUnit
  | 0, _ => pure ⟨⟩
  | j + 1, k => match stepAt (F := F) k with
    | .host ops => StableHlo.seqK ops (prog d j (k + 1))
    | .tc _ p => Prog.lift (.customCall (SparseCore.inner (Pipeline.entry p)) ()) >>= fun _ => prog d j (k + 1)
    | .sc q => (K (F := F)).run d q >>= fun _ => prog d j (k + 1)

theorem main_eq (d : Dev nD) : main (F := F) d = prog d 24 0 := rfl

/-- The SparseCore calls before step `k`, and the pipelines not yet run. -/
def nAt : ℕ → ℕ
  | 0 => 0
  | 1 => 0
  | 2 => 0
  | 3 => 0
  | 4 => 1
  | 5 => 1
  | 6 => 1
  | 7 => 1
  | 8 => 1
  | 9 => 2
  | 10 => 2
  | 11 => 2
  | 12 => 2
  | 13 => 2
  | 14 => 3
  | 15 => 3
  | 16 => 3
  | 17 => 3
  | 18 => 3
  | 19 => 4
  | 20 => 4
  | 21 => 4
  | 22 => 4
  | 23 => 4
  | _ => 4
def cAt : ℕ → ℕ
  | 0 => 0
  | 1 => 0
  | 2 => 1
  | 3 => 1
  | 4 => 1
  | 5 => 1
  | 6 => 2
  | 7 => 3
  | 8 => 3
  | 9 => 3
  | 10 => 3
  | 11 => 4
  | 12 => 5
  | 13 => 5
  | 14 => 5
  | 15 => 5
  | 16 => 6
  | 17 => 7
  | 18 => 7
  | 19 => 7
  | 20 => 7
  | 21 => 8
  | 22 => 9
  | 23 => 10
  | _ => 10
def sAt (k : ℕ) : Finset (Fin 10) := Finset.univ.filter fun p => cAt k ≤ p.val

variable (m : (ℓ : Loc nD τ sig) → Buf (Elt F) ℓ) (ρ : Dev nD → PrngReg)

/-- What device `d`'s buffers hold before step `k`. -/
noncomputable def V (d : Dev nD) : ℕ → Valuation τ sig (Elt F)
  | 0 => launchContents m d
  | k + 1 => (stepAt k).apply d (V d k)

/-- The step at which each SparseCore call runs. -/
def scStep : Fin NQ → ℕ | 0 => 3 | 1 => 8 | 2 => 13 | 3 => 18

noncomputable def lists (q : Fin NQ) (d : Dev nD) : S32x20x128.Idx → Elt F .i32 := listOf (calls q) (V m d (scStep q))
noncomputable def tabs (q : Fin NQ) (d : Dev nD) : STab.Idx → Elt F .f32 := tabOf (calls q) (V m d (scStep q))

/-- What a step needs. -/
def Good (d : Dev nD) (k : ℕ) : Prop := match stepAt (F := F) k with
  | .host ops => (∀ op ∈ ops, op.bufs ⊆ ucRefs τ sig ∧ op.fresh = ∅) ∧ nAt (k + 1) = nAt k ∧ sAt (k + 1) = sAt k
  | .tc n p => nAt k = n ∧ p ∈ sAt k ∧ nAt (k + 1) = nAt k ∧ sAt (k + 1) = (sAt k).erase p
  | .sc q => nAt k = q.val ∧ nAt (k + 1) = q.val + 1 ∧ sAt (k + 1) = sAt k ∧ lists m q d = listOf (calls q) (V m d k) ∧ tabs m q d = tabOf (calls q) (V m d k)

theorem good (d : Dev nD) : ∀ k, k < 24 → Good m d k
  | 0, _ => ⟨fun op h => ⟨Pipeline.sub_ucRefs _ (ops0_sub op h), ops0_fresh op h⟩, rfl, rfl⟩
  | 1, _ => ⟨rfl, by decide, rfl, by decide⟩
  | 2, _ => ⟨fun op h => ⟨Pipeline.sub_ucRefs _ (ops1_sub op h), ops1_fresh op h⟩, rfl, rfl⟩
  | 3, _ => ⟨rfl, rfl, rfl, rfl, rfl⟩
  | 4, _ => ⟨fun op h => ⟨Pipeline.sub_ucRefs _ (ops2_sub op h), ops2_fresh op h⟩, rfl, rfl⟩
  | 5, _ => ⟨rfl, by decide, rfl, by decide⟩
  | 6, _ => ⟨rfl, by decide, rfl, by decide⟩
  | 7, _ => ⟨fun op h => ⟨Pipeline.sub_ucRefs _ (ops3_sub op h), ops3_fresh op h⟩, rfl, rfl⟩
  | 8, _ => ⟨rfl, rfl, rfl, rfl, rfl⟩
  | 9, _ => ⟨fun op h => ⟨Pipeline.sub_ucRefs _ (ops4_sub op h), ops4_fresh op h⟩, rfl, rfl⟩
  | 10, _ => ⟨rfl, by decide, rfl, by decide⟩
  | 11, _ => ⟨rfl, by decide, rfl, by decide⟩
  | 12, _ => ⟨fun op h => ⟨Pipeline.sub_ucRefs _ (ops5_sub op h), ops5_fresh op h⟩, rfl, rfl⟩
  | 13, _ => ⟨rfl, rfl, rfl, rfl, rfl⟩
  | 14, _ => ⟨fun op h => ⟨Pipeline.sub_ucRefs _ (ops6_sub op h), ops6_fresh op h⟩, rfl, rfl⟩
  | 15, _ => ⟨rfl, by decide, rfl, by decide⟩
  | 16, _ => ⟨rfl, by decide, rfl, by decide⟩
  | 17, _ => ⟨fun op h => ⟨Pipeline.sub_ucRefs _ (ops7_sub op h), ops7_fresh op h⟩, rfl, rfl⟩
  | 18, _ => ⟨rfl, rfl, rfl, rfl, rfl⟩
  | 19, _ => ⟨fun op h => ⟨Pipeline.sub_ucRefs _ (ops8_sub op h), ops8_fresh op h⟩, rfl, rfl⟩
  | 20, _ => ⟨rfl, by decide, rfl, by decide⟩
  | 21, _ => ⟨rfl, by decide, rfl, by decide⟩
  | 22, _ => ⟨rfl, by decide, rfl, by decide⟩
  | 23, _ => ⟨fun op h => ⟨Pipeline.sub_ucRefs _ (ops9_sub op h), ops9_fresh op h⟩, rfl, rfl⟩
  | k + 24, h => absurd h (by omega)

theorem wp_steps (κ : GSem nD τ sig → ℕ) (d : Dev nD) : ∀ j k, k + j = 24 →
    iprop((K (F := F)).ctx EH (P (lists m) (tabs m)) κ ∗ (K (F := F)).tcSt EH d (nAt k) ∗ (boundary (SparseCore.T d) ∗ held (d.tc : Thread nD τ) (ucRefs τ sig) (V m d k) ∗ ∃ r, prngReg d r)
        ∗ bigSep (sAt k) fun p => ghost (F := F) d p)
      ⊢ wp frame (wpE ((K (F := F)).defs (D (F := F))) 𝒱 (SparseCore.T d) none) Set.univ (prog d j k)
          fun _ => iprop((K (F := F)).tcSt EH d NQ ∗ boundary (SparseCore.T d) ∗ held (d.tc : Thread nD τ) (ucRefs τ sig) (V m d 24))
  | 0, k, h => by
    obtain rfl : k = 24 := by omega
    unfold prog
    rw [wp_pure]
    iintro ⟨#Hctx, Hst, ⟨Hb, Hh, Hp⟩, Hg⟩
    imodintro
    isplitl [Hst]; · iexact Hst
    isplitl [Hb] <;> iassumption
  | j + 1, k, h => by
    have hg := good m d k (by omega)
    have ih := wp_steps κ d j (k + 1) (by omega)
    unfold Good at hg
    unfold prog
    rcases hs : stepAt (F := F) k with ops | ⟨n, p⟩ | q
    · rw [hs] at hg
      obtain ⟨hg, hn, hS⟩ := hg
      have hV : V m d (k + 1) = after ops (V m d k) := by simp only [V, hs, Step.apply]
      rw [hn, hS, hV] at ih
      show _ ⊢ wp _ _ _ (StableHlo.seqK ops (prog d j (k + 1))) _
      rw [← StableHlo.seq_bind_seqK]
      iintro ⟨#Hctx, Hst, ⟨Hb, Hh, Hp⟩, Hg⟩
      iapply (wp_seq 𝒱 none Set.univ d (ucRefs τ sig) _ ops (fun op h => (hg op h).1) (fun op h => (hg op h).2) (V m d k)) $$ [Hb Hh]
      · isplitl [Hb] <;> iassumption
      iintro ⟨Hb, Hh⟩
      iapply ih
      isplitr; · iexact Hctx
      isplitl [Hst]; · iexact Hst
      isplitr [Hg]; swap; · iexact Hg
      isplitl [Hb]; · iexact Hb
      isplitl [Hh] <;> iassumption
    · rw [hs] at hg
      obtain ⟨rfl, hp, hn, hS⟩ := hg
      have hV : V m d (k + 1) = regionV outs (nAt k) p d (V m d k) := by simp only [V, hs, Step.apply]
      rw [hn, hS, hV] at ih
      show _ ⊢ wp _ _ _ (Prog.lift (.customCall (SparseCore.inner (Pipeline.entry p)) ()) >>= fun _ => prog d j (k + 1)) _
      rw [wp_bind, SparseCore.bigSep_erase' hp]
      iintro ⟨#Hctx, Hst, Hr, Hg, Hgs⟩
      iapply (wp_region (P := P (lists m) (tabs m)) outs κ d (nAt k) (V m d k) p (Steps.body (nAt k) (V m d k) p)) $$ [Hst Hr Hg Hgs]
      isplitr; · iexact Hctx
      isplitl [Hst]; · iexact Hst
      isplitl [Hr]; · iexact Hr
      isplitl [Hg]; · iexact Hg
      iintro ⟨Hst, Hr⟩
      iapply ih
      isplitr; · iexact Hctx
      isplitl [Hst]; · iexact Hst
      isplitl [Hr] <;> iassumption
    · rw [hs] at hg
      obtain ⟨hq, hn, hS, hl, ht⟩ := hg
      have hV : V m d (k + 1) = gatherV (calls q) (V m d k) := by simp only [V, hs, Step.apply]
      rw [hn, hS, hV] at ih
      show _ ⊢ wp _ _ _ ((K (F := F)).run d q >>= fun _ => prog d j (k + 1)) _
      rw [wp_bind, hq]
      iintro ⟨#Hctx, Hst, ⟨Hb, Hh, Hp⟩, Hg⟩
      iapply (wp_gather (lists m) (tabs m) κ d q (V m d k) hl ht) $$ [Hst Hh Hb Hp Hg]
      isplitr; · iexact Hctx
      isplitl [Hst]; · iexact Hst
      isplitl [Hh]; · iexact Hh
      iintro ⟨Hst, Hh⟩
      iapply ih
      isplitr; · iexact Hctx
      isplitl [Hst]; · iexact Hst
      isplitr [Hg]; swap; · iexact Hg
      isplitl [Hb]; · iexact Hb
      isplitl [Hh] <;> iassumption

/-! ## The program's run -/

noncomputable abbrev FIN (d : Dev nD) : sProp 𝕄 := held (d.tc : Thread nD τ) (ucRefs τ sig) (V m d 24)

theorem hmain (κ : GSem nD τ sig → ℕ) (d : Dev nD) :
    iprop((K (F := F)).ctx EH (P (lists m) (tabs m)) κ ∗ (K (F := F)).tcSt EH d 0 ∗ (K (F := F)).tcRes m ρ d ∗ bigSep Finset.univ fun p => ghost (F := F) d p)
      ⊢ wp frame (wpE ((K (F := F)).defs (D (F := F))) 𝒱 (SparseCore.T d) none) Set.univ (main d)
          fun _ => iprop((K (F := F)).tcSt EH d NQ ∗ FIN m d ∗ (K (F := F)).tcEnd d) := by
  unfold SparseCore.Cfg.tcRes SparseCore.Cfg.tcEnd
  have hu : (unscopedBufs d (fun b => m ((SparseCore.T d).loc b)) : sProp 𝕄) = held (d.tc : Thread nD τ) (ucRefs τ sig) (launchContents m d) :=
    unscopedBufs_held d (launchContents m d)
  rw [hu, main_eq]
  iintro ⟨#Hctx, Hst, ⟨Hb, Hh, Hts, Hp⟩, Hg⟩
  iapply (wp_wand_r frame)
  isplitl [Hst Hb Hh Hp Hg]
  · iapply (wp_steps m κ d 24 0 rfl)
    isplitr; · iexact Hctx
    isplitl [Hst]; · iexact Hst
    isplitr [Hg]; swap; · iexact Hg
    isplitl [Hb]; · iexact Hb
    isplitl [Hh]; · iexact Hh
    iexists _; iexact Hp
  iintro %_ ⟨Hst, Hb, Hh⟩
  isplitl [Hst]; · iexact Hst
  isplitl [Hh]; · iexact Hh
  isplitl [Hb] <;> iassumption

def fq (d : Dev nD) (s' : Phys nD τ sig (Elt F)) : Prop := ∀ b ∈ ucRefs τ sig, s'.mem.mem (d, b) = V m d 24 b

theorem hfin (d : Dev nD) (s' : Phys nD τ sig (Elt F)) : iprop(FIN m d ∗ SI s') ⊢ (⌜fq m d s'⌝ : sProp 𝕄) := by
  refine (show iprop((bigSep (ucRefs τ sig) fun b => ((d, b) : Loc nD τ sig) ↦{fullShare} V m d 24 b) ∗ SI s') ⊢ _ from ?_)
  iintro ⟨H, HSI⟩
  iapply (SI_pointsTo_bufs_agree (qs := fun _ => fullShare) (F := V m d 24) (c := d) (ucRefs τ sig))
  isplitl [HSI]; · iexact HSI
  iexact H

/-- The neighbour lists name atoms. -/
def PreOK : Prop := ListOK (lists m)

def QC : PUnit × MemSt nD τ sig (Elt F) → Prop := fun r => (∀ c : Dev nD, ∀ b ∈ ucRefs τ sig, r.2.mem (c, b) = V m c 24 b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (lists m) (tabs m)) (A := ∅) facts v₀
    (fun q hq => match q with | 0 => nomatch hq | 1 => nomatch hq | 2 => nomatch hq | 3 => nomatch hq)
    (fun q _ => tileObl _ _ hpre q)
    (fun q _ => SparseCore.Cfg.VecSplit.of_plain (vecSplit _ _ q))
    m ρ main (fun d => bigSep Finset.univ fun p => ghost (F := F) d p) (FIN m) (u₀ (F := F)) (sep_elim_left.trans (hu₀ _ _)) (hmain m ρ) (fq m) (hfin m) (QC m) (fun _ h hz => ⟨h, hz⟩)

/-! ## What a step leaves alone -/

/-- A TensorCore call changes its outputs' arrays only. -/
theorem region_keep (n : ℕ) (p : Fin 10) (d : Dev nD) (V : Valuation τ sig (Elt F)) (r : Ref sig .tc)
    (h : ∀ w, ((pn (F := F) p).win w).isOut = true → Pipeline.arrRef (pn (F := F) p).spec w ≠ r) :
    regionV outs n p d V (Proc.devRef .tc r) = V (Proc.devRef .tc r) := by
  by_cases hr : ∃ w, Pipeline.arrRef (pn (F := F) p).spec w = r
  · obtain ⟨w, rfl⟩ := hr
    rw [regionV_arr]
    rcases hw : ((pn (F := F) p).win w).isOut with _ | _
    · exact Pipeline.Dat.arrAt_in _ w hw _
    · exact absurd rfl (h w hw)
  · exact regionV_of_ne outs n p d V r fun w e => hr ⟨w, e⟩

/-- A SparseCore call changes its two results' arrays only. -/
theorem gather_keep (q : Fin NQ) (V : Valuation τ sig (Elt F)) (r : Ref sig .tc)
    (h : Proc.devRef .tc r ≠ refA (calls q) ∧ Proc.devRef .tc r ≠ refG (calls q)) : gatherV (calls q) V (Proc.devRef .tc r) = V (Proc.devRef .tc r) :=
  gatherV_of_ne _ _ h.1 h.2

/-- What step `k` may change. -/
def wr : ℕ → List (Ref sig .tc)
  | 0 => [main_v0, main_v1, main_v2, main_v3, main_v4, main_v5, main_v6, main_v7, main_v8, main_v9, main_v10, main_v11, main_v12, main_v13, main_v14]
  | 1 => [main_v15_0, main_v15_1]
  | 2 => [main_cst, main_v16, main_v17, main_v18, main_cst_0, main_v19, main_v20, main_v21, main_c, main_v22, main_v23, main_v24, main_v25, main_v26, main_v27, main_cst_1, main_v28, main_v29, main_v30, main_c_2, main_v31, main_v32]
  | 3 => [main_v33_0, main_v33_1]
  | 4 => [main_v34, main_v35, main_v36, main_v37]
  | 5 => [main_v38_0, main_v38_1]
  | 6 => [main_v39]
  | 7 => [main_v40, main_v41, main_cst_3, main_v42, main_v43, main_v44, main_c_4, main_v45, main_v46, main_v47, main_v48, main_v49, main_v50, main_cst_5, main_v51, main_v52, main_v53, main_c_6, main_v54, main_v55]
  | 8 => [main_v56_0, main_v56_1]
  | 9 => [main_v57, main_v58, main_v59, main_v60]
  | 10 => [main_v61_0, main_v61_1]
  | 11 => [main_v62]
  | 12 => [main_v63, main_v64, main_cst_7, main_v65, main_v66, main_v67, main_c_8, main_v68, main_v69, main_v70, main_v71, main_v72, main_v73, main_cst_9, main_v74, main_v75, main_v76, main_c_10, main_v77, main_v78]
  | 13 => [main_v79_0, main_v79_1]
  | 14 => [main_v80, main_v81, main_v82, main_v83]
  | 15 => [main_v84_0, main_v84_1]
  | 16 => [main_v85]
  | 17 => [main_v86, main_v87, main_cst_11, main_v88, main_v89, main_v90, main_c_12, main_v91, main_v92, main_v93, main_v94, main_v95, main_v96, main_cst_13, main_v97, main_v98, main_v99, main_c_14, main_v100, main_v101]
  | 18 => [main_v102_0, main_v102_1]
  | 19 => [main_v103, main_v104, main_v105, main_v106]
  | 20 => [main_v107_0, main_v107_1]
  | 21 => [main_v108]
  | 22 => [main_v109]
  | 23 => [main_v110]
  | _ => []

theorem outs0 (r : Ref sig .tc) (h : r ∉ [main_v15_0, main_v15_1]) : ∀ w, ((pn (F := F) 0).win w).isOut = true → Pipeline.arrRef (pn (F := F) 0).spec w ≠ r
  | ⟨0, _⟩, e => nomatch e
  | ⟨1, _⟩, e => nomatch e
  | ⟨2, _⟩, e => nomatch e
  | ⟨3, _⟩, _ => fun e => h (by rw [← e]; exact List.mem_cons_self)
  | ⟨4, _⟩, _ => fun e => h (by rw [← e]; exact List.mem_cons_of_mem _ List.mem_cons_self)
theorem outs1 (r : Ref sig .tc) (h : r ∉ [main_v38_0, main_v38_1]) : ∀ w, ((pn (F := F) 1).win w).isOut = true → Pipeline.arrRef (pn (F := F) 1).spec w ≠ r
  | ⟨0, _⟩, e => nomatch e
  | ⟨1, _⟩, e => nomatch e
  | ⟨2, _⟩, e => nomatch e
  | ⟨3, _⟩, e => nomatch e
  | ⟨4, _⟩, e => nomatch e
  | ⟨5, _⟩, e => nomatch e
  | ⟨6, _⟩, e => nomatch e
  | ⟨7, _⟩, e => nomatch e
  | ⟨8, _⟩, e => nomatch e
  | ⟨9, _⟩, e => nomatch e
  | ⟨10, _⟩, _ => fun e => h (by rw [← e]; exact List.mem_cons_self)
  | ⟨11, _⟩, _ => fun e => h (by rw [← e]; exact List.mem_cons_of_mem _ List.mem_cons_self)
theorem outs2 (r : Ref sig .tc) (h : r ∉ [main_v39]) : ∀ w, ((pn (F := F) 2).win w).isOut = true → Pipeline.arrRef (pn (F := F) 2).spec w ≠ r
  | ⟨0, _⟩, e => nomatch e
  | ⟨1, _⟩, e => nomatch e
  | ⟨2, _⟩, e => nomatch e
  | ⟨3, _⟩, e => nomatch e
  | ⟨4, _⟩, e => nomatch e
  | ⟨5, _⟩, e => nomatch e
  | ⟨6, _⟩, e => nomatch e
  | ⟨7, _⟩, e => nomatch e
  | ⟨8, _⟩, e => nomatch e
  | ⟨9, _⟩, _ => fun e => h (by rw [← e]; exact List.mem_cons_self)
theorem outs3 (r : Ref sig .tc) (h : r ∉ [main_v61_0, main_v61_1]) : ∀ w, ((pn (F := F) 3).win w).isOut = true → Pipeline.arrRef (pn (F := F) 3).spec w ≠ r
  | ⟨0, _⟩, e => nomatch e
  | ⟨1, _⟩, e => nomatch e
  | ⟨2, _⟩, e => nomatch e
  | ⟨3, _⟩, e => nomatch e
  | ⟨4, _⟩, e => nomatch e
  | ⟨5, _⟩, e => nomatch e
  | ⟨6, _⟩, e => nomatch e
  | ⟨7, _⟩, e => nomatch e
  | ⟨8, _⟩, e => nomatch e
  | ⟨9, _⟩, e => nomatch e
  | ⟨10, _⟩, _ => fun e => h (by rw [← e]; exact List.mem_cons_self)
  | ⟨11, _⟩, _ => fun e => h (by rw [← e]; exact List.mem_cons_of_mem _ List.mem_cons_self)
theorem outs4 (r : Ref sig .tc) (h : r ∉ [main_v62]) : ∀ w, ((pn (F := F) 4).win w).isOut = true → Pipeline.arrRef (pn (F := F) 4).spec w ≠ r
  | ⟨0, _⟩, e => nomatch e
  | ⟨1, _⟩, e => nomatch e
  | ⟨2, _⟩, e => nomatch e
  | ⟨3, _⟩, e => nomatch e
  | ⟨4, _⟩, e => nomatch e
  | ⟨5, _⟩, e => nomatch e
  | ⟨6, _⟩, e => nomatch e
  | ⟨7, _⟩, e => nomatch e
  | ⟨8, _⟩, e => nomatch e
  | ⟨9, _⟩, _ => fun e => h (by rw [← e]; exact List.mem_cons_self)
theorem outs5 (r : Ref sig .tc) (h : r ∉ [main_v84_0, main_v84_1]) : ∀ w, ((pn (F := F) 5).win w).isOut = true → Pipeline.arrRef (pn (F := F) 5).spec w ≠ r
  | ⟨0, _⟩, e => nomatch e
  | ⟨1, _⟩, e => nomatch e
  | ⟨2, _⟩, e => nomatch e
  | ⟨3, _⟩, e => nomatch e
  | ⟨4, _⟩, e => nomatch e
  | ⟨5, _⟩, e => nomatch e
  | ⟨6, _⟩, e => nomatch e
  | ⟨7, _⟩, e => nomatch e
  | ⟨8, _⟩, e => nomatch e
  | ⟨9, _⟩, e => nomatch e
  | ⟨10, _⟩, _ => fun e => h (by rw [← e]; exact List.mem_cons_self)
  | ⟨11, _⟩, _ => fun e => h (by rw [← e]; exact List.mem_cons_of_mem _ List.mem_cons_self)
theorem outs6 (r : Ref sig .tc) (h : r ∉ [main_v85]) : ∀ w, ((pn (F := F) 6).win w).isOut = true → Pipeline.arrRef (pn (F := F) 6).spec w ≠ r
  | ⟨0, _⟩, e => nomatch e
  | ⟨1, _⟩, e => nomatch e
  | ⟨2, _⟩, e => nomatch e
  | ⟨3, _⟩, e => nomatch e
  | ⟨4, _⟩, e => nomatch e
  | ⟨5, _⟩, e => nomatch e
  | ⟨6, _⟩, e => nomatch e
  | ⟨7, _⟩, e => nomatch e
  | ⟨8, _⟩, e => nomatch e
  | ⟨9, _⟩, _ => fun e => h (by rw [← e]; exact List.mem_cons_self)
theorem outs7 (r : Ref sig .tc) (h : r ∉ [main_v107_0, main_v107_1]) : ∀ w, ((pn (F := F) 7).win w).isOut = true → Pipeline.arrRef (pn (F := F) 7).spec w ≠ r
  | ⟨0, _⟩, e => nomatch e
  | ⟨1, _⟩, e => nomatch e
  | ⟨2, _⟩, e => nomatch e
  | ⟨3, _⟩, e => nomatch e
  | ⟨4, _⟩, e => nomatch e
  | ⟨5, _⟩, e => nomatch e
  | ⟨6, _⟩, e => nomatch e
  | ⟨7, _⟩, e => nomatch e
  | ⟨8, _⟩, e => nomatch e
  | ⟨9, _⟩, e => nomatch e
  | ⟨10, _⟩, _ => fun e => h (by rw [← e]; exact List.mem_cons_self)
  | ⟨11, _⟩, _ => fun e => h (by rw [← e]; exact List.mem_cons_of_mem _ List.mem_cons_self)
theorem outs8 (r : Ref sig .tc) (h : r ∉ [main_v108]) : ∀ w, ((pn (F := F) 8).win w).isOut = true → Pipeline.arrRef (pn (F := F) 8).spec w ≠ r
  | ⟨0, _⟩, e => nomatch e
  | ⟨1, _⟩, e => nomatch e
  | ⟨2, _⟩, e => nomatch e
  | ⟨3, _⟩, e => nomatch e
  | ⟨4, _⟩, e => nomatch e
  | ⟨5, _⟩, e => nomatch e
  | ⟨6, _⟩, e => nomatch e
  | ⟨7, _⟩, e => nomatch e
  | ⟨8, _⟩, e => nomatch e
  | ⟨9, _⟩, _ => fun e => h (by rw [← e]; exact List.mem_cons_self)
theorem outs9 (r : Ref sig .tc) (h : r ∉ [main_v109]) : ∀ w, ((pn (F := F) 9).win w).isOut = true → Pipeline.arrRef (pn (F := F) 9).spec w ≠ r
  | ⟨0, _⟩, e => nomatch e
  | ⟨1, _⟩, e => nomatch e
  | ⟨2, _⟩, _ => fun e => h (by rw [← e]; exact List.mem_cons_self)
theorem scouts0 (r : Ref sig .tc) (h : r ∉ [main_v33_0, main_v33_1]) : Proc.devRef .tc r ≠ refA (calls 0) ∧ Proc.devRef .tc r ≠ refG (calls 0) :=
  ⟨fun e => h (by rw [show r = main_v33_0 from Proc.devRef_injective .tc (e : Proc.devRef (τ := τ) .tc r = Proc.devRef .tc main_v33_0)]; exact List.mem_cons_self), fun e => h (by rw [show r = main_v33_1 from Proc.devRef_injective .tc (e : Proc.devRef (τ := τ) .tc r = Proc.devRef .tc main_v33_1)]; exact List.mem_cons_of_mem _ List.mem_cons_self)⟩
theorem scouts1 (r : Ref sig .tc) (h : r ∉ [main_v56_0, main_v56_1]) : Proc.devRef .tc r ≠ refA (calls 1) ∧ Proc.devRef .tc r ≠ refG (calls 1) :=
  ⟨fun e => h (by rw [show r = main_v56_0 from Proc.devRef_injective .tc (e : Proc.devRef (τ := τ) .tc r = Proc.devRef .tc main_v56_0)]; exact List.mem_cons_self), fun e => h (by rw [show r = main_v56_1 from Proc.devRef_injective .tc (e : Proc.devRef (τ := τ) .tc r = Proc.devRef .tc main_v56_1)]; exact List.mem_cons_of_mem _ List.mem_cons_self)⟩
theorem scouts2 (r : Ref sig .tc) (h : r ∉ [main_v79_0, main_v79_1]) : Proc.devRef .tc r ≠ refA (calls 2) ∧ Proc.devRef .tc r ≠ refG (calls 2) :=
  ⟨fun e => h (by rw [show r = main_v79_0 from Proc.devRef_injective .tc (e : Proc.devRef (τ := τ) .tc r = Proc.devRef .tc main_v79_0)]; exact List.mem_cons_self), fun e => h (by rw [show r = main_v79_1 from Proc.devRef_injective .tc (e : Proc.devRef (τ := τ) .tc r = Proc.devRef .tc main_v79_1)]; exact List.mem_cons_of_mem _ List.mem_cons_self)⟩
theorem scouts3 (r : Ref sig .tc) (h : r ∉ [main_v102_0, main_v102_1]) : Proc.devRef .tc r ≠ refA (calls 3) ∧ Proc.devRef .tc r ≠ refG (calls 3) :=
  ⟨fun e => h (by rw [show r = main_v102_0 from Proc.devRef_injective .tc (e : Proc.devRef (τ := τ) .tc r = Proc.devRef .tc main_v102_0)]; exact List.mem_cons_self), fun e => h (by rw [show r = main_v102_1 from Proc.devRef_injective .tc (e : Proc.devRef (τ := τ) .tc r = Proc.devRef .tc main_v102_1)]; exact List.mem_cons_of_mem _ List.mem_cons_self)⟩

theorem step_keep (d : Dev nD) : ∀ k (r : Ref sig .tc), k < 24 → r ∉ wr k → V m d (k + 1) (Proc.devRef .tc r) = V m d k (Proc.devRef .tc r)
  | 0, r, _, h => StableHlo.after_of_writes_sub ops0 _ (StableHlo.forall_writes_sub_of_map rfl) h
  | 1, r, _, h => region_keep 0 0 d (V m d 1) r (outs0 r h)
  | 2, r, _, h => StableHlo.after_of_writes_sub ops1 _ (StableHlo.forall_writes_sub_of_map rfl) h
  | 3, r, _, h => gather_keep 0 (V m d 3) r (scouts0 r h)
  | 4, r, _, h => StableHlo.after_of_writes_sub ops2 _ (StableHlo.forall_writes_sub_of_map rfl) h
  | 5, r, _, h => region_keep 1 1 d (V m d 5) r (outs1 r h)
  | 6, r, _, h => region_keep 1 2 d (V m d 6) r (outs2 r h)
  | 7, r, _, h => StableHlo.after_of_writes_sub ops3 _ (StableHlo.forall_writes_sub_of_map rfl) h
  | 8, r, _, h => gather_keep 1 (V m d 8) r (scouts1 r h)
  | 9, r, _, h => StableHlo.after_of_writes_sub ops4 _ (StableHlo.forall_writes_sub_of_map rfl) h
  | 10, r, _, h => region_keep 2 3 d (V m d 10) r (outs3 r h)
  | 11, r, _, h => region_keep 2 4 d (V m d 11) r (outs4 r h)
  | 12, r, _, h => StableHlo.after_of_writes_sub ops5 _ (StableHlo.forall_writes_sub_of_map rfl) h
  | 13, r, _, h => gather_keep 2 (V m d 13) r (scouts2 r h)
  | 14, r, _, h => StableHlo.after_of_writes_sub ops6 _ (StableHlo.forall_writes_sub_of_map rfl) h
  | 15, r, _, h => region_keep 3 5 d (V m d 15) r (outs5 r h)
  | 16, r, _, h => region_keep 3 6 d (V m d 16) r (outs6 r h)
  | 17, r, _, h => StableHlo.after_of_writes_sub ops7 _ (StableHlo.forall_writes_sub_of_map rfl) h
  | 18, r, _, h => gather_keep 3 (V m d 18) r (scouts3 r h)
  | 19, r, _, h => StableHlo.after_of_writes_sub ops8 _ (StableHlo.forall_writes_sub_of_map rfl) h
  | 20, r, _, h => region_keep 4 7 d (V m d 20) r (outs7 r h)
  | 21, r, _, h => region_keep 4 8 d (V m d 21) r (outs8 r h)
  | 22, r, _, h => region_keep 4 9 d (V m d 22) r (outs9 r h)
  | 23, r, _, h => StableHlo.after_of_writes_sub ops9 _ (StableHlo.forall_writes_sub_of_map rfl) h
  | k + 24, _, h, _ => absurd h (by omega)

/-- A buffer that no step from `a` up to `b` writes. -/
theorem keep (d : Dev nD) (r : Ref sig .tc) (a b : ℕ) (hab : a ≤ b) (hb : b ≤ 24) (h : ∀ k < b, a ≤ k → r ∉ wr k) :
    V m d b (Proc.devRef .tc r) = V m d a (Proc.devRef .tc r) := by
  induction b, hab using Nat.le_induction with
  | base => rfl
  | succ b hab ih =>
    exact (step_keep m d b r (by omega) (h b (by omega) hab)).trans (ih (by omega) fun k hk => h k (by omega))

end Cert.Proof.Main

end
-- ==== Proof.Node.lean ====
/-
  One node's new state: as a kernel's block adds it up, with the messages' product with the sources' states already taken, and
  as the reference does, over rows of 265. The two agree where the kernel's parts are the reference's rows.
-/
module

public import Idealize.ShloMosaic.PureOps.Ideal
public import Mathlib.Algebra.BigOperators.Fin

@[expose] public section

noncomputable section

namespace Cert.Proof.Node

open Idealize.ShloMosaic

/-- `z` times its logistic. -/
def sil (z : EReal) : EReal := z * Ideal.logistic z

variable {K : ℕ}

/-- A message, from the sources' part `g`, the node's state, and the edge's sixteen attributes. -/
def msgK (g : Fin 128 → EReal) (sh : Fin 16 → EReal) (h : Fin 128 → EReal) (wmd : Fin 128 → Fin 128 → EReal) (we : Fin 16 → Fin 128 → EReal) (f : Fin 128) : EReal :=
  sil ((g f + ∑ c, h c * wmd c f) + ∑ e, sh e * we e f) * sh 9

/-- A node's new state, the kernel's way. -/
def nodeK (g : Fin K → Fin 128 → EReal) (sh : Fin K → Fin 16 → EReal) (h : Fin 128 → EReal) (at' : Fin 16 → EReal) (wmd : Fin 128 → Fin 128 → EReal)
    (we : Fin 16 → Fin 128 → EReal) (wuh wua : Fin 128 → Fin 128 → EReal) (wun : Fin 16 → Fin 128 → EReal) (f : Fin 128) : EReal :=
  h f + sil ((∑ j, h j * wuh j f + ∑ j, (∑ k, msgK (g k) (sh k) h wmd we j) * wua j f) + ∑ e, at' e * wun e f)

/-- Two rows of 128 and one of 9 as a row of 265. -/
def cat (a b : Fin 128 → EReal) (c : Fin 9 → EReal) (k : Fin 265) : EReal :=
  if h : k.val < 128 then a ⟨k.val, h⟩ else if h' : k.val - 128 < 128 then b ⟨k.val - 128, h'⟩ else c ⟨k.val - 128 - 128, by omega⟩

/-- A message, from the source's state, the node's and the edge's nine attributes. -/
def msgR (src h : Fin 128 → EReal) (edge : Fin 9 → EReal) (valid : EReal) (Wm : Fin 265 → Fin 128 → EReal) (f : Fin 128) : EReal :=
  sil (∑ c, cat src h edge c * Wm c f) * valid

/-- A node's new state, the reference's way. -/
def nodeR (src : Fin K → Fin 128 → EReal) (edge : Fin K → Fin 9 → EReal) (valid : Fin K → EReal) (h : Fin 128 → EReal) (at' : Fin 9 → EReal)
    (Wm Wu : Fin 265 → Fin 128 → EReal) (f : Fin 128) : EReal :=
  h f + sil (∑ c, cat h (fun j => ∑ k, msgR (src k) h (edge k) (valid k) Wm j) at' c * Wu c f)

theorem sum_265 (x : Fin 265 → EReal) :
    ∑ c, x c = (∑ c : Fin 128, x ⟨c.val, by omega⟩ + ∑ c : Fin 128, x ⟨128 + c.val, by omega⟩) + ∑ e : Fin 9, x ⟨256 + e.val, by omega⟩ := by
  rw [show (∑ c, x c) = ∑ c : Fin (128 + 128 + 9), x (c.cast rfl) from rfl, Fin.sum_univ_add, Fin.sum_univ_add]
  rfl

theorem sum_16 (x : Fin 16 → EReal) (hx : ∀ e : Fin 16, 9 ≤ e.val → x e = 0) : ∑ e, x e = ∑ e : Fin 9, x ⟨e.val, by omega⟩ := by
  rw [show (∑ e, x e) = ∑ e : Fin (9 + 7), x (e.cast rfl) from rfl, Fin.sum_univ_add]
  rw [Finset.sum_eq_zero (s := (Finset.univ : Finset (Fin 7))) fun e _ => hx _ (by show 9 ≤ 9 + e.val; omega), add_zero]
  rfl

theorem cat_sum (a b : Fin 128 → EReal) (c : Fin 9 → EReal) (W : Fin 265 → EReal) :
    ∑ k, cat a b c k * W k = (∑ k : Fin 128, a k * W ⟨k.val, by omega⟩ + ∑ k : Fin 128, b k * W ⟨128 + k.val, by omega⟩) + ∑ e : Fin 9, c e * W ⟨256 + e.val, by omega⟩ := by
  rw [sum_265]
  refine congrArg₂ (· + ·) (congrArg₂ (· + ·) (Finset.sum_congr rfl fun k _ => ?_) (Finset.sum_congr rfl fun k _ => ?_)) (Finset.sum_congr rfl fun e _ => ?_)
  · rw [cat, dif_pos (show k.val < 128 from k.isLt)]
  · rw [cat, dif_neg (show ¬ 128 + k.val < 128 by omega), dif_pos (show 128 + k.val - 128 < 128 by omega)]
    congr 2; exact Fin.ext (show 128 + k.val - 128 = k.val by omega)
  · rw [cat, dif_neg (show ¬ 256 + e.val < 128 by omega), dif_neg (show ¬ 256 + e.val - 128 < 128 by omega)]
    congr 2; exact Fin.ext (show 256 + e.val - 128 - 128 = e.val by omega)

/-- The kernel's parts are the reference's rows, the nine attributes' weights followed by rows of zeros. -/
structure Parts (W : Fin 265 → Fin 128 → EReal) (lo mid : Fin 128 → Fin 128 → EReal) (hi : Fin 16 → Fin 128 → EReal) : Prop where
  hlo : ∀ c f, lo c f = W ⟨c.val, by omega⟩ f
  hmid : ∀ c f, mid c f = W ⟨128 + c.val, by omega⟩ f
  hhi : ∀ (e : Fin 9) f, hi ⟨e.val, by omega⟩ f = W ⟨256 + e.val, by omega⟩ f
  hzero : ∀ (e : Fin 16) f, 9 ≤ e.val → hi e f = 0

theorem sum_hi {W : Fin 265 → Fin 128 → EReal} {lo mid : Fin 128 → Fin 128 → EReal} {hi : Fin 16 → Fin 128 → EReal} (P : Parts W lo mid hi)
    (x : Fin 16 → EReal) (f : Fin 128) : ∑ e, x e * hi e f = ∑ e : Fin 9, x ⟨e.val, by omega⟩ * W ⟨256 + e.val, by omega⟩ f := by
  rw [sum_16 _ fun e he => by rw [P.hzero e f he, mul_zero]]
  exact Finset.sum_congr rfl fun e _ => by rw [P.hhi]

theorem node_eq {Wm Wu : Fin 265 → Fin 128 → EReal} {wms wmd wuh wua : Fin 128 → Fin 128 → EReal} {we wun : Fin 16 → Fin 128 → EReal}
    (Pm : Parts Wm wms wmd we) (Pu : Parts Wu wuh wua wun) (src : Fin K → Fin 128 → EReal) (sh : Fin K → Fin 16 → EReal) (h : Fin 128 → EReal) (at' : Fin 16 → EReal)
    (f : Fin 128) :
    nodeK (fun k j => ∑ c, src k c * wms c j) sh h at' wmd we wuh wua wun f
      = nodeR src (fun k e => sh k ⟨e.val, by omega⟩) (fun k => sh k 9) h (fun e => at' ⟨e.val, by omega⟩) Wm Wu f := by
  unfold nodeK nodeR
  rw [cat_sum, sum_hi Pu]
  refine congrArg (fun z => h f + sil z) (congrArg (· + _) (congrArg₂ (· + ·) (Finset.sum_congr rfl fun c _ => by rw [Pu.hlo]) (Finset.sum_congr rfl fun j _ => ?_)))
  rw [Pu.hmid]
  refine congrArg (· * _) (Finset.sum_congr rfl fun k _ => ?_)
  unfold msgK msgR
  rw [cat_sum, sum_hi Pm]
  simp only [Pm.hlo, Pm.hmid]

end Cert.Proof.Node

end
-- ==== Proof.KerLayer.lean ====
/-
  The kernel's blocks, node by node.
-/
module

public import proofs.«01_k».proof.Proof.Node
public import proofs.«01_k».proof.Proof.Bodies
public import Idealize.ShloMosaic.Lib.Pointwise
public import Idealize.ShloMosaic.Lib.Pipeline.ValueKit

@[expose] public section

set_option maxRecDepth 16384

noncomputable section

namespace Cert.Proof.KerLayer

open Cert.KernelIdeal Cert.KernelIdeal.Gen Cert.Proof.Node Cert.Proof.Bodies
open Idealize.ShloMosaic

theorem silu_apply {s : Shape} (z : FVec Ideal s .f32) (y : s.Idx) : silu z y = sil (z y) := rfl

theorem dotW_apply (h : FVec Ideal S512x128 .f32) (w : Vec Ideal S128x128 .f32) (i : Fin 512) (f : Fin 128) :
    dotW h w (ix2 i f) = ∑ c : Fin 128, h (ix2 i c) * (show FVec Ideal S128x128 .f32 from w) (ix2 c f) := by
  pointwise [dotW, zH]

theorem dotE_apply (s : FVec Ideal S512x16 .f32) (w : FVec Ideal S16x128 .f32) (i : Fin 512) (f : Fin 128) :
    dotE s w (ix2 i f) = ∑ c : Fin 16, s (ix2 i c) * w (ix2 c f) := by
  pointwise [dotE, zH]

theorem edge_apply (p2 : FVec Ideal S512x128 .f32) (g : FVec Ideal S512x1x128 .f32) (s : FVec Ideal S512x1x16 .f32) (we : FVec Ideal S16x128 .f32) (i : Fin 512) (f : Fin 128) :
    edge p2 g s we (ix2 i f) = sil ((g (ix3 i 0 f) + p2 (ix2 i f)) + ∑ e : Fin 16, s (ix3 i 0 e) * we (ix2 e f)) * s (ix3 i 0 9) := by
  pointwise [edge, silu, dotE, zH, sil]

theorem foldl_apply {n : ℕ} (l : List (Fin n)) (m : Fin n → FVec Ideal S512x128 .f32) (a : FVec Ideal S512x128 .f32) (y : S512x128.Idx) :
    l.foldl (fun a k => addf a (m k)) a y = a y + (l.map fun k => m k y).sum := by
  induction l generalizing a with
  | nil => exact (add_zero _).symm
  | cons k l ih =>
    rw [List.foldl_cons, ih, List.map_cons, List.sum_cons, ← add_assoc]; rfl

theorem sumEdges_apply {n : ℕ} (l : List (Fin n)) (hl : l = List.finRange n) (m : Fin n → FVec Ideal S512x128 .f32) (y : S512x128.Idx) :
    sumEdges l m y = ∑ k, m k y := by
  subst hl
  unfold sumEdges
  rw [foldl_apply, Fin.sum_univ_def]
  refine (congrArg (· + _) ?_).trans (zero_add _)
  exact Ideal.ofBits_zero_f32

variable (x2 : FVec Ideal S512x128 .f32) (x3 : FVec Ideal S512x16 .f32) (x4 : FVec Ideal S128x128 .f32) (x5 : FVec Ideal S16x128 .f32) (x6 x7 : FVec Ideal S128x128 .f32) (x8 : FVec Ideal S16x128 .f32)

theorem aggA_apply (x0 : FVec Ideal S512x8x128 .f32) (x1 : FVec Ideal S512x8x16 .f32) (i : Fin 512) (f : Fin 128) :
    aggA (F := Ideal) x0 x1 x2 x4 x5 (ix2 i f)
      = ∑ k : Fin 8, msgK (fun c => x0 (ix3 i k c)) (fun e => x1 (ix3 i k e)) (fun c => x2 (ix2 i c)) (fun c f => x4 (ix2 c f)) (fun c f => x5 (ix2 c f)) f := by
  unfold aggA
  rw [sumEdges_apply eight rfl]
  refine Finset.sum_congr rfl fun k _ => ?_
  unfold msgK
  pointwise [edge_apply, dotW_apply, hOf, rW, rH, rE, rAg, rAs]

theorem newA_apply (x0 : FVec Ideal S512x8x128 .f32) (x1 : FVec Ideal S512x8x16 .f32) (i : Fin 512) (f : Fin 128) :
    newA (F := Ideal) x0 x1 x2 x3 x4 x5 x6 x7 x8 (ix2 i f)
      = nodeK (K := 8) (fun k c => x0 (ix3 i k c)) (fun k e => x1 (ix3 i k e)) (fun c => x2 (ix2 i c)) (fun e => x3 (ix2 i e)) (fun c f => x4 (ix2 c f)) (fun c f => x5 (ix2 c f))
          (fun c f => x6 (ix2 c f)) (fun c f => x7 (ix2 c f)) (fun c f => x8 (ix2 c f)) f := by
  unfold newA update
  pointwise [silu_apply, hOf, dotW_apply, dotE_apply, aggA_apply, rH, rW, rE, rN]
  rfl

theorem aggG_apply (x0 : FVec Ideal S512x24x128 .f32) (x1 : FVec Ideal S512x24x16 .f32) (i : Fin 512) (f : Fin 128) :
    aggG (F := Ideal) x0 x1 x2 x4 x5 (ix2 i f)
      = ∑ k : Fin 24, msgK (fun c => x0 (ix3 i k c)) (fun e => x1 (ix3 i k e)) (fun c => x2 (ix2 i c)) (fun c f => x4 (ix2 c f)) (fun c f => x5 (ix2 c f)) f := by
  unfold aggG
  rw [sumEdges_apply twentyfour rfl]
  refine Finset.sum_congr rfl fun k _ => ?_
  unfold msgK
  pointwise [edge_apply, dotW_apply, hOf, rW, rH, rE, rGg, rGs]

theorem newG_apply (x0 : FVec Ideal S512x24x128 .f32) (x1 : FVec Ideal S512x24x16 .f32) (i : Fin 512) (f : Fin 128) :
    newG (F := Ideal) x0 x1 x2 x3 x4 x5 x6 x7 x8 (ix2 i f)
      = nodeK (K := 24) (fun k c => x0 (ix3 i k c)) (fun k e => x1 (ix3 i k e)) (fun c => x2 (ix2 i c)) (fun e => x3 (ix2 i e)) (fun c f => x4 (ix2 c f)) (fun c f => x5 (ix2 c f))
          (fun c f => x6 (ix2 c f)) (fun c f => x7 (ix2 c f)) (fun c f => x8 (ix2 c f)) f := by
  unfold newG update
  pointwise [silu_apply, hOf, dotW_apply, dotE_apply, aggG_apply, rH, rW, rE, rN]
  rfl

/-- A word's one-hot entry. -/
def hot (w : BitVec 32) (x : Fin 16) : EReal := FloatOps.uitofp (F := Ideal) .f32 (IntOp.cmpi .eq w (BitVec.ofNat 32 x))

theorem hot_signed (b : BitVec 1) : FloatOps.sitofp (F := Ideal) .f32 (BitVec.setWidth 32 b) = FloatOps.uitofp (F := Ideal) .f32 b := by
  show ((((BitVec.setWidth 32 b).toInt : ℝ) : EReal)) = (((b.toNat : ℝ) : EReal))
  have : (BitVec.setWidth 32 b).toInt = (b.toNat : ℤ) := by revert b; decide
  rw [this]; norm_cast

theorem embH_apply (x0 : IVec S512x8 32) (x1 : FVec Ideal S16x128 .f32) (i : Fin 512) (f : Fin 128) :
    embH (F := Ideal) x0 x1 (ix2 i f) = ∑ x : Fin 16, hot (x0 (ix2 i 0)) x * x1 (ix2 x f) := by
  unfold embH
  pointwise [k0_pay1, rE, rT]
  exact Finset.sum_congr rfl fun x _ => congrArg (· * x1 (ix2 x f)) (hot_signed _)

theorem outO_apply (x0 : FVec Ideal S512x128 .f32) (x1 : FVec Ideal S128x32 .f32) (i : Fin 512) (f : Fin 32) :
    k13_pay1 (F := Ideal) (View.ld x0 rH) (View.ld x1 rO) (ix2 i f) = ∑ c : Fin 128, x0 (ix2 i c) * x1 (ix2 c f) := by
  pointwise [k13_pay1, rH, rO]

theorem ldW_apply (w : Vec Ideal S128x128 .f32) (c f : Fin 128) : (View.ld w rW : Vec Ideal S128x128 .f32) (ix2 c f) = w (ix2 c f) := by
  pointwise [rW]

/-- A block stored whole holds what was stored. -/
theorem canon_rH (p : Vec Ideal S512x128 .f32) (i : Fin 512) (f : Fin 128) : (View.canon [⟨rH, p⟩] : Vec Ideal S512x128 .f32) (ix2 i f) = p (ix2 i f) := by
  have e : rH.emb (ix2 i f) = (ix2 i f : S512x128.Idx) := by blk_ext [rH]
  have h := View.canon_cons_emb (Val := Elt Ideal) (s := S512x128) (e := .f32) rH p [] (ix2 i f)
  rw [e] at h; exact h

theorem canon_rR (p : Vec Ideal S512x32 .f32) (i : Fin 512) (f : Fin 32) : (View.canon [⟨rR, p⟩] : Vec Ideal S512x32 .f32) (ix2 i f) = p (ix2 i f) := by
  have e : rR.emb (ix2 i f) = (ix2 i f : S512x32.Idx) := by blk_ext [rR]
  have h := View.canon_cons_emb (Val := Elt Ideal) (s := S512x32) (e := .f32) rR p [] (ix2 i f)
  rw [e] at h; exact h

end Cert.Proof.KerLayer
-- ==== Proof.Arrays.lean ====
/-
  The arrays the TensorCore calls leave, node by node.
-/
module

public import proofs.«01_k».proof.Proof.KerLayer
public import proofs.«01_k».proof.Proof.Steps

@[expose] public section

set_option maxRecDepth 16384

noncomputable section

namespace Cert.Proof.Arrays

open Cert.KernelIdeal Cert.KernelIdeal.Gen Cert.Proof.Node Cert.Proof.Bodies Cert.Proof.KerLayer Cert.Proof.Region Cert.Proof.Steps
open Idealize.ShloMosaic Idealize.ShloMosaic.TcCoe
open Idealize.ShloMosaic.Pipeline (Dat)

/-- The atoms' new rows, whole arrays. -/
def msgA (X0 : FVec Ideal S4096x8x128 .f32) (X1 : FVec Ideal S4096x8x16 .f32) (X2 : FVec Ideal S4096x128 .f32) (X3 : FVec Ideal S4096x16 .f32)
    (x4 : FVec Ideal S128x128 .f32) (x5 : FVec Ideal S16x128 .f32) (x6 x7 : FVec Ideal S128x128 .f32) (x8 : FVec Ideal S16x128 .f32) : FVec Ideal S4096x128 .f32 :=
  fun i => nodeK (K := 8) (fun k c => X0 (ix3 (i 0) k c)) (fun k e => X1 (ix3 (i 0) k e)) (fun c => X2 (ix2 (i 0) c)) (fun e => X3 (ix2 (i 0) e))
    (fun c f => x4 (ix2 c f)) (fun c f => x5 (ix2 c f)) (fun c f => x6 (ix2 c f)) (fun c f => x7 (ix2 c f)) (fun c f => x8 (ix2 c f)) (i 1)

/-- One block of the atoms' rows: each input block holds its array's rows at the same place. -/
theorem msgA_block {x0 : FVec Ideal S512x8x128 .f32} {x1 : FVec Ideal S512x8x16 .f32} {x2 : FVec Ideal S512x128 .f32} {x3 : FVec Ideal S512x16 .f32}
    {x4 : FVec Ideal S128x128 .f32} {x5 : FVec Ideal S16x128 .f32} {x6 x7 : FVec Ideal S128x128 .f32} {x8 : FVec Ideal S16x128 .f32} {x9 : FVec Ideal S128x128 .f32}
    {X0 : FVec Ideal S4096x8x128 .f32} {X1 : FVec Ideal S4096x8x16 .f32} {X2 : FVec Ideal S4096x128 .f32} {X3 : FVec Ideal S4096x16 .f32}
    {y4 : FVec Ideal S128x128 .f32} {y5 : FVec Ideal S16x128 .f32} {y6 y7 : FVec Ideal S128x128 .f32} {y8 : FVec Ideal S16x128 .f32}
    {a : Fin 512} {f : Fin 128} {i : Fin 4096}
    (h0 : ∀ k c, x0 (ix3 a k c) = X0 (ix3 i k c)) (h1 : ∀ k c, x1 (ix3 a k c) = X1 (ix3 i k c)) (h2 : ∀ c, x2 (ix2 a c) = X2 (ix2 i c)) (h3 : ∀ c, x3 (ix2 a c) = X3 (ix2 i c))
    (h4 : x4 = y4) (h5 : x5 = y5) (h6 : x6 = y6) (h7 : x7 = y7) (h8 : x8 = y8) :
    outA10 (F := Ideal) x0 x1 x2 x3 x4 x5 x6 x7 x8 x9 (ix2 a f) = msgA X0 X1 X2 X3 y4 y5 y6 y7 y8 (ix2 i f) := by
  subst h4 h5 h6 h7 h8
  refine ((canon_rH _ a f).trans (newA_apply _ _ _ _ _ _ _ _ _ a f)).trans ?_
  simp only [h0, h1, h2, h3]
  rfl

/-- The next layer's table: the new rows through the neighbours' weights. -/
def table (X : FVec Ideal S4096x128 .f32) (w : FVec Ideal S128x128 .f32) : FVec Ideal S4096x128 .f32 := fun i => ∑ c : Fin 128, X (ix2 (i 0) c) * w (ix2 c (i 1))

theorem tableA_block {x0 : FVec Ideal S512x8x128 .f32} {x1 : FVec Ideal S512x8x16 .f32} {x2 : FVec Ideal S512x128 .f32} {x3 : FVec Ideal S512x16 .f32}
    {x4 : FVec Ideal S128x128 .f32} {x5 : FVec Ideal S16x128 .f32} {x6 x7 : FVec Ideal S128x128 .f32} {x8 : FVec Ideal S16x128 .f32} {x9 : FVec Ideal S128x128 .f32}
    {X : FVec Ideal S4096x128 .f32} {y9 : FVec Ideal S128x128 .f32} {a : Fin 512} {f : Fin 128} {i : Fin 4096}
    (h : ∀ c, outA10 (F := Ideal) x0 x1 x2 x3 x4 x5 x6 x7 x8 x9 (ix2 a c) = X (ix2 i c)) (h9 : x9 = y9) :
    outA11 (F := Ideal) x0 x1 x2 x3 x4 x5 x6 x7 x8 x9 (ix2 a f) = table X y9 (ix2 i f) := by
  subst h9
  refine ((canon_rH _ a f).trans (dotW_apply _ _ a f)).trans (Finset.sum_congr rfl fun c _ => ?_)
  exact congr (congrArg _ ((canon_rH _ a c).symm.trans (h c))) (ldW_apply x9 c f)

/-- The grid points' new rows, whole arrays. -/
def msgG (X0 : FVec Ideal S2048x24x128 .f32) (X1 : FVec Ideal S2048x24x16 .f32) (X2 : FVec Ideal S2048x128 .f32) (X3 : FVec Ideal S2048x16 .f32)
    (x4 : FVec Ideal S128x128 .f32) (x5 : FVec Ideal S16x128 .f32) (x6 x7 : FVec Ideal S128x128 .f32) (x8 : FVec Ideal S16x128 .f32) : FVec Ideal S2048x128 .f32 :=
  fun i => nodeK (K := 24) (fun k c => X0 (ix3 (i 0) k c)) (fun k e => X1 (ix3 (i 0) k e)) (fun c => X2 (ix2 (i 0) c)) (fun e => X3 (ix2 (i 0) e))
    (fun c f => x4 (ix2 c f)) (fun c f => x5 (ix2 c f)) (fun c f => x6 (ix2 c f)) (fun c f => x7 (ix2 c f)) (fun c f => x8 (ix2 c f)) (i 1)

/-- One block of the grid points' rows: each input block holds its array's rows at the same place. -/
theorem msgG_block {x0 : FVec Ideal S512x24x128 .f32} {x1 : FVec Ideal S512x24x16 .f32} {x2 : FVec Ideal S512x128 .f32} {x3 : FVec Ideal S512x16 .f32}
    {x4 : FVec Ideal S128x128 .f32} {x5 : FVec Ideal S16x128 .f32} {x6 x7 : FVec Ideal S128x128 .f32} {x8 : FVec Ideal S16x128 .f32}
    {X0 : FVec Ideal S2048x24x128 .f32} {X1 : FVec Ideal S2048x24x16 .f32} {X2 : FVec Ideal S2048x128 .f32} {X3 : FVec Ideal S2048x16 .f32}
    {y4 : FVec Ideal S128x128 .f32} {y5 : FVec Ideal S16x128 .f32} {y6 y7 : FVec Ideal S128x128 .f32} {y8 : FVec Ideal S16x128 .f32}
    {a : Fin 512} {f : Fin 128} {i : Fin 2048}
    (h0 : ∀ k c, x0 (ix3 a k c) = X0 (ix3 i k c)) (h1 : ∀ k c, x1 (ix3 a k c) = X1 (ix3 i k c)) (h2 : ∀ c, x2 (ix2 a c) = X2 (ix2 i c)) (h3 : ∀ c, x3 (ix2 a c) = X3 (ix2 i c))
    (h4 : x4 = y4) (h5 : x5 = y5) (h6 : x6 = y6) (h7 : x7 = y7) (h8 : x8 = y8) :
    outG9 (F := Ideal) x0 x1 x2 x3 x4 x5 x6 x7 x8 (ix2 a f) = msgG X0 X1 X2 X3 y4 y5 y6 y7 y8 (ix2 i f) := by
  subst h4 h5 h6 h7 h8
  refine ((canon_rH _ a f).trans (newG_apply _ _ _ _ _ _ _ _ _ a f)).trans ?_
  simp only [h0, h1, h2, h3]
  rfl

/-- The embedded atom types. -/
def embed (X0 : IVec S4096x8 32) (x1 : FVec Ideal S16x128 .f32) : FVec Ideal S4096x128 .f32 := fun i => ∑ x : Fin 16, hot (X0 (ix2 (i 0) 0)) x * x1 (ix2 x (i 1))

theorem embed_block {x0 : IVec S512x8 32} {x1 : FVec Ideal S16x128 .f32} {x2 : FVec Ideal S128x128 .f32} {X0 : IVec S4096x8 32} {y1 : FVec Ideal S16x128 .f32}
    {a : Fin 512} {f : Fin 128} {i : Fin 4096} (h0 : x0 (ix2 a 0) = X0 (ix2 i 0)) (h1 : x1 = y1) :
    outE3 (F := Ideal) x0 x1 x2 (ix2 a f) = embed X0 y1 (ix2 i f) := by
  subst h1
  refine ((canon_rH _ a f).trans (embH_apply _ _ a f)).trans ?_
  rw [h0]; rfl

theorem tableE_block {x0 : IVec S512x8 32} {x1 : FVec Ideal S16x128 .f32} {x2 y2 : FVec Ideal S128x128 .f32} {X : FVec Ideal S4096x128 .f32}
    {a : Fin 512} {f : Fin 128} {i : Fin 4096} (h : ∀ c, outE3 (F := Ideal) x0 x1 x2 (ix2 a c) = X (ix2 i c)) (h2 : x2 = y2) :
    outE4 (F := Ideal) x0 x1 x2 (ix2 a f) = table X y2 (ix2 i f) := by
  subst h2
  refine ((canon_rH _ a f).trans (dotW_apply _ _ a f)).trans (Finset.sum_congr rfl fun c _ => ?_)
  exact congr (congrArg _ ((canon_rH _ a c).symm.trans (h c))) (ldW_apply x2 c f)

/-- The result's rows. -/
def readout (X : FVec Ideal S2048x128 .f32) (w : FVec Ideal S128x32 .f32) : FVec Ideal S2048x32 .f32 := fun i => ∑ c : Fin 128, X (ix2 (i 0) c) * w (ix2 c (i 1))

theorem readout_block {x0 : FVec Ideal S512x128 .f32} {x1 y1 : FVec Ideal S128x32 .f32} {X : FVec Ideal S2048x128 .f32} {a : Fin 512} {f : Fin 32} {i : Fin 2048}
    (h0 : ∀ c, x0 (ix2 a c) = X (ix2 i c)) (h1 : x1 = y1) : outO2 (F := Ideal) x0 x1 (ix2 a f) = readout X y1 (ix2 i f) := by
  subst h1
  refine ((canon_rR _ a f).trans (outO_apply _ _ a f)).trans ?_
  simp only [h0]; rfl

theorem after_eq (n : ℕ) (V : Valuation τ sig (Elt Ideal)) (p : Fin 10) (c : Dev nD) (w : Fin (pn (F := Ideal) p).W) (t : Fin (pn (F := Ideal) p).N) :
    (dat outs n V p c).after w t = outs p V w t := rfl

/-- A two-axis index by its coordinates. -/
theorem eq_ix2 {m n : ℕ} (y : (⟨2, ![m, n]⟩ : Shape).Idx) : ∃ (a : Fin m) (f : Fin n), y = (ix2 a f : (⟨2, ![m, n]⟩ : Shape).Idx) := ⟨y 0, y 1, by funext i; fin_cases i <;> rfl⟩

variable (n : ℕ) (d : Dev nD) (V : Valuation τ sig (Elt Ideal))

theorem idx0 : ∀ t : Fin (pn (F := Ideal) 0).N, ((pcfgs (F := Ideal) 0).win (adm 0) 0).index t = ![t.val, 0] ∧ ((pcfgs (F := Ideal) 0).win (adm 0) 1).index t = ![0, 0] ∧ ((pcfgs (F := Ideal) 0).win (adm 0) 2).index t = ![0, 0] ∧ ((pcfgs (F := Ideal) 0).win (adm 0) 3).index t = ![t.val, 0] ∧ ((pcfgs (F := Ideal) 0).win (adm 0) 4).index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0])

theorem out0_3 (t : Fin (pn (F := Ideal) 0).N) : outs (F := Ideal) 0 V 3 t = outE3 (F := Ideal) (iblk 0 V 0 t) (iblk 0 V 1 t) (iblk 0 V 2 t) :=
  (rfl : outs (F := Ideal) 0 V 3 t = out0 V t 3).trans (by rfl : out0 V t ⟨3, by decide⟩ = _)

theorem out0_4 (t : Fin (pn (F := Ideal) 0).N) : outs (F := Ideal) 0 V 4 t = outE4 (F := Ideal) (iblk 0 V 0 t) (iblk 0 V 1 t) (iblk 0 V 2 t) :=
  (rfl : outs (F := Ideal) 0 V 4 t = out0 V t 4).trans (by rfl : out0 V t ⟨4, by decide⟩ = _)

set_option maxHeartbeats 2000000 in
theorem point0 (t : Fin (pn (F := Ideal) 0).N) (ht : t.val < 8) (a : Fin 512) (f : Fin 128) :
    outE3 (F := Ideal) (iblk 0 V 0 t) (iblk 0 V 1 t) (iblk 0 V 2 t) (ix2 a f)
      = embed (V (Proc.devRef .tc main_v1)) (V (Proc.devRef .tc main_arg7)) (ix2 (⟨t.val * 512 + a.val, by omega⟩ : Fin 4096) f) :=
  embed_block (by blk_ext [iblk, idx0 t]) (by blk_ext! [iblk, idx0 t])

theorem whole0 (t : Fin (pn (F := Ideal) 0).N) : (show FVec Ideal S128x128 .f32 from iblk 0 V 2 t) = (show FVec Ideal S128x128 .f32 from (V (Proc.devRef .tc main_v14))) := by
  blk_ext! [iblk, idx0 t]

theorem reg0_3 : regionV outs n 0 d V (Proc.devRef .tc main_v15_0) = embed (V (Proc.devRef .tc main_v1)) (V (Proc.devRef .tc main_arg7)) := by
  refine (regionV_arr outs n 0 d V 3).trans ((dat outs n V 0 d).arrAt_eq_of_covers 3 _ (by decide +kernel) fun t _ y => ?_)
  blk_simp
  obtain ⟨a, f, rfl⟩ := eq_ix2 (m := 512) (n := 128) y
  have ht : t.val < 8 := t.isLt
  have e : (((pn (F := Ideal) 0).win 3).blk t).view.emb (ix2 a f : S512x128.Idx) = (ix2 (⟨t.val * 512 + a.val, by omega⟩ : Fin 4096) f : S4096x128.Idx) := by
    blk_ext [idx0 t]
  exact (congrFun ((after_eq n V 0 d 3 t).trans (out0_3 V t)) (ix2 a f : S512x128.Idx)).trans ((point0 V t ht a f).trans (congrArg _ e.symm))

theorem reg0_4 : regionV outs n 0 d V (Proc.devRef .tc main_v15_1) = table (embed (V (Proc.devRef .tc main_v1)) (V (Proc.devRef .tc main_arg7))) (V (Proc.devRef .tc main_v14)) := by
  refine (regionV_arr outs n 0 d V 4).trans ((dat outs n V 0 d).arrAt_eq_of_covers 4 _ (by decide +kernel) fun t _ y => ?_)
  blk_simp
  obtain ⟨a, f, rfl⟩ := eq_ix2 (m := 512) (n := 128) y
  have ht : t.val < 8 := t.isLt
  have e : (((pn (F := Ideal) 0).win 4).blk t).view.emb (ix2 a f : S512x128.Idx) = (ix2 (⟨t.val * 512 + a.val, by omega⟩ : Fin 4096) f : S4096x128.Idx) := by
    blk_ext [idx0 t]
  exact (congrFun ((after_eq n V 0 d 4 t).trans (out0_4 V t)) (ix2 a f : S512x128.Idx)).trans ((tableE_block (fun c => point0 V t ht a c) (whole0 V t)).trans (congrArg _ e.symm))

theorem idx1 : ∀ t : Fin (pn (F := Ideal) 1).N, ((pcfgs (F := Ideal) 1).win (adm 1) 0).index t = ![t.val, 0, 0] ∧ ((pcfgs (F := Ideal) 1).win (adm 1) 1).index t = ![t.val, 0, 0] ∧ ((pcfgs (F := Ideal) 1).win (adm 1) 2).index t = ![t.val, 0] ∧ ((pcfgs (F := Ideal) 1).win (adm 1) 3).index t = ![t.val, 0] ∧ ((pcfgs (F := Ideal) 1).win (adm 1) 4).index t = ![0, 0] ∧ ((pcfgs (F := Ideal) 1).win (adm 1) 5).index t = ![0, 0] ∧ ((pcfgs (F := Ideal) 1).win (adm 1) 6).index t = ![0, 0] ∧ ((pcfgs (F := Ideal) 1).win (adm 1) 7).index t = ![0, 0] ∧ ((pcfgs (F := Ideal) 1).win (adm 1) 8).index t = ![0, 0] ∧ ((pcfgs (F := Ideal) 1).win (adm 1) 9).index t = ![0, 0] ∧ ((pcfgs (F := Ideal) 1).win (adm 1) 10).index t = ![t.val, 0] ∧ ((pcfgs (F := Ideal) 1).win (adm 1) 11).index t = ![t.val, 0] :=
  (by decide +kernel : ∀ t : Fin grid2.N, win2_0.index t = ![t.val, 0, 0] ∧ win2_1.index t = ![t.val, 0, 0] ∧ win2_2.index t = ![t.val, 0] ∧ win2_3.index t = ![t.val, 0] ∧ win2_4.index t = ![0, 0] ∧ win2_5.index t = ![0, 0] ∧ win2_6.index t = ![0, 0] ∧ win2_7.index t = ![0, 0] ∧ win2_8.index t = ![0, 0] ∧ win2_9.index t = ![0, 0] ∧ win2_10.index t = ![t.val, 0] ∧ win2_11.index t = ![t.val, 0])

theorem out1_10 (t : Fin (pn (F := Ideal) 1).N) : outs (F := Ideal) 1 V 10 t = outA10 (F := Ideal) (iblk 1 V 0 t) (iblk 1 V 1 t) (iblk 1 V 2 t) (iblk 1 V 3 t) (iblk 1 V 4 t) (iblk 1 V 5 t) (iblk 1 V 6 t) (iblk 1 V 7 t) (iblk 1 V 8 t) (iblk 1 V 9 t) :=
  (rfl : outs (F := Ideal) 1 V 10 t = out2 V t 10).trans (by rfl : out2 V t ⟨10, by decide⟩ = _)

theorem out1_11 (t : Fin (pn (F := Ideal) 1).N) : outs (F := Ideal) 1 V 11 t = outA11 (F := Ideal) (iblk 1 V 0 t) (iblk 1 V 1 t) (iblk 1 V 2 t) (iblk 1 V 3 t) (iblk 1 V 4 t) (iblk 1 V 5 t) (iblk 1 V 6 t) (iblk 1 V 7 t) (iblk 1 V 8 t) (iblk 1 V 9 t) :=
  (rfl : outs (F := Ideal) 1 V 11 t = out2 V t 11).trans (by rfl : out2 V t ⟨11, by decide⟩ = _)

set_option maxHeartbeats 2000000 in
theorem point1 (t : Fin (pn (F := Ideal) 1).N) (ht : t.val < 8) (a : Fin 512) (f : Fin 128) :
    outA10 (F := Ideal) (iblk 1 V 0 t) (iblk 1 V 1 t) (iblk 1 V 2 t) (iblk 1 V 3 t) (iblk 1 V 4 t) (iblk 1 V 5 t) (iblk 1 V 6 t) (iblk 1 V 7 t) (iblk 1 V 8 t) (iblk 1 V 9 t) (ix2 a f)
      = msgA (V (Proc.devRef .tc main_v34)) (V (Proc.devRef .tc main_v4)) (V (Proc.devRef .tc main_v15_0)) (V (Proc.devRef .tc main_v6)) (V (Proc.devRef .tc main_v18)) (V (Proc.devRef .tc main_v23)) (V (Proc.devRef .tc main_v25)) (V (Proc.devRef .tc main_v27)) (V (Proc.devRef .tc main_v32)) (ix2 (⟨t.val * 512 + a.val, by omega⟩ : Fin 4096) f) :=
  msgA_block (fun _ _ => by blk_ext [iblk, idx1 t]) (fun _ _ => by blk_ext [iblk, idx1 t]) (fun _ => by blk_ext [iblk, idx1 t]) (fun _ => by blk_ext [iblk, idx1 t]) (by blk_ext! [iblk, idx1 t]) (by blk_ext! [iblk, idx1 t]) (by blk_ext! [iblk, idx1 t]) (by blk_ext! [iblk, idx1 t]) (by blk_ext! [iblk, idx1 t])

theorem whole1 (t : Fin (pn (F := Ideal) 1).N) : (show FVec Ideal S128x128 .f32 from iblk 1 V 9 t) = (show FVec Ideal S128x128 .f32 from (V (Proc.devRef .tc main_v37))) := by
  blk_ext! [iblk, idx1 t]

theorem reg1_10 : regionV outs n 1 d V (Proc.devRef .tc main_v38_0) = msgA (V (Proc.devRef .tc main_v34)) (V (Proc.devRef .tc main_v4)) (V (Proc.devRef .tc main_v15_0)) (V (Proc.devRef .tc main_v6)) (V (Proc.devRef .tc main_v18)) (V (Proc.devRef .tc main_v23)) (V (Proc.devRef .tc main_v25)) (V (Proc.devRef .tc main_v27)) (V (Proc.devRef .tc main_v32)) := by
  refine (regionV_arr outs n 1 d V 10).trans ((dat outs n V 1 d).arrAt_eq_of_covers 10 _ (by decide +kernel) fun t _ y => ?_)
  blk_simp
  obtain ⟨a, f, rfl⟩ := eq_ix2 (m := 512) (n := 128) y
  have ht : t.val < 8 := t.isLt
  have e : (((pn (F := Ideal) 1).win 10).blk t).view.emb (ix2 a f : S512x128.Idx) = (ix2 (⟨t.val * 512 + a.val, by omega⟩ : Fin 4096) f : S4096x128.Idx) := by
    blk_ext [idx1 t]
  exact (congrFun ((after_eq n V 1 d 10 t).trans (out1_10 V t)) (ix2 a f : S512x128.Idx)).trans ((point1 V t ht a f).trans (congrArg _ e.symm))

theorem reg1_11 : regionV outs n 1 d V (Proc.devRef .tc main_v38_1) = table (msgA (V (Proc.devRef .tc main_v34)) (V (Proc.devRef .tc main_v4)) (V (Proc.devRef .tc main_v15_0)) (V (Proc.devRef .tc main_v6)) (V (Proc.devRef .tc main_v18)) (V (Proc.devRef .tc main_v23)) (V (Proc.devRef .tc main_v25)) (V (Proc.devRef .tc main_v27)) (V (Proc.devRef .tc main_v32))) (V (Proc.devRef .tc main_v37)) := by
  refine (regionV_arr outs n 1 d V 11).trans ((dat outs n V 1 d).arrAt_eq_of_covers 11 _ (by decide +kernel) fun t _ y => ?_)
  blk_simp
  obtain ⟨a, f, rfl⟩ := eq_ix2 (m := 512) (n := 128) y
  have ht : t.val < 8 := t.isLt
  have e : (((pn (F := Ideal) 1).win 11).blk t).view.emb (ix2 a f : S512x128.Idx) = (ix2 (⟨t.val * 512 + a.val, by omega⟩ : Fin 4096) f : S4096x128.Idx) := by
    blk_ext [idx1 t]
  exact (congrFun ((after_eq n V 1 d 11 t).trans (out1_11 V t)) (ix2 a f : S512x128.Idx)).trans ((tableA_block (fun c => point1 V t ht a c) (whole1 V t)).trans (congrArg _ e.symm))

theorem idx2 : ∀ t : Fin (pn (F := Ideal) 2).N, ((pcfgs (F := Ideal) 2).win (adm 2) 0).index t = ![t.val, 0, 0] ∧ ((pcfgs (F := Ideal) 2).win (adm 2) 1).index t = ![t.val, 0, 0] ∧ ((pcfgs (F := Ideal) 2).win (adm 2) 2).index t = ![t.val, 0] ∧ ((pcfgs (F := Ideal) 2).win (adm 2) 3).index t = ![t.val, 0] ∧ ((pcfgs (F := Ideal) 2).win (adm 2) 4).index t = ![0, 0] ∧ ((pcfgs (F := Ideal) 2).win (adm 2) 5).index t = ![0, 0] ∧ ((pcfgs (F := Ideal) 2).win (adm 2) 6).index t = ![0, 0] ∧ ((pcfgs (F := Ideal) 2).win (adm 2) 7).index t = ![0, 0] ∧ ((pcfgs (F := Ideal) 2).win (adm 2) 8).index t = ![0, 0] ∧ ((pcfgs (F := Ideal) 2).win (adm 2) 9).index t = ![t.val, 0] :=
  (by decide +kernel : ∀ t : Fin grid3.N, win3_0.index t = ![t.val, 0, 0] ∧ win3_1.index t = ![t.val, 0, 0] ∧ win3_2.index t = ![t.val, 0] ∧ win3_3.index t = ![t.val, 0] ∧ win3_4.index t = ![0, 0] ∧ win3_5.index t = ![0, 0] ∧ win3_6.index t = ![0, 0] ∧ win3_7.index t = ![0, 0] ∧ win3_8.index t = ![0, 0] ∧ win3_9.index t = ![t.val, 0])

theorem out2_9 (t : Fin (pn (F := Ideal) 2).N) : outs (F := Ideal) 2 V 9 t = outG9 (F := Ideal) (iblk 2 V 0 t) (iblk 2 V 1 t) (iblk 2 V 2 t) (iblk 2 V 3 t) (iblk 2 V 4 t) (iblk 2 V 5 t) (iblk 2 V 6 t) (iblk 2 V 7 t) (iblk 2 V 8 t) :=
  (rfl : outs (F := Ideal) 2 V 9 t = out3 V t 9).trans (by rfl : out3 V t ⟨9, by decide⟩ = _)

set_option maxHeartbeats 2000000 in
theorem point2 (t : Fin (pn (F := Ideal) 2).N) (ht : t.val < 4) (a : Fin 512) (f : Fin 128) :
    outG9 (F := Ideal) (iblk 2 V 0 t) (iblk 2 V 1 t) (iblk 2 V 2 t) (iblk 2 V 3 t) (iblk 2 V 4 t) (iblk 2 V 5 t) (iblk 2 V 6 t) (iblk 2 V 7 t) (iblk 2 V 8 t) (ix2 a f)
      = msgG (V (Proc.devRef .tc main_v35)) (V (Proc.devRef .tc main_v5)) (V (Proc.devRef .tc main_v16)) (V (Proc.devRef .tc main_v7)) (V (Proc.devRef .tc main_v18)) (V (Proc.devRef .tc main_v23)) (V (Proc.devRef .tc main_v25)) (V (Proc.devRef .tc main_v27)) (V (Proc.devRef .tc main_v32)) (ix2 (⟨t.val * 512 + a.val, by omega⟩ : Fin 2048) f) :=
  msgG_block (fun _ _ => by blk_ext [iblk, idx2 t]) (fun _ _ => by blk_ext [iblk, idx2 t]) (fun _ => by blk_ext [iblk, idx2 t]) (fun _ => by blk_ext [iblk, idx2 t]) (by blk_ext! [iblk, idx2 t]) (by blk_ext! [iblk, idx2 t]) (by blk_ext! [iblk, idx2 t]) (by blk_ext! [iblk, idx2 t]) (by blk_ext! [iblk, idx2 t])

theorem reg2_9 : regionV outs n 2 d V (Proc.devRef .tc main_v39) = msgG (V (Proc.devRef .tc main_v35)) (V (Proc.devRef .tc main_v5)) (V (Proc.devRef .tc main_v16)) (V (Proc.devRef .tc main_v7)) (V (Proc.devRef .tc main_v18)) (V (Proc.devRef .tc main_v23)) (V (Proc.devRef .tc main_v25)) (V (Proc.devRef .tc main_v27)) (V (Proc.devRef .tc main_v32)) := by
  refine (regionV_arr outs n 2 d V 9).trans ((dat outs n V 2 d).arrAt_eq_of_covers 9 _ (by decide +kernel) fun t _ y => ?_)
  blk_simp
  obtain ⟨a, f, rfl⟩ := eq_ix2 (m := 512) (n := 128) y
  have ht : t.val < 4 := t.isLt
  have e : (((pn (F := Ideal) 2).win 9).blk t).view.emb (ix2 a f : S512x128.Idx) = (ix2 (⟨t.val * 512 + a.val, by omega⟩ : Fin 2048) f : S2048x128.Idx) := by
    blk_ext [idx2 t]
  exact (congrFun ((after_eq n V 2 d 9 t).trans (out2_9 V t)) (ix2 a f : S512x128.Idx)).trans ((point2 V t ht a f).trans (congrArg _ e.symm))

theorem idx3 : ∀ t : Fin (pn (F := Ideal) 3).N, ((pcfgs (F := Ideal) 3).win (adm 3) 0).index t = ![t.val, 0, 0] ∧ ((pcfgs (F := Ideal) 3).win (adm 3) 1).index t = ![t.val, 0, 0] ∧ ((pcfgs (F := Ideal) 3).win (adm 3) 2).index t = ![t.val, 0] ∧ ((pcfgs (F := Ideal) 3).win (adm 3) 3).index t = ![t.val, 0] ∧ ((pcfgs (F := Ideal) 3).win (adm 3) 4).index t = ![0, 0] ∧ ((pcfgs (F := Ideal) 3).win (adm 3) 5).index t = ![0, 0] ∧ ((pcfgs (F := Ideal) 3).win (adm 3) 6).index t = ![0, 0] ∧ ((pcfgs (F := Ideal) 3).win (adm 3) 7).index t = ![0, 0] ∧ ((pcfgs (F := Ideal) 3).win (adm 3) 8).index t = ![0, 0] ∧ ((pcfgs (F := Ideal) 3).win (adm 3) 9).index t = ![0, 0] ∧ ((pcfgs (F := Ideal) 3).win (adm 3) 10).index t = ![t.val, 0] ∧ ((pcfgs (F := Ideal) 3).win (adm 3) 11).index t = ![t.val, 0] :=
  (by decide +kernel : ∀ t : Fin grid5.N, win5_0.index t = ![t.val, 0, 0] ∧ win5_1.index t = ![t.val, 0, 0] ∧ win5_2.index t = ![t.val, 0] ∧ win5_3.index t = ![t.val, 0] ∧ win5_4.index t = ![0, 0] ∧ win5_5.index t = ![0, 0] ∧ win5_6.index t = ![0, 0] ∧ win5_7.index t = ![0, 0] ∧ win5_8.index t = ![0, 0] ∧ win5_9.index t = ![0, 0] ∧ win5_10.index t = ![t.val, 0] ∧ win5_11.index t = ![t.val, 0])

theorem out3_10 (t : Fin (pn (F := Ideal) 3).N) : outs (F := Ideal) 3 V 10 t = outA10 (F := Ideal) (iblk 3 V 0 t) (iblk 3 V 1 t) (iblk 3 V 2 t) (iblk 3 V 3 t) (iblk 3 V 4 t) (iblk 3 V 5 t) (iblk 3 V 6 t) (iblk 3 V 7 t) (iblk 3 V 8 t) (iblk 3 V 9 t) :=
  (rfl : outs (F := Ideal) 3 V 10 t = out5 V t 10).trans (by rfl : out5 V t ⟨10, by decide⟩ = _)

theorem out3_11 (t : Fin (pn (F := Ideal) 3).N) : outs (F := Ideal) 3 V 11 t = outA11 (F := Ideal) (iblk 3 V 0 t) (iblk 3 V 1 t) (iblk 3 V 2 t) (iblk 3 V 3 t) (iblk 3 V 4 t) (iblk 3 V 5 t) (iblk 3 V 6 t) (iblk 3 V 7 t) (iblk 3 V 8 t) (iblk 3 V 9 t) :=
  (rfl : outs (F := Ideal) 3 V 11 t = out5 V t 11).trans (by rfl : out5 V t ⟨11, by decide⟩ = _)

set_option maxHeartbeats 2000000 in
theorem point3 (t : Fin (pn (F := Ideal) 3).N) (ht : t.val < 8) (a : Fin 512) (f : Fin 128) :
    outA10 (F := Ideal) (iblk 3 V 0 t) (iblk 3 V 1 t) (iblk 3 V 2 t) (iblk 3 V 3 t) (iblk 3 V 4 t) (iblk 3 V 5 t) (iblk 3 V 6 t) (iblk 3 V 7 t) (iblk 3 V 8 t) (iblk 3 V 9 t) (ix2 a f)
      = msgA (V (Proc.devRef .tc main_v57)) (V (Proc.devRef .tc main_v4)) (V (Proc.devRef .tc main_v38_0)) (V (Proc.devRef .tc main_v6)) (V (Proc.devRef .tc main_v41)) (V (Proc.devRef .tc main_v46)) (V (Proc.devRef .tc main_v48)) (V (Proc.devRef .tc main_v50)) (V (Proc.devRef .tc main_v55)) (ix2 (⟨t.val * 512 + a.val, by omega⟩ : Fin 4096) f) :=
  msgA_block (fun _ _ => by blk_ext [iblk, idx3 t]) (fun _ _ => by blk_ext [iblk, idx3 t]) (fun _ => by blk_ext [iblk, idx3 t]) (fun _ => by blk_ext [iblk, idx3 t]) (by blk_ext! [iblk, idx3 t]) (by blk_ext! [iblk, idx3 t]) (by blk_ext! [iblk, idx3 t]) (by blk_ext! [iblk, idx3 t]) (by blk_ext! [iblk, idx3 t])

theorem whole3 (t : Fin (pn (F := Ideal) 3).N) : (show FVec Ideal S128x128 .f32 from iblk 3 V 9 t) = (show FVec Ideal S128x128 .f32 from (V (Proc.devRef .tc main_v60))) := by
  blk_ext! [iblk, idx3 t]

theorem reg3_10 : regionV outs n 3 d V (Proc.devRef .tc main_v61_0) = msgA (V (Proc.devRef .tc main_v57)) (V (Proc.devRef .tc main_v4)) (V (Proc.devRef .tc main_v38_0)) (V (Proc.devRef .tc main_v6)) (V (Proc.devRef .tc main_v41)) (V (Proc.devRef .tc main_v46)) (V (Proc.devRef .tc main_v48)) (V (Proc.devRef .tc main_v50)) (V (Proc.devRef .tc main_v55)) := by
  refine (regionV_arr outs n 3 d V 10).trans ((dat outs n V 3 d).arrAt_eq_of_covers 10 _ (by decide +kernel) fun t _ y => ?_)
  blk_simp
  obtain ⟨a, f, rfl⟩ := eq_ix2 (m := 512) (n := 128) y
  have ht : t.val < 8 := t.isLt
  have e : (((pn (F := Ideal) 3).win 10).blk t).view.emb (ix2 a f : S512x128.Idx) = (ix2 (⟨t.val * 512 + a.val, by omega⟩ : Fin 4096) f : S4096x128.Idx) := by
    blk_ext [idx3 t]
  exact (congrFun ((after_eq n V 3 d 10 t).trans (out3_10 V t)) (ix2 a f : S512x128.Idx)).trans ((point3 V t ht a f).trans (congrArg _ e.symm))

theorem reg3_11 : regionV outs n 3 d V (Proc.devRef .tc main_v61_1) = table (msgA (V (Proc.devRef .tc main_v57)) (V (Proc.devRef .tc main_v4)) (V (Proc.devRef .tc main_v38_0)) (V (Proc.devRef .tc main_v6)) (V (Proc.devRef .tc main_v41)) (V (Proc.devRef .tc main_v46)) (V (Proc.devRef .tc main_v48)) (V (Proc.devRef .tc main_v50)) (V (Proc.devRef .tc main_v55))) (V (Proc.devRef .tc main_v60)) := by
  refine (regionV_arr outs n 3 d V 11).trans ((dat outs n V 3 d).arrAt_eq_of_covers 11 _ (by decide +kernel) fun t _ y => ?_)
  blk_simp
  obtain ⟨a, f, rfl⟩ := eq_ix2 (m := 512) (n := 128) y
  have ht : t.val < 8 := t.isLt
  have e : (((pn (F := Ideal) 3).win 11).blk t).view.emb (ix2 a f : S512x128.Idx) = (ix2 (⟨t.val * 512 + a.val, by omega⟩ : Fin 4096) f : S4096x128.Idx) := by
    blk_ext [idx3 t]
  exact (congrFun ((after_eq n V 3 d 11 t).trans (out3_11 V t)) (ix2 a f : S512x128.Idx)).trans ((tableA_block (fun c => point3 V t ht a c) (whole3 V t)).trans (congrArg _ e.symm))

theorem idx4 : ∀ t : Fin (pn (F := Ideal) 4).N, ((pcfgs (F := Ideal) 4).win (adm 4) 0).index t = ![t.val, 0, 0] ∧ ((pcfgs (F := Ideal) 4).win (adm 4) 1).index t = ![t.val, 0, 0] ∧ ((pcfgs (F := Ideal) 4).win (adm 4) 2).index t = ![t.val, 0] ∧ ((pcfgs (F := Ideal) 4).win (adm 4) 3).index t = ![t.val, 0] ∧ ((pcfgs (F := Ideal) 4).win (adm 4) 4).index t = ![0, 0] ∧ ((pcfgs (F := Ideal) 4).win (adm 4) 5).index t = ![0, 0] ∧ ((pcfgs (F := Ideal) 4).win (adm 4) 6).index t = ![0, 0] ∧ ((pcfgs (F := Ideal) 4).win (adm 4) 7).index t = ![0, 0] ∧ ((pcfgs (F := Ideal) 4).win (adm 4) 8).index t = ![0, 0] ∧ ((pcfgs (F := Ideal) 4).win (adm 4) 9).index t = ![t.val, 0] :=
  (by decide +kernel : ∀ t : Fin grid6.N, win6_0.index t = ![t.val, 0, 0] ∧ win6_1.index t = ![t.val, 0, 0] ∧ win6_2.index t = ![t.val, 0] ∧ win6_3.index t = ![t.val, 0] ∧ win6_4.index t = ![0, 0] ∧ win6_5.index t = ![0, 0] ∧ win6_6.index t = ![0, 0] ∧ win6_7.index t = ![0, 0] ∧ win6_8.index t = ![0, 0] ∧ win6_9.index t = ![t.val, 0])

theorem out4_9 (t : Fin (pn (F := Ideal) 4).N) : outs (F := Ideal) 4 V 9 t = outG9 (F := Ideal) (iblk 4 V 0 t) (iblk 4 V 1 t) (iblk 4 V 2 t) (iblk 4 V 3 t) (iblk 4 V 4 t) (iblk 4 V 5 t) (iblk 4 V 6 t) (iblk 4 V 7 t) (iblk 4 V 8 t) :=
  (rfl : outs (F := Ideal) 4 V 9 t = out6 V t 9).trans (by rfl : out6 V t ⟨9, by decide⟩ = _)

set_option maxHeartbeats 2000000 in
theorem point4 (t : Fin (pn (F := Ideal) 4).N) (ht : t.val < 4) (a : Fin 512) (f : Fin 128) :
    outG9 (F := Ideal) (iblk 4 V 0 t) (iblk 4 V 1 t) (iblk 4 V 2 t) (iblk 4 V 3 t) (iblk 4 V 4 t) (iblk 4 V 5 t) (iblk 4 V 6 t) (iblk 4 V 7 t) (iblk 4 V 8 t) (ix2 a f)
      = msgG (V (Proc.devRef .tc main_v58)) (V (Proc.devRef .tc main_v5)) (V (Proc.devRef .tc main_v39)) (V (Proc.devRef .tc main_v7)) (V (Proc.devRef .tc main_v41)) (V (Proc.devRef .tc main_v46)) (V (Proc.devRef .tc main_v48)) (V (Proc.devRef .tc main_v50)) (V (Proc.devRef .tc main_v55)) (ix2 (⟨t.val * 512 + a.val, by omega⟩ : Fin 2048) f) :=
  msgG_block (fun _ _ => by blk_ext [iblk, idx4 t]) (fun _ _ => by blk_ext [iblk, idx4 t]) (fun _ => by blk_ext [iblk, idx4 t]) (fun _ => by blk_ext [iblk, idx4 t]) (by blk_ext! [iblk, idx4 t]) (by blk_ext! [iblk, idx4 t]) (by blk_ext! [iblk, idx4 t]) (by blk_ext! [iblk, idx4 t]) (by blk_ext! [iblk, idx4 t])

theorem reg4_9 : regionV outs n 4 d V (Proc.devRef .tc main_v62) = msgG (V (Proc.devRef .tc main_v58)) (V (Proc.devRef .tc main_v5)) (V (Proc.devRef .tc main_v39)) (V (Proc.devRef .tc main_v7)) (V (Proc.devRef .tc main_v41)) (V (Proc.devRef .tc main_v46)) (V (Proc.devRef .tc main_v48)) (V (Proc.devRef .tc main_v50)) (V (Proc.devRef .tc main_v55)) := by
  refine (regionV_arr outs n 4 d V 9).trans ((dat outs n V 4 d).arrAt_eq_of_covers 9 _ (by decide +kernel) fun t _ y => ?_)
  blk_simp
  obtain ⟨a, f, rfl⟩ := eq_ix2 (m := 512) (n := 128) y
  have ht : t.val < 4 := t.isLt
  have e : (((pn (F := Ideal) 4).win 9).blk t).view.emb (ix2 a f : S512x128.Idx) = (ix2 (⟨t.val * 512 + a.val, by omega⟩ : Fin 2048) f : S2048x128.Idx) := by
    blk_ext [idx4 t]
  exact (congrFun ((after_eq n V 4 d 9 t).trans (out4_9 V t)) (ix2 a f : S512x128.Idx)).trans ((point4 V t ht a f).trans (congrArg _ e.symm))

theorem idx5 : ∀ t : Fin (pn (F := Ideal) 5).N, ((pcfgs (F := Ideal) 5).win (adm 5) 0).index t = ![t.val, 0, 0] ∧ ((pcfgs (F := Ideal) 5).win (adm 5) 1).index t = ![t.val, 0, 0] ∧ ((pcfgs (F := Ideal) 5).win (adm 5) 2).index t = ![t.val, 0] ∧ ((pcfgs (F := Ideal) 5).win (adm 5) 3).index t = ![t.val, 0] ∧ ((pcfgs (F := Ideal) 5).win (adm 5) 4).index t = ![0, 0] ∧ ((pcfgs (F := Ideal) 5).win (adm 5) 5).index t = ![0, 0] ∧ ((pcfgs (F := Ideal) 5).win (adm 5) 6).index t = ![0, 0] ∧ ((pcfgs (F := Ideal) 5).win (adm 5) 7).index t = ![0, 0] ∧ ((pcfgs (F := Ideal) 5).win (adm 5) 8).index t = ![0, 0] ∧ ((pcfgs (F := Ideal) 5).win (adm 5) 9).index t = ![0, 0] ∧ ((pcfgs (F := Ideal) 5).win (adm 5) 10).index t = ![t.val, 0] ∧ ((pcfgs (F := Ideal) 5).win (adm 5) 11).index t = ![t.val, 0] :=
  (by decide +kernel : ∀ t : Fin grid8.N, win8_0.index t = ![t.val, 0, 0] ∧ win8_1.index t = ![t.val, 0, 0] ∧ win8_2.index t = ![t.val, 0] ∧ win8_3.index t = ![t.val, 0] ∧ win8_4.index t = ![0, 0] ∧ win8_5.index t = ![0, 0] ∧ win8_6.index t = ![0, 0] ∧ win8_7.index t = ![0, 0] ∧ win8_8.index t = ![0, 0] ∧ win8_9.index t = ![0, 0] ∧ win8_10.index t = ![t.val, 0] ∧ win8_11.index t = ![t.val, 0])

theorem out5_10 (t : Fin (pn (F := Ideal) 5).N) : outs (F := Ideal) 5 V 10 t = outA10 (F := Ideal) (iblk 5 V 0 t) (iblk 5 V 1 t) (iblk 5 V 2 t) (iblk 5 V 3 t) (iblk 5 V 4 t) (iblk 5 V 5 t) (iblk 5 V 6 t) (iblk 5 V 7 t) (iblk 5 V 8 t) (iblk 5 V 9 t) :=
  (rfl : outs (F := Ideal) 5 V 10 t = out8 V t 10).trans (by rfl : out8 V t ⟨10, by decide⟩ = _)

theorem out5_11 (t : Fin (pn (F := Ideal) 5).N) : outs (F := Ideal) 5 V 11 t = outA11 (F := Ideal) (iblk 5 V 0 t) (iblk 5 V 1 t) (iblk 5 V 2 t) (iblk 5 V 3 t) (iblk 5 V 4 t) (iblk 5 V 5 t) (iblk 5 V 6 t) (iblk 5 V 7 t) (iblk 5 V 8 t) (iblk 5 V 9 t) :=
  (rfl : outs (F := Ideal) 5 V 11 t = out8 V t 11).trans (by rfl : out8 V t ⟨11, by decide⟩ = _)

set_option maxHeartbeats 2000000 in
theorem point5 (t : Fin (pn (F := Ideal) 5).N) (ht : t.val < 8) (a : Fin 512) (f : Fin 128) :
    outA10 (F := Ideal) (iblk 5 V 0 t) (iblk 5 V 1 t) (iblk 5 V 2 t) (iblk 5 V 3 t) (iblk 5 V 4 t) (iblk 5 V 5 t) (iblk 5 V 6 t) (iblk 5 V 7 t) (iblk 5 V 8 t) (iblk 5 V 9 t) (ix2 a f)
      = msgA (V (Proc.devRef .tc main_v80)) (V (Proc.devRef .tc main_v4)) (V (Proc.devRef .tc main_v61_0)) (V (Proc.devRef .tc main_v6)) (V (Proc.devRef .tc main_v64)) (V (Proc.devRef .tc main_v69)) (V (Proc.devRef .tc main_v71)) (V (Proc.devRef .tc main_v73)) (V (Proc.devRef .tc main_v78)) (ix2 (⟨t.val * 512 + a.val, by omega⟩ : Fin 4096) f) :=
  msgA_block (fun _ _ => by blk_ext [iblk, idx5 t]) (fun _ _ => by blk_ext [iblk, idx5 t]) (fun _ => by blk_ext [iblk, idx5 t]) (fun _ => by blk_ext [iblk, idx5 t]) (by blk_ext! [iblk, idx5 t]) (by blk_ext! [iblk, idx5 t]) (by blk_ext! [iblk, idx5 t]) (by blk_ext! [iblk, idx5 t]) (by blk_ext! [iblk, idx5 t])

theorem whole5 (t : Fin (pn (F := Ideal) 5).N) : (show FVec Ideal S128x128 .f32 from iblk 5 V 9 t) = (show FVec Ideal S128x128 .f32 from (V (Proc.devRef .tc main_v83))) := by
  blk_ext! [iblk, idx5 t]

theorem reg5_10 : regionV outs n 5 d V (Proc.devRef .tc main_v84_0) = msgA (V (Proc.devRef .tc main_v80)) (V (Proc.devRef .tc main_v4)) (V (Proc.devRef .tc main_v61_0)) (V (Proc.devRef .tc main_v6)) (V (Proc.devRef .tc main_v64)) (V (Proc.devRef .tc main_v69)) (V (Proc.devRef .tc main_v71)) (V (Proc.devRef .tc main_v73)) (V (Proc.devRef .tc main_v78)) := by
  refine (regionV_arr outs n 5 d V 10).trans ((dat outs n V 5 d).arrAt_eq_of_covers 10 _ (by decide +kernel) fun t _ y => ?_)
  blk_simp
  obtain ⟨a, f, rfl⟩ := eq_ix2 (m := 512) (n := 128) y
  have ht : t.val < 8 := t.isLt
  have e : (((pn (F := Ideal) 5).win 10).blk t).view.emb (ix2 a f : S512x128.Idx) = (ix2 (⟨t.val * 512 + a.val, by omega⟩ : Fin 4096) f : S4096x128.Idx) := by
    blk_ext [idx5 t]
  exact (congrFun ((after_eq n V 5 d 10 t).trans (out5_10 V t)) (ix2 a f : S512x128.Idx)).trans ((point5 V t ht a f).trans (congrArg _ e.symm))

theorem reg5_11 : regionV outs n 5 d V (Proc.devRef .tc main_v84_1) = table (msgA (V (Proc.devRef .tc main_v80)) (V (Proc.devRef .tc main_v4)) (V (Proc.devRef .tc main_v61_0)) (V (Proc.devRef .tc main_v6)) (V (Proc.devRef .tc main_v64)) (V (Proc.devRef .tc main_v69)) (V (Proc.devRef .tc main_v71)) (V (Proc.devRef .tc main_v73)) (V (Proc.devRef .tc main_v78))) (V (Proc.devRef .tc main_v83)) := by
  refine (regionV_arr outs n 5 d V 11).trans ((dat outs n V 5 d).arrAt_eq_of_covers 11 _ (by decide +kernel) fun t _ y => ?_)
  blk_simp
  obtain ⟨a, f, rfl⟩ := eq_ix2 (m := 512) (n := 128) y
  have ht : t.val < 8 := t.isLt
  have e : (((pn (F := Ideal) 5).win 11).blk t).view.emb (ix2 a f : S512x128.Idx) = (ix2 (⟨t.val * 512 + a.val, by omega⟩ : Fin 4096) f : S4096x128.Idx) := by
    blk_ext [idx5 t]
  exact (congrFun ((after_eq n V 5 d 11 t).trans (out5_11 V t)) (ix2 a f : S512x128.Idx)).trans ((tableA_block (fun c => point5 V t ht a c) (whole5 V t)).trans (congrArg _ e.symm))

theorem idx6 : ∀ t : Fin (pn (F := Ideal) 6).N, ((pcfgs (F := Ideal) 6).win (adm 6) 0).index t = ![t.val, 0, 0] ∧ ((pcfgs (F := Ideal) 6).win (adm 6) 1).index t = ![t.val, 0, 0] ∧ ((pcfgs (F := Ideal) 6).win (adm 6) 2).index t = ![t.val, 0] ∧ ((pcfgs (F := Ideal) 6).win (adm 6) 3).index t = ![t.val, 0] ∧ ((pcfgs (F := Ideal) 6).win (adm 6) 4).index t = ![0, 0] ∧ ((pcfgs (F := Ideal) 6).win (adm 6) 5).index t = ![0, 0] ∧ ((pcfgs (F := Ideal) 6).win (adm 6) 6).index t = ![0, 0] ∧ ((pcfgs (F := Ideal) 6).win (adm 6) 7).index t = ![0, 0] ∧ ((pcfgs (F := Ideal) 6).win (adm 6) 8).index t = ![0, 0] ∧ ((pcfgs (F := Ideal) 6).win (adm 6) 9).index t = ![t.val, 0] :=
  (by decide +kernel : ∀ t : Fin grid9.N, win9_0.index t = ![t.val, 0, 0] ∧ win9_1.index t = ![t.val, 0, 0] ∧ win9_2.index t = ![t.val, 0] ∧ win9_3.index t = ![t.val, 0] ∧ win9_4.index t = ![0, 0] ∧ win9_5.index t = ![0, 0] ∧ win9_6.index t = ![0, 0] ∧ win9_7.index t = ![0, 0] ∧ win9_8.index t = ![0, 0] ∧ win9_9.index t = ![t.val, 0])

theorem out6_9 (t : Fin (pn (F := Ideal) 6).N) : outs (F := Ideal) 6 V 9 t = outG9 (F := Ideal) (iblk 6 V 0 t) (iblk 6 V 1 t) (iblk 6 V 2 t) (iblk 6 V 3 t) (iblk 6 V 4 t) (iblk 6 V 5 t) (iblk 6 V 6 t) (iblk 6 V 7 t) (iblk 6 V 8 t) :=
  (rfl : outs (F := Ideal) 6 V 9 t = out9 V t 9).trans (by rfl : out9 V t ⟨9, by decide⟩ = _)

set_option maxHeartbeats 2000000 in
theorem point6 (t : Fin (pn (F := Ideal) 6).N) (ht : t.val < 4) (a : Fin 512) (f : Fin 128) :
    outG9 (F := Ideal) (iblk 6 V 0 t) (iblk 6 V 1 t) (iblk 6 V 2 t) (iblk 6 V 3 t) (iblk 6 V 4 t) (iblk 6 V 5 t) (iblk 6 V 6 t) (iblk 6 V 7 t) (iblk 6 V 8 t) (ix2 a f)
      = msgG (V (Proc.devRef .tc main_v81)) (V (Proc.devRef .tc main_v5)) (V (Proc.devRef .tc main_v62)) (V (Proc.devRef .tc main_v7)) (V (Proc.devRef .tc main_v64)) (V (Proc.devRef .tc main_v69)) (V (Proc.devRef .tc main_v71)) (V (Proc.devRef .tc main_v73)) (V (Proc.devRef .tc main_v78)) (ix2 (⟨t.val * 512 + a.val, by omega⟩ : Fin 2048) f) :=
  msgG_block (fun _ _ => by blk_ext [iblk, idx6 t]) (fun _ _ => by blk_ext [iblk, idx6 t]) (fun _ => by blk_ext [iblk, idx6 t]) (fun _ => by blk_ext [iblk, idx6 t]) (by blk_ext! [iblk, idx6 t]) (by blk_ext! [iblk, idx6 t]) (by blk_ext! [iblk, idx6 t]) (by blk_ext! [iblk, idx6 t]) (by blk_ext! [iblk, idx6 t])

theorem reg6_9 : regionV outs n 6 d V (Proc.devRef .tc main_v85) = msgG (V (Proc.devRef .tc main_v81)) (V (Proc.devRef .tc main_v5)) (V (Proc.devRef .tc main_v62)) (V (Proc.devRef .tc main_v7)) (V (Proc.devRef .tc main_v64)) (V (Proc.devRef .tc main_v69)) (V (Proc.devRef .tc main_v71)) (V (Proc.devRef .tc main_v73)) (V (Proc.devRef .tc main_v78)) := by
  refine (regionV_arr outs n 6 d V 9).trans ((dat outs n V 6 d).arrAt_eq_of_covers 9 _ (by decide +kernel) fun t _ y => ?_)
  blk_simp
  obtain ⟨a, f, rfl⟩ := eq_ix2 (m := 512) (n := 128) y
  have ht : t.val < 4 := t.isLt
  have e : (((pn (F := Ideal) 6).win 9).blk t).view.emb (ix2 a f : S512x128.Idx) = (ix2 (⟨t.val * 512 + a.val, by omega⟩ : Fin 2048) f : S2048x128.Idx) := by
    blk_ext [idx6 t]
  exact (congrFun ((after_eq n V 6 d 9 t).trans (out6_9 V t)) (ix2 a f : S512x128.Idx)).trans ((point6 V t ht a f).trans (congrArg _ e.symm))

theorem idx8 : ∀ t : Fin (pn (F := Ideal) 8).N, ((pcfgs (F := Ideal) 8).win (adm 8) 0).index t = ![t.val, 0, 0] ∧ ((pcfgs (F := Ideal) 8).win (adm 8) 1).index t = ![t.val, 0, 0] ∧ ((pcfgs (F := Ideal) 8).win (adm 8) 2).index t = ![t.val, 0] ∧ ((pcfgs (F := Ideal) 8).win (adm 8) 3).index t = ![t.val, 0] ∧ ((pcfgs (F := Ideal) 8).win (adm 8) 4).index t = ![0, 0] ∧ ((pcfgs (F := Ideal) 8).win (adm 8) 5).index t = ![0, 0] ∧ ((pcfgs (F := Ideal) 8).win (adm 8) 6).index t = ![0, 0] ∧ ((pcfgs (F := Ideal) 8).win (adm 8) 7).index t = ![0, 0] ∧ ((pcfgs (F := Ideal) 8).win (adm 8) 8).index t = ![0, 0] ∧ ((pcfgs (F := Ideal) 8).win (adm 8) 9).index t = ![t.val, 0] :=
  (by decide +kernel : ∀ t : Fin grid12.N, win12_0.index t = ![t.val, 0, 0] ∧ win12_1.index t = ![t.val, 0, 0] ∧ win12_2.index t = ![t.val, 0] ∧ win12_3.index t = ![t.val, 0] ∧ win12_4.index t = ![0, 0] ∧ win12_5.index t = ![0, 0] ∧ win12_6.index t = ![0, 0] ∧ win12_7.index t = ![0, 0] ∧ win12_8.index t = ![0, 0] ∧ win12_9.index t = ![t.val, 0])

theorem out8_9 (t : Fin (pn (F := Ideal) 8).N) : outs (F := Ideal) 8 V 9 t = outG9 (F := Ideal) (iblk 8 V 0 t) (iblk 8 V 1 t) (iblk 8 V 2 t) (iblk 8 V 3 t) (iblk 8 V 4 t) (iblk 8 V 5 t) (iblk 8 V 6 t) (iblk 8 V 7 t) (iblk 8 V 8 t) :=
  (rfl : outs (F := Ideal) 8 V 9 t = out12 V t 9).trans (by rfl : out12 V t ⟨9, by decide⟩ = _)

set_option maxHeartbeats 2000000 in
theorem point8 (t : Fin (pn (F := Ideal) 8).N) (ht : t.val < 4) (a : Fin 512) (f : Fin 128) :
    outG9 (F := Ideal) (iblk 8 V 0 t) (iblk 8 V 1 t) (iblk 8 V 2 t) (iblk 8 V 3 t) (iblk 8 V 4 t) (iblk 8 V 5 t) (iblk 8 V 6 t) (iblk 8 V 7 t) (iblk 8 V 8 t) (ix2 a f)
      = msgG (V (Proc.devRef .tc main_v104)) (V (Proc.devRef .tc main_v5)) (V (Proc.devRef .tc main_v85)) (V (Proc.devRef .tc main_v7)) (V (Proc.devRef .tc main_v87)) (V (Proc.devRef .tc main_v92)) (V (Proc.devRef .tc main_v94)) (V (Proc.devRef .tc main_v96)) (V (Proc.devRef .tc main_v101)) (ix2 (⟨t.val * 512 + a.val, by omega⟩ : Fin 2048) f) :=
  msgG_block (fun _ _ => by blk_ext [iblk, idx8 t]) (fun _ _ => by blk_ext [iblk, idx8 t]) (fun _ => by blk_ext [iblk, idx8 t]) (fun _ => by blk_ext [iblk, idx8 t]) (by blk_ext! [iblk, idx8 t]) (by blk_ext! [iblk, idx8 t]) (by blk_ext! [iblk, idx8 t]) (by blk_ext! [iblk, idx8 t]) (by blk_ext! [iblk, idx8 t])

theorem reg8_9 : regionV outs n 8 d V (Proc.devRef .tc main_v108) = msgG (V (Proc.devRef .tc main_v104)) (V (Proc.devRef .tc main_v5)) (V (Proc.devRef .tc main_v85)) (V (Proc.devRef .tc main_v7)) (V (Proc.devRef .tc main_v87)) (V (Proc.devRef .tc main_v92)) (V (Proc.devRef .tc main_v94)) (V (Proc.devRef .tc main_v96)) (V (Proc.devRef .tc main_v101)) := by
  refine (regionV_arr outs n 8 d V 9).trans ((dat outs n V 8 d).arrAt_eq_of_covers 9 _ (by decide +kernel) fun t _ y => ?_)
  blk_simp
  obtain ⟨a, f, rfl⟩ := eq_ix2 (m := 512) (n := 128) y
  have ht : t.val < 4 := t.isLt
  have e : (((pn (F := Ideal) 8).win 9).blk t).view.emb (ix2 a f : S512x128.Idx) = (ix2 (⟨t.val * 512 + a.val, by omega⟩ : Fin 2048) f : S2048x128.Idx) := by
    blk_ext [idx8 t]
  exact (congrFun ((after_eq n V 8 d 9 t).trans (out8_9 V t)) (ix2 a f : S512x128.Idx)).trans ((point8 V t ht a f).trans (congrArg _ e.symm))

theorem idx9 : ∀ t : Fin (pn (F := Ideal) 9).N, ((pcfgs (F := Ideal) 9).win (adm 9) 0).index t = ![t.val, 0] ∧ ((pcfgs (F := Ideal) 9).win (adm 9) 1).index t = ![0, 0] ∧ ((pcfgs (F := Ideal) 9).win (adm 9) 2).index t = ![t.val, 0] :=
  (by decide +kernel : ∀ t : Fin grid13.N, win13_0.index t = ![t.val, 0] ∧ win13_1.index t = ![0, 0] ∧ win13_2.index t = ![t.val, 0])

theorem out9_2 (t : Fin (pn (F := Ideal) 9).N) : outs (F := Ideal) 9 V 2 t = outO2 (F := Ideal) (iblk 9 V 0 t) (iblk 9 V 1 t) :=
  (rfl : outs (F := Ideal) 9 V 2 t = out13 V t 2).trans (by rfl : out13 V t ⟨2, by decide⟩ = _)

set_option maxHeartbeats 2000000 in
theorem point9 (t : Fin (pn (F := Ideal) 9).N) (ht : t.val < 4) (a : Fin 512) (f : Fin 32) :
    outO2 (F := Ideal) (iblk 9 V 0 t) (iblk 9 V 1 t) (ix2 a f)
      = readout (V (Proc.devRef .tc main_v108)) (V (Proc.devRef .tc main_arg10)) (ix2 (⟨t.val * 512 + a.val, by omega⟩ : Fin 2048) f) :=
  readout_block (fun _ => by blk_ext [iblk, idx9 t]) (by blk_ext! [iblk, idx9 t])

theorem reg9_2 : regionV outs n 9 d V (Proc.devRef .tc main_v109) = readout (V (Proc.devRef .tc main_v108)) (V (Proc.devRef .tc main_arg10)) := by
  refine (regionV_arr outs n 9 d V 2).trans ((dat outs n V 9 d).arrAt_eq_of_covers 2 _ (by decide +kernel) fun t _ y => ?_)
  blk_simp
  obtain ⟨a, f, rfl⟩ := eq_ix2 (m := 512) (n := 32) y
  have ht : t.val < 4 := t.isLt
  have e : (((pn (F := Ideal) 9).win 2).blk t).view.emb (ix2 a f : S512x32.Idx) = (ix2 (⟨t.val * 512 + a.val, by omega⟩ : Fin 2048) f : S2048x32.Idx) := by
    blk_ext [idx9 t]
  exact (congrFun ((after_eq n V 9 d 2 t).trans (out9_2 V t)) (ix2 a f : S512x32.Idx)).trans ((point9 V t ht a f).trans (congrArg _ e.symm))

end Cert.Proof.Arrays
-- ==== Proof.Weights.lean ====
/-
  A layer's weights as the kernel cuts them: the neighbours', the node's own and the nine edge or attribute rows, those padded to sixteen.
-/
module

public import proofs.«01_k».proof.Proof.Node
public import proofs.«01_k».proof.Proof.Gen.KernelIdeal.Launch
public import proofs.«01_k».proof.Proof.Gen.ReferenceIdeal.Run
public import Idealize.ShloMosaic.Lib.Pointwise
public import Idealize.ShloMosaic.Lib.Routing.OpsSet

@[expose] public section

set_option maxRecDepth 16384

noncomputable section

namespace Cert.Proof.Weights

open Cert.KernelIdeal Cert.KernelIdeal.Gen Cert.Proof.Node
open Idealize.ShloMosaic

/-- Nine rows, padded by zero rows to sixteen. -/
def padded (u : FVec Ideal S9x128 .f32) : FVec Ideal S16x128 .f32 :=
  Host.scatter scatter_S16x128_S1_S9x128_01_n_0_0 (fun _ b => b) (broadcastInDim S16x128 ![] bcast_S_S16x128 (constant (F := Ideal) S_ .f32 0x00000000#32))
    (broadcastInDim S1 ![] bcast_S_S1 (constantI S_ 32 0#32)) u

local notation "D" => scatter_S16x128_S1_S9x128_01_n_0_0

/-- An update lands at its own row and column. -/
theorem lands (k : S9x128.Idx) (i : S16x128.Idx) :
    ScatterDims.resultIdx? D k (broadcastInDim S1 ![] bcast_S_S1 (constantI S_ 32 0#32)) = some i ↔ (k 0).val = (i 0).val ∧ (k 1).val = (i 1).val := by
  have w0 : ScatterDims.window D k 0 = (k 0).val := rfl
  have w1 : ScatterDims.window D k 1 = (k 1).val := rfl
  have s0 : ScatterDims.start D k (broadcastInDim S1 ![] bcast_S_S1 (constantI S_ 32 0#32)) 0 = 0 := rfl
  have s1 : ScatterDims.start D k (broadcastInDim S1 ![] bcast_S_S1 (constantI S_ 32 0#32)) 1 = 0 := rfl
  have b0 : (k 0).val < 9 := (k 0).isLt
  have b1 : (k 1).val < 128 := (k 1).isLt
  have hb : ∀ a, 0 ≤ ScatterDims.start D k (broadcastInDim S1 ![] bcast_S_S1 (constantI S_ 32 0#32)) a + ScatterDims.window D k a
      ∧ ScatterDims.start D k (broadcastInDim S1 ![] bcast_S_S1 (constantI S_ 32 0#32)) a + ScatterDims.window D k a < S16x128.size a := by
    intro a
    match a with
    | ⟨0, _⟩ => show 0 ≤ (0 : ℤ) + ((k 0).val : ℤ) ∧ (0 : ℤ) + ((k 0).val : ℤ) < 16; omega
    | ⟨1, _⟩ => show 0 ≤ (0 : ℤ) + ((k 1).val : ℤ) ∧ (0 : ℤ) + ((k 1).val : ℤ) < 128; omega
  unfold ScatterDims.resultIdx?
  rw [dif_pos hb, Option.some_inj]
  constructor
  · rintro rfl
    constructor
    · show _ = ((0 : ℤ) + ((k 0).val : ℤ)).toNat; omega
    · show _ = ((0 : ℤ) + ((k 1).val : ℤ)).toNat; omega
  · rintro ⟨h0, h1⟩
    funext a
    apply Fin.ext
    match a with
    | ⟨0, _⟩ => show ((0 : ℤ) + ((k 0).val : ℤ)).toNat = (i 0).val; omega
    | ⟨1, _⟩ => show ((0 : ℤ) + ((k 1).val : ℤ)).toNat = (i 1).val; omega

theorem padded_lt (u : FVec Ideal S9x128 .f32) (e : Fin 16) (f : Fin 128) (h : e.val < 9) : padded u (ix2 e f) = u (ix2 ⟨e.val, h⟩ f) := by
  refine Routing.scatter_set_hit D _ _ u _ _ (fun k hk => ?_) (ix2 ⟨e.val, h⟩ f) ((lands _ _).2 ⟨rfl, rfl⟩)
  obtain ⟨h0, h1⟩ := (lands _ _).1 hk
  refine congrArg u ?_
  funext a
  match a with
  | ⟨0, _⟩ => exact Fin.ext h0
  | ⟨1, _⟩ => exact Fin.ext h1

theorem padded_ge (u : FVec Ideal S9x128 .f32) (e : Fin 16) (f : Fin 128) (h : 9 ≤ e.val) : padded u (ix2 e f) = 0 := by
  refine (Routing.scatter_set_miss D _ _ u _ (fun k hk => ?_)).trans Ideal.ofBits_zero_f32
  have h0 : (k 0).val = e.val := ((lands _ _).1 hk).1
  have : (k 0).val < 9 := (k 0).isLt
  omega

variable (W : FVec Ideal S4x265x128 .f32) (l : ℕ)

/-- A layer's weights, cut. -/
theorem parts (h : S4x265x128.Slices ![l, 0, 0] Cert.ReferenceIdeal.S1x265x128) (h0 : S4x265x128.Slices ![l, 0, 0] S1x128x128) (h1 : S4x265x128.Slices ![l, 128, 0] S1x128x128)
    (h2 : S4x265x128.Slices ![l, 256, 0] S1x9x128) :
    Parts (fun c f => shapeCast Cert.ReferenceIdeal.S265x128 (extractStridedSlice Cert.ReferenceIdeal.S1x265x128 ![l, 0, 0] W h) Cert.ReferenceIdeal.Gen.shapeCasts_S1x265x128_S265x128 (ix2 c f))
      (fun c f => shapeCast S128x128 (extractStridedSlice S1x128x128 ![l, 0, 0] W h0) shapeCasts_S1x128x128_S128x128 (ix2 c f))
      (fun c f => shapeCast S128x128 (extractStridedSlice S1x128x128 ![l, 128, 0] W h1) shapeCasts_S1x128x128_S128x128 (ix2 c f))
      (fun e f => padded (shapeCast S9x128 (extractStridedSlice S1x9x128 ![l, 256, 0] W h2) shapeCasts_S1x9x128_S9x128) (ix2 e f)) where
  hlo c f := by pointwise
  hmid c f := by pointwise
  hhi e f := by
    refine (padded_lt _ _ _ e.isLt).trans ?_
    pointwise
  hzero e f he := padded_ge _ _ _ he

end Cert.Proof.Weights
-- ==== Proof.RefLayer.lean ====
/-
  The reference's layers, node by node.
-/
module

public import proofs.«01_k».proof.Proof.Node
public import proofs.«01_k».proof.Proof.Gen.ReferenceIdeal.Run
public import Idealize.ShloMosaic.Lib.Pointwise

@[expose] public section

set_option maxRecDepth 16384

noncomputable section

namespace Cert.Proof.RefLayer

open Cert.ReferenceIdeal Cert.ReferenceIdeal.Gen Cert.ReferenceIdeal.Value Cert.Proof.Node
open Idealize.ShloMosaic

/-- `z` times `1 / (1 + e⁻ᶻ)`. -/
def silR {s : Shape} (h : S_.BroadcastsInDim s ![]) (z : FVec Ideal s .f32) : FVec Ideal s .f32 :=
  mulf z (Host.divf (broadcastInDim s ![] h (constant S_ .f32 0x3F800000#32)) (addf (broadcastInDim s ![] h (constant S_ .f32 0x3F800000#32)) (Host.exp (Host.negf z))))

theorem silR_apply {s : Shape} (h : S_.BroadcastsInDim s ![]) (z : FVec Ideal s .f32) (y : s.Idx) : silR h z y = sil (z y) := by
  have h1 : broadcastInDim s ![] h (constant (F := Ideal) S_ .f32 0x3F800000#32) y = (1 : EReal) := Ideal.ofBits_one_f32
  unfold silR
  refine (show _ = z y * Ideal.div _ (_ + Ideal.exp (-(z y))) from rfl).trans ?_
  rw [h1]; rfl

/-- The grid's edges before the nonlinearity. -/
def preG (g : FVec Ideal S49152x128 .f32) (h : FVec Ideal S2048x128 .f32) (e : FVec Ideal S2048x24x9 .f32) (W : FVec Ideal S265x128 .f32) : FVec Ideal S2048x24x128 .f32 :=
  Host.dotGeneral dot_S2048x24x265_S265x128_S2048x24x128_2_0_01_1_n_n none ((concatenate S2048x24x265 2 [⟨S2048x24x128, ((shapeCast _ g shapeCasts_S49152x128_S2048x24x128) : FVec Ideal S2048x24x128 .f32)⟩, ⟨S2048x24x128, ((broadcastInDim S2048x24x128 ![0, 1, 2] bcast_S2048x1x128_S2048x24x128_0_1_2 (broadcastInDim S2048x1x128 ![0, 2] bcast_S2048x128_S2048x1x128_0_2 h)) : FVec Ideal S2048x24x128 .f32)⟩, ⟨S2048x24x9, (e : FVec Ideal S2048x24x9 .f32)⟩] concatenates_S2048x24x128_S2048x24x128_S2048x24x9_S2048x24x265_d2 : FVec Ideal S2048x24x265 .f32)) W

theorem preG_apply (g : FVec Ideal S49152x128 .f32) (h : FVec Ideal S2048x128 .f32) (e : FVec Ideal S2048x24x9 .f32) (W : FVec Ideal S265x128 .f32)
    (i : Fin 2048) (k : Fin 24) (f : Fin 128) :
    preG g h e W (ix3 i k f) = ∑ c, cat (fun c => g (ix2 ⟨i.val * 24 + k.val, by omega⟩ c)) (fun c => h (ix2 i c)) (fun c => e (ix3 i k c)) c * W (ix2 c f) := by
  pointwise [preG, cat]

/-- The grid's messages, summed. -/
def aggG (z : FVec Ideal S2048x24x128 .f32) (v : FVec Ideal S2048x24 .f32) : FVec Ideal S2048x128 .f32 :=
  Host.reduceAdd (mulf (silR bcast_S_S2048x24x128 z) (broadcastInDim S2048x24x128 ![0, 1, 2] bcast_S2048x24x1_S2048x24x128_0_1_2 (broadcastInDim S2048x24x1 ![0, 1] bcast_S2048x24_S2048x24x1_0_1 v))) (constant S_ .f32 0x00000000#32) reducesTo_S2048x24x128_S2048x128_d1 h_S_

theorem aggG_apply (z : FVec Ideal S2048x24x128 .f32) (v : FVec Ideal S2048x24 .f32) (i : Fin 2048) (f : Fin 128) :
    aggG z v (ix2 i f) = ∑ k : Fin 24, sil (z (ix3 i k f)) * v (ix2 i k) := by
  pointwise [aggG, silR_apply]

/-- The grid nodes' update before the nonlinearity. -/
def updG (h a : FVec Ideal S2048x128 .f32) (n : FVec Ideal S2048x9 .f32) (W : FVec Ideal S265x128 .f32) : FVec Ideal S2048x128 .f32 :=
  Host.dotGeneral dot_S2048x265_S265x128_S2048x128_1_0_0_1_n_n none ((concatenate S2048x265 1 [⟨S2048x128, (h : FVec Ideal S2048x128 .f32)⟩, ⟨S2048x128, (a : FVec Ideal S2048x128 .f32)⟩, ⟨S2048x9, (n : FVec Ideal S2048x9 .f32)⟩] concatenates_S2048x128_S2048x128_S2048x9_S2048x265_d1 : FVec Ideal S2048x265 .f32)) W

theorem updG_apply (h a : FVec Ideal S2048x128 .f32) (n : FVec Ideal S2048x9 .f32) (W : FVec Ideal S265x128 .f32) (i : Fin 2048) (f : Fin 128) :
    updG h a n W (ix2 i f) = ∑ c, cat (fun c => h (ix2 i c)) (fun c => a (ix2 i c)) (fun c => n (ix2 i c)) c * W (ix2 c f) := by
  pointwise [updG, cat]

/-- The grid nodes' layer. -/
def layerG (g : FVec Ideal S49152x128 .f32) (h : FVec Ideal S2048x128 .f32) (e : FVec Ideal S2048x24x9 .f32) (v : FVec Ideal S2048x24 .f32) (n : FVec Ideal S2048x9 .f32)
    (Wm Wu : FVec Ideal S265x128 .f32) : FVec Ideal S2048x128 .f32 :=
  addf h (silR bcast_S_S2048x128 (updG h (aggG (preG g h e Wm) v) n Wu))

theorem layerG_apply (g : FVec Ideal S49152x128 .f32) (h : FVec Ideal S2048x128 .f32) (e : FVec Ideal S2048x24x9 .f32) (v : FVec Ideal S2048x24 .f32) (n : FVec Ideal S2048x9 .f32)
    (Wm Wu : FVec Ideal S265x128 .f32) (i : Fin 2048) (f : Fin 128) :
    layerG g h e v n Wm Wu (ix2 i f) = nodeR (K := 24) (fun k c => g (ix2 ⟨i.val * 24 + k.val, by omega⟩ c)) (fun k c => e (ix3 i k c)) (fun k => v (ix2 i k))
      (fun c => h (ix2 i c)) (fun c => n (ix2 i c)) (fun c f => Wm (ix2 c f)) (fun c f => Wu (ix2 c f)) f := by
  refine (show _ = h (ix2 i f) + silR bcast_S_S2048x128 _ (ix2 i f) from rfl).trans ?_
  rw [silR_apply, updG_apply]
  simp only [aggG_apply, preG_apply]
  rfl

/-- The atoms' edges before the nonlinearity. -/
def preA (g : FVec Ideal S32768x128 .f32) (h : FVec Ideal S4096x128 .f32) (e : FVec Ideal S4096x8x9 .f32) (W : FVec Ideal S265x128 .f32) : FVec Ideal S4096x8x128 .f32 :=
  Host.dotGeneral dot_S4096x8x265_S265x128_S4096x8x128_2_0_01_1_n_n none ((concatenate S4096x8x265 2 [⟨S4096x8x128, ((shapeCast _ g shapeCasts_S32768x128_S4096x8x128) : FVec Ideal S4096x8x128 .f32)⟩, ⟨S4096x8x128, ((broadcastInDim S4096x8x128 ![0, 1, 2] bcast_S4096x1x128_S4096x8x128_0_1_2 (broadcastInDim S4096x1x128 ![0, 2] bcast_S4096x128_S4096x1x128_0_2 h)) : FVec Ideal S4096x8x128 .f32)⟩, ⟨S4096x8x9, (e : FVec Ideal S4096x8x9 .f32)⟩] concatenates_S4096x8x128_S4096x8x128_S4096x8x9_S4096x8x265_d2 : FVec Ideal S4096x8x265 .f32)) W

theorem preA_apply (g : FVec Ideal S32768x128 .f32) (h : FVec Ideal S4096x128 .f32) (e : FVec Ideal S4096x8x9 .f32) (W : FVec Ideal S265x128 .f32)
    (i : Fin 4096) (k : Fin 8) (f : Fin 128) :
    preA g h e W (ix3 i k f) = ∑ c, cat (fun c => g (ix2 ⟨i.val * 8 + k.val, by omega⟩ c)) (fun c => h (ix2 i c)) (fun c => e (ix3 i k c)) c * W (ix2 c f) := by
  pointwise [preA, cat]

/-- The atoms' messages, summed. -/
def aggA (z : FVec Ideal S4096x8x128 .f32) (v : FVec Ideal S4096x8 .f32) : FVec Ideal S4096x128 .f32 :=
  Host.reduceAdd (mulf (silR bcast_S_S4096x8x128 z) (broadcastInDim S4096x8x128 ![0, 1, 2] bcast_S4096x8x1_S4096x8x128_0_1_2 (broadcastInDim S4096x8x1 ![0, 1] bcast_S4096x8_S4096x8x1_0_1 v))) (constant S_ .f32 0x00000000#32) reducesTo_S4096x8x128_S4096x128_d1 h_S_

theorem aggA_apply (z : FVec Ideal S4096x8x128 .f32) (v : FVec Ideal S4096x8 .f32) (i : Fin 4096) (f : Fin 128) :
    aggA z v (ix2 i f) = ∑ k : Fin 8, sil (z (ix3 i k f)) * v (ix2 i k) := by
  pointwise [aggA, silR_apply]

/-- The atoms' update before the nonlinearity. -/
def updA (h a : FVec Ideal S4096x128 .f32) (n : FVec Ideal S4096x9 .f32) (W : FVec Ideal S265x128 .f32) : FVec Ideal S4096x128 .f32 :=
  Host.dotGeneral dot_S4096x265_S265x128_S4096x128_1_0_0_1_n_n none ((concatenate S4096x265 1 [⟨S4096x128, (h : FVec Ideal S4096x128 .f32)⟩, ⟨S4096x128, (a : FVec Ideal S4096x128 .f32)⟩, ⟨S4096x9, (n : FVec Ideal S4096x9 .f32)⟩] concatenates_S4096x128_S4096x128_S4096x9_S4096x265_d1 : FVec Ideal S4096x265 .f32)) W

theorem updA_apply (h a : FVec Ideal S4096x128 .f32) (n : FVec Ideal S4096x9 .f32) (W : FVec Ideal S265x128 .f32) (i : Fin 4096) (f : Fin 128) :
    updA h a n W (ix2 i f) = ∑ c, cat (fun c => h (ix2 i c)) (fun c => a (ix2 i c)) (fun c => n (ix2 i c)) c * W (ix2 c f) := by
  pointwise [updA, cat]

/-- The atoms' layer. -/
def layerA (g : FVec Ideal S32768x128 .f32) (h : FVec Ideal S4096x128 .f32) (e : FVec Ideal S4096x8x9 .f32) (v : FVec Ideal S4096x8 .f32) (n : FVec Ideal S4096x9 .f32)
    (Wm Wu : FVec Ideal S265x128 .f32) : FVec Ideal S4096x128 .f32 :=
  addf h (silR bcast_S_S4096x128 (updA h (aggA (preA g h e Wm) v) n Wu))

theorem layerA_apply (g : FVec Ideal S32768x128 .f32) (h : FVec Ideal S4096x128 .f32) (e : FVec Ideal S4096x8x9 .f32) (v : FVec Ideal S4096x8 .f32) (n : FVec Ideal S4096x9 .f32)
    (Wm Wu : FVec Ideal S265x128 .f32) (i : Fin 4096) (f : Fin 128) :
    layerA g h e v n Wm Wu (ix2 i f) = nodeR (K := 8) (fun k c => g (ix2 ⟨i.val * 8 + k.val, by omega⟩ c)) (fun k c => e (ix3 i k c)) (fun k => v (ix2 i k))
      (fun c => h (ix2 i c)) (fun c => n (ix2 i c)) (fun c f => Wm (ix2 c f)) (fun c f => Wu (ix2 c f)) f := by
  refine (show _ = h (ix2 i f) + silR bcast_S_S4096x128 _ (ix2 i f) from rfl).trans ?_
  rw [silR_apply, updA_apply]
  simp only [aggA_apply, preA_apply]
  rfl

end Cert.Proof.RefLayer

end
-- ==== Proof.Rows.lean ====
/-
  The index list as the program builds it, word by word: word `e` names the source of edge `e`, the atoms' edges (eight
  to an atom) before the grid nodes' (twenty-four to a node). And what the precondition says of the words.
-/
module

public import proofs.«01_k».proof.Proof.Call
public import proofs.«01_k».proof.Proof.Gen.Pre_in_range
public import Idealize.ShloMosaic.Lib.Pipeline.Value
public import Idealize.ShloMosaic.Lib.ReduceAll
public import Idealize.ShloMosaic.Lib.StableHlo.Predicate
public import Idealize.ShloMosaic.Lib.Routing.Ops

@[expose] public section

noncomputable section

namespace Cert.Proof.Rows

open Cert.KernelIdeal Cert.KernelIdeal.Gen Cert.Proof.Tile Cert.Proof.Call
open Idealize.ShloMosaic
open Idealize.ShloMosaic.StableHlo.Predicate

variable {F : FTy → Type} {α : Type}

/-- The source of the atoms' edge `e`: neighbour `e % 8` of atom `e / 8`. -/
def atomSrc (a0 : S8x4096.Idx → α) (e : ℕ) (h : e < 32768) : α := a0 (ix (n := 8) (m := 4096) ⟨e % 8, by omega⟩ ⟨e / 8, by omega⟩)
/-- The source of the grid's edge `e`: neighbour `e % 24` of node `e / 24`. -/
def gridSrc (a1 : S24x2048.Idx → α) (e : ℕ) (h : e < 49152) : α := a1 (ix (n := 24) (m := 2048) ⟨e % 24, by omega⟩ ⟨e / 24, by omega⟩)

/-- The two neighbour arrays, one row to a node, flattened. -/
abbrev flatA (a0 : S8x4096.Idx → α) : S32768.Idx → α := shapeCast S32768 (transpose S4096x8 [1, 0] a0 transposes_S8x4096_S4096x8_1_0) shapeCasts_S4096x8_S32768
abbrev flatG (a1 : S24x2048.Idx → α) : S49152.Idx → α := shapeCast S49152 (transpose S2048x24 [1, 0] a1 transposes_S24x2048_S2048x24_1_0) shapeCasts_S2048x24_S49152
/-- The index list as the program passes it to the SparseCores. -/
abbrev listed (a0 : S8x4096.Idx → α) (a1 : S24x2048.Idx → α) : S32x20x128.Idx → α :=
  transpose S32x20x128 [1, 0, 2] (shapeCast S20x32x128 (concatenate S81920 0 [⟨S32768, flatA a0⟩, ⟨S49152, flatG a1⟩] concatenates_S32768_S49152_S81920_d0)
    shapeCasts_S81920_S20x32x128) transposes_S20x32x128_S32x20x128_1_0_2

abbrev ix1 {n : ℕ} (a : Fin n) : (⟨1, ![n]⟩ : Shape).Idx := fun x => match x with | 0 => a

theorem flatA_apply (a0 : S8x4096.Idx → α) (e : Fin 32768) : flatA a0 (ix1 e) = atomSrc a0 e.val e.isLt := by
  refine (shapeCast_apply _ _ _ (ix (n := 4096) (m := 8) ⟨e.val / 8, by omega⟩ ⟨e.val % 8, by omega⟩) ?_).trans ?_
  · refine (Shape.rowMajor_val_two _).trans (Eq.trans ?_ (Shape.rowMajor_val_one _).symm)
    show e.val / 8 * 8 + e.val % 8 = e.val
    omega
  · exact transpose_apply _ _ _ _ _ fun b => match b with | 0 => rfl | 1 => rfl

theorem flatG_apply (a1 : S24x2048.Idx → α) (e : Fin 49152) : flatG a1 (ix1 e) = gridSrc a1 e.val e.isLt := by
  refine (shapeCast_apply _ _ _ (ix (n := 2048) (m := 24) ⟨e.val / 24, by omega⟩ ⟨e.val % 24, by omega⟩) ?_).trans ?_
  · refine (Shape.rowMajor_val_two _).trans (Eq.trans ?_ (Shape.rowMajor_val_one _).symm)
    show e.val / 24 * 24 + e.val % 24 = e.val
    omega
  · exact transpose_apply _ _ _ _ _ fun b => match b with | 0 => rfl | 1 => rfl

/-- Entry `(w, j, r)` of the list is word `4096 j + 128 w + r` of the flat list. -/
theorem listed_apply (a0 : S8x4096.Idx → α) (a1 : S24x2048.Idx → α) (w : Fin 32) (j : Fin 20) (r : Fin 128) :
    listed a0 a1 (ix3 w j r) = concatenate S81920 0 [⟨S32768, flatA a0⟩, ⟨S49152, flatG a1⟩] concatenates_S32768_S49152_S81920_d0
      (ix1 (n := 81920) ⟨4096 * j.val + 128 * w.val + r.val, by omega⟩) := by
  refine (transpose_apply (t := S32x20x128) _ _ _ _ (ix3 (n := 20) (m := 32) (k := 128) j w r) ?_).trans ?_
  · exact fun b => match b with | 0 => rfl | 1 => rfl | 2 => rfl
  refine shapeCast_apply _ _ _ _ ?_
  refine (Shape.rowMajor_val_one _).trans (Eq.trans ?_ (Shape.rowMajor_val_three _).symm)
  show 4096 * j.val + 128 * w.val + r.val = (j.val * 32 + w.val) * 128 + r.val
  omega

theorem word_atom (a0 : S8x4096.Idx → BitVec 32) (a1 : S24x2048.Idx → BitVec 32) (e : ℕ) (h : e < 32768) :
    word (F := F) (listed a0 a1) e (by omega) = atomSrc a0 e h := by
  unfold word
  rw [listed_apply]
  refine (concatenate_pair_apply_left (t := S81920) (s₁ := S32768) (s₂ := S49152) 0 _ _ _ _ rfl (ix1 (⟨e, h⟩ : Fin 32768)) fun b => match b with | 0 => ?_).trans (flatA_apply _ _)
  show e = 4096 * (e / 128 / 32) + 128 * (e / 128 % 32) + e % 128
  omega

theorem word_grid (a0 : S8x4096.Idx → BitVec 32) (a1 : S24x2048.Idx → BitVec 32) (e : ℕ) (h : e < 49152) :
    word (F := F) (listed a0 a1) (32768 + e) (by omega) = gridSrc a1 e h := by
  unfold word
  rw [listed_apply]
  refine (concatenate_pair_apply_right (t := S81920) (s₁ := S32768) (s₂ := S49152) 0 _ _ _ _ rfl rfl (ix1 (⟨e, h⟩ : Fin 49152)) (fun b hb => absurd ?_ hb) ?_).trans (flatG_apply _ _)
  · match b with | 0 => rfl
  · show e + 32768 = 4096 * ((32768 + e) / 128 / 32) + 128 * ((32768 + e) / 128 % 32) + (32768 + e) % 128
    omega

theorem listed_lt (a0 : S8x4096.Idx → BitVec 32) (a1 : S24x2048.Idx → BitVec 32) (h0 : ∀ y, (a0 y).toNat < 4096) (h1 : ∀ y, (a1 y).toNat < 4096)
    (y : S32x20x128.Idx) : (listed a0 a1 y).toNat < 4096 := by
  have e : y = ix3 (n := 32) (m := 20) (k := 128) (y 0) (y 1) (y 2) := funext fun b => match b with | 0 => rfl | 1 => rfl | 2 => rfl
  have b0 : (y 0).val < 32 := (y 0).isLt
  have b1 : (y 1).val < 20 := (y 1).isLt
  have b2 : (y 2).val < 128 := (y 2).isLt
  have hw : word (F := fun _ => Unit) (listed a0 a1) (4096 * (y 1).val + 128 * (y 0).val + (y 2).val) (by omega) = listed a0 a1 y := by
    conv_rhs => rw [e]
    exact word_at (F := fun _ => Unit) _ _ _ _ _ _ (by omega)
  rw [← hw]
  by_cases h : 4096 * (y 1).val + 128 * (y 0).val + (y 2).val < 32768
  · rw [word_atom _ _ _ h]; exact h0 _
  · have e2 : 4096 * (y 1).val + 128 * (y 0).val + (y 2).val = 32768 + (4096 * (y 1).val + 128 * (y 0).val + (y 2).val - 32768) := by omega
    have h3 : word (F := fun _ => Unit) (listed a0 a1) (4096 * (y 1).val + 128 * (y 0).val + (y 2).val) (by omega)
        = word (F := fun _ => Unit) (listed a0 a1) (32768 + (4096 * (y 1).val + 128 * (y 0).val + (y 2).val - 32768)) (by omega) := by congr 1
    rw [h3, word_grid _ _ _ (by omega)]; exact h1 _

/-! ## What the precondition says -/

theorem andi_one {p q : BitVec 1} : IntOp.andi p q = 1#1 ↔ p = 1#1 ∧ q = 1#1 := by
  unfold IntOp.andi; revert p q; decide

theorem lt_of_cmp {v : BitVec 32} (h : IntOp.andi (IntOp.cmpi .sge v 0#32) (IntOp.cmpi .slt v 4096#32) = 1#1) : v.toNat < 4096 := by
  obtain ⟨h1, h2⟩ := andi_one.mp h
  simp only [IntOp.cmpi, ofBool_eq_one_iff, BitVec.sle_eq_decide, BitVec.slt_eq_decide, decide_eq_true_eq, BitVec.toInt_eq_toNat_cond, BitVec.toNat_ofNat,
    Nat.reducePow, Nat.reduceMod] at h1 h2
  omega

instance : Subsingleton S_.Idx := ⟨fun _ _ => funext fun a => a.elim0⟩

/-- Every neighbour number is below 4096. -/
theorem lt_of_pre [FloatOps F] (a0 : IVec S4096 32) (a1 : IVec S8x4096 32) (a2 : IVec S24x2048 32) (a3 : FVec F S8x16x4096 .f32) (a4 : FVec F S24x16x2048 .f32)
    (a5 : FVec F S16x4096 .f32) (a6 : FVec F S16x2048 .f32) (a7 : FVec F S16x128 .f32) (a8 a9 : FVec F S4x265x128 .f32) (a10 : FVec F S128x32 .f32)
    (h : Cert.Pre_in_range.fn a0 a1 a2 a3 a4 a5 a6 a7 a8 a9 a10 = fun _ => 1#1) : (∀ y, (a1 y).toNat < 4096) ∧ ∀ y, (a2 y).toNat < 4096 := by
  have e := congrFun h (fun a => a.elim0)
  obtain ⟨e0, e1⟩ := andi_one.mp e
  refine ⟨fun y => lt_of_cmp ?_, fun y => lt_of_cmp ?_⟩
  · exact Host.reduce_andi_all _ _ _ _ _ e0 y
  · exact Host.reduce_andi_all _ _ _ _ _ e1 y

end Cert.Proof.Rows

end
-- ==== Proof.Gather.lean ====
/-
  The rows the SparseCore calls gather, and the reference's indexing of the same rows.
-/
module

public import proofs.«01_k».proof.Proof.Launch
public import proofs.«01_k».proof.Proof.Rows
public import proofs.«01_k».proof.Proof.Gen.ReferenceIdeal.Run
public import Idealize.ShloMosaic.Lib.Pointwise

@[expose] public section

noncomputable section

namespace Cert.Proof.Gather

open Cert.KernelIdeal Cert.KernelIdeal.Gen Cert.Proof.Tile Cert.Proof.Call Cert.Proof.Rows Cert.Proof.Launch
open Idealize.ShloMosaic

variable {F : FTy → Type} [FloatOps F]

theorem ix_eq {n m : ℕ} (a : Fin n) (b : Fin m) : ix a b = Idealize.ShloMosaic.ix2 a b := funext fun x => match x with | 0 => rfl | 1 => rfl

/-- The rows of `t` that the atoms' edges name, and those that the grid's do. -/
def rowsA (a0 : S8x4096.Idx → BitVec 32) (t : STab.Idx → Elt F .f32) : S32768x128.Idx → Elt F .f32 :=
  fun x => t (Idealize.ShloMosaic.ix2 (row (atomSrc a0 (x 0).val (x 0).isLt)) (x 1))
def rowsG (a1 : S24x2048.Idx → BitVec 32) (t : STab.Idx → Elt F .f32) : S49152x128.Idx → Elt F .f32 :=
  fun x => t (Idealize.ShloMosaic.ix2 (row (gridSrc a1 (x 0).val (x 0).isLt)) (x 1))

theorem unread_whole {κ : Kind} (b : Ref sig κ) (h : (Memref.whole b).IsWhole) (X : b.ty.shape.Idx → Elt F b.ty.elt) : h.unread X = X :=
  read_unread_whole b h X

variable (a0 : S8x4096.Idx → BitVec 32) (a1 : S24x2048.Idx → BitVec 32) (t : STab.Idx → Elt F .f32)

theorem valA_rows : valA (F := F) (listed a0 a1) t = rowsA a0 t := funext fun x => by
  unfold valA rowsA
  rw [word_atom (F := F) _ _ _ (x 0).isLt]
  exact congrArg t (ix_eq _ _)

theorem valG_rows : valG (F := F) (listed a0 a1) t = rowsG a1 t := funext fun x => by
  unfold valG rowsG
  rw [word_grid (F := F) _ _ _ (x 0).isLt]
  exact congrArg t (ix_eq _ _)

variable {a0 a1 t} {V : Valuation τ sig (Elt F)}

theorem gather0_A (hl : V (Proc.devRef .tc main_v12) = listed a0 a1) (ht : V (Proc.devRef .tc main_v15_1) = t) :
    gatherV (calls 0) V (Proc.devRef .tc main_v33_0) = rowsA a0 t := by
  refine (gatherV_A (four 0) V).trans ?_
  rw [show listOf (calls 0) V = listed a0 a1 from hl, show tabOf (calls 0) V = t from ht, valA_rows]
  exact unread_whole (main_v33_0_scv : Ref sig .scVector) _ _

theorem gather0_G (hl : V (Proc.devRef .tc main_v12) = listed a0 a1) (ht : V (Proc.devRef .tc main_v15_1) = t) :
    gatherV (calls 0) V (Proc.devRef .tc main_v33_1) = rowsG a1 t := by
  refine (gatherV_G (calls 0) V).trans ?_
  rw [show listOf (calls 0) V = listed a0 a1 from hl, show tabOf (calls 0) V = t from ht, valG_rows]
  exact unread_whole (main_v33_1_scv : Ref sig .scVector) _ _

theorem gather1_A (hl : V (Proc.devRef .tc main_v12) = listed a0 a1) (ht : V (Proc.devRef .tc main_v38_1) = t) :
    gatherV (calls 1) V (Proc.devRef .tc main_v56_0) = rowsA a0 t := by
  refine (gatherV_A (four 1) V).trans ?_
  rw [show listOf (calls 1) V = listed a0 a1 from hl, show tabOf (calls 1) V = t from ht, valA_rows]
  exact unread_whole (main_v56_0_scv : Ref sig .scVector) _ _

theorem gather1_G (hl : V (Proc.devRef .tc main_v12) = listed a0 a1) (ht : V (Proc.devRef .tc main_v38_1) = t) :
    gatherV (calls 1) V (Proc.devRef .tc main_v56_1) = rowsG a1 t := by
  refine (gatherV_G (calls 1) V).trans ?_
  rw [show listOf (calls 1) V = listed a0 a1 from hl, show tabOf (calls 1) V = t from ht, valG_rows]
  exact unread_whole (main_v56_1_scv : Ref sig .scVector) _ _

theorem gather2_A (hl : V (Proc.devRef .tc main_v12) = listed a0 a1) (ht : V (Proc.devRef .tc main_v61_1) = t) :
    gatherV (calls 2) V (Proc.devRef .tc main_v79_0) = rowsA a0 t := by
  refine (gatherV_A (four 2) V).trans ?_
  rw [show listOf (calls 2) V = listed a0 a1 from hl, show tabOf (calls 2) V = t from ht, valA_rows]
  exact unread_whole (main_v79_0_scv : Ref sig .scVector) _ _

theorem gather2_G (hl : V (Proc.devRef .tc main_v12) = listed a0 a1) (ht : V (Proc.devRef .tc main_v61_1) = t) :
    gatherV (calls 2) V (Proc.devRef .tc main_v79_1) = rowsG a1 t := by
  refine (gatherV_G (calls 2) V).trans ?_
  rw [show listOf (calls 2) V = listed a0 a1 from hl, show tabOf (calls 2) V = t from ht, valG_rows]
  exact unread_whole (main_v79_1_scv : Ref sig .scVector) _ _

theorem gather3_A (hl : V (Proc.devRef .tc main_v12) = listed a0 a1) (ht : V (Proc.devRef .tc main_v84_1) = t) :
    gatherV (calls 3) V (Proc.devRef .tc main_v102_0) = rowsA a0 t := by
  refine (gatherV_A (four 3) V).trans ?_
  rw [show listOf (calls 3) V = listed a0 a1 from hl, show tabOf (calls 3) V = t from ht, valA_rows]
  exact unread_whole (main_v102_0_scv : Ref sig .scVector) _ _

theorem gather3_G (hl : V (Proc.devRef .tc main_v12) = listed a0 a1) (ht : V (Proc.devRef .tc main_v84_1) = t) :
    gatherV (calls 3) V (Proc.devRef .tc main_v102_1) = rowsG a1 t := by
  refine (gatherV_G (calls 3) V).trans ?_
  rw [show listOf (calls 3) V = listed a0 a1 from hl, show tabOf (calls 3) V = t from ht, valG_rows]
  exact unread_whole (main_v102_1_scv : Ref sig .scVector) _ _

/-! ## The reference's -/

/-- Indexing a table's rows, as the host lowers it, by words that name rows. -/
theorem take_rows {n : ℕ} {α : Type} (g : GatherDims ⟨2, ![4096, 128]⟩ ⟨2, ![n, 1]⟩ ⟨2, ![n, 128]⟩) (hoff : g.offsetDims = [1])
    (hcoll : g.collapsedSliceDims = [0]) (hob : g.operandBatchingDims = []) (hsim : g.startIndexMap = [0]) (hivd : g.indexVectorDim = 1)
    (hb : (⟨1, ![n]⟩ : Shape).BroadcastsInDim ⟨2, ![n, 1]⟩ ![0]) (w z k : IVec ⟨1, ![n]⟩ 32) (hz : ∀ y, z y = 0#32) (hw : ∀ y, (w y).toNat < 4096)
    (t : (⟨2, ![4096, 128]⟩ : Shape).Idx → α) (x : (⟨2, ![n, 128]⟩ : Shape).Idx) :
    Host.gather g t (broadcastInDim ⟨2, ![n, 1]⟩ ![0] hb (select (cmpi .slt w z) (addi w k) w)) x = t (Idealize.ShloMosaic.ix2 (row (w (Rows.ix1 (x 0)))) (x 1)) := by
  have hx : x = ValueIdx.ix2 (x 0) (x 1) := ValueIdx.eq_ix2 x
  have hs : select (cmpi .slt w z) (addi w k) w = w := by
    funext y
    show Scalar.select (IntOp.cmpi .slt (w y) (z y)) _ (w y) = w y
    rw [hz]
    have h0 : ¬ IntOp.cmpi .slt (w y) 0#32 = 1#1 := fun h => by
      have := (StableHlo.Predicate.slt_iff_toNat (by have := hw y; omega) (by decide)).mp h
      simp at this
    rw [ValueIdx.eq_zero_of_ne_one h0]; rfl
  rw [hs]
  conv_lhs => rw [hx]
  refine (Routing.gather_row g hoff hcoll hob hsim hivd t _ (x 0) (x 1) (row (w (Rows.ix1 (x 0)))) ?_ (by decide)).trans ?_
  · rw [row_of_lt (hw _)]
    refine (broadcastInDim_apply ![0] hb w _ (Rows.ix1 (x 0)) fun a => match a with | 0 => ?_).trans ?_
    · have h0 : (x 0).val < n := (x 0).isLt
      show (x 0).val = if n = 1 then 0 else (x 0).val
      split <;> omega
    · exact (BitVec.ofNat_toNat 32 _ ▸ (BitVec.setWidth_eq _).symm)
  · exact congrArg t (funext fun a => match a with | 0 => rfl | 1 => rfl)

variable {a0 : S8x4096.Idx → BitVec 32} {a1 : S24x2048.Idx → BitVec 32}

theorem flatA_lt (h : ∀ y, (a0 y).toNat < 4096) (y : S32768.Idx) : (flatA a0 y).toNat < 4096 := by
  have e : y = Rows.ix1 (n := 32768) (y 0) := funext fun a => match a with | 0 => rfl
  rw [e]; exact (congrArg BitVec.toNat (flatA_apply a0 (y 0))).trans_lt (h _)
theorem flatG_lt (h : ∀ y, (a1 y).toNat < 4096) (y : S49152.Idx) : (flatG a1 y).toNat < 4096 := by
  have e : y = Rows.ix1 (n := 49152) (y 0) := funext fun a => match a with | 0 => rfl
  rw [e]; exact (congrArg BitVec.toNat (flatG_apply a1 (y 0))).trans_lt (h _)

theorem ref_A (h : ∀ y, (a0 y).toNat < 4096) (z k : IVec S32768 32) (hz : ∀ y, z y = 0#32) (t : STab.Idx → Elt F .f32) :
    Host.gather Cert.ReferenceIdeal.gather_S4096x128_S32768x1_S32768x128_1_0_n_n_0_1_1128 t
      (broadcastInDim Cert.ReferenceIdeal.S32768x1 ![0] Cert.ReferenceIdeal.Facts₀.bcast_S32768_S32768x1_0 (select (cmpi .slt (flatA a0) z) (addi (flatA a0) k) (flatA a0)))
      = rowsA a0 t := by
  funext x
  refine (take_rows (n := 32768) _ rfl rfl rfl rfl rfl _ _ z k hz (flatA_lt h) t x).trans ?_
  exact congrArg (fun w => t (Idealize.ShloMosaic.ix2 (row w) (x 1))) (flatA_apply a0 (x 0))

theorem ref_G (h : ∀ y, (a1 y).toNat < 4096) (z k : IVec S49152 32) (hz : ∀ y, z y = 0#32) (t : STab.Idx → Elt F .f32) :
    Host.gather Cert.ReferenceIdeal.gather_S4096x128_S49152x1_S49152x128_1_0_n_n_0_1_1128 t
      (broadcastInDim Cert.ReferenceIdeal.S49152x1 ![0] Cert.ReferenceIdeal.Facts₀.bcast_S49152_S49152x1_0 (select (cmpi .slt (flatG a1) z) (addi (flatG a1) k) (flatG a1)))
      = rowsG a1 t := by
  funext x
  refine (take_rows (n := 49152) _ rfl rfl rfl rfl rfl _ _ z k hz (flatG_lt h) t x).trans ?_
  exact congrArg (fun w => t (Idealize.ShloMosaic.ix2 (row w) (x 1))) (flatG_apply a1 (x 0))

end Cert.Proof.Gather
-- ==== Proof.Model.lean ====
/-
  One layer of the kernel is one layer of the reference, array for array.
-/
module

public import proofs.«01_k».proof.Proof.Arrays
public import proofs.«01_k».proof.Proof.Weights
public import proofs.«01_k».proof.Proof.RefLayer
public import proofs.«01_k».proof.Proof.Gather

@[expose] public section

set_option maxRecDepth 16384

noncomputable section

namespace Cert.Proof.Model

open Cert.KernelIdeal Cert.KernelIdeal.Gen Cert.Proof.Node Cert.Proof.Arrays Cert.Proof.Weights Cert.Proof.Gather Cert.Proof.KerLayer
open Idealize.ShloMosaic

/-! ## The kernel's cuts of the arguments -/

abbrev lo (W : FVec Ideal S4x265x128 .f32) (l : ℕ) (h : S4x265x128.Slices ![l, 0, 0] S1x128x128) : FVec Ideal S128x128 .f32 :=
  shapeCast S128x128 (extractStridedSlice S1x128x128 ![l, 0, 0] W h) shapeCasts_S1x128x128_S128x128
abbrev mid (W : FVec Ideal S4x265x128 .f32) (l : ℕ) (h : S4x265x128.Slices ![l, 128, 0] S1x128x128) : FVec Ideal S128x128 .f32 :=
  shapeCast S128x128 (extractStridedSlice S1x128x128 ![l, 128, 0] W h) shapeCasts_S1x128x128_S128x128
abbrev hi (W : FVec Ideal S4x265x128 .f32) (l : ℕ) (h : S4x265x128.Slices ![l, 256, 0] S1x9x128) : FVec Ideal S16x128 .f32 :=
  padded (shapeCast S9x128 (extractStridedSlice S1x9x128 ![l, 256, 0] W h) shapeCasts_S1x9x128_S9x128)
abbrev shA (S : FVec Ideal S8x16x4096 .f32) : FVec Ideal S4096x8x16 .f32 := transpose S4096x8x16 [2, 0, 1] S transposes_S8x16x4096_S4096x8x16_2_0_1
abbrev shG (S : FVec Ideal S24x16x2048 .f32) : FVec Ideal S2048x24x16 .f32 := transpose S2048x24x16 [2, 0, 1] S transposes_S24x16x2048_S2048x24x16_2_0_1
abbrev atA (N : FVec Ideal S16x4096 .f32) : FVec Ideal S4096x16 .f32 := transpose S4096x16 [1, 0] N transposes_S16x4096_S4096x16_1_0
abbrev atG (N : FVec Ideal S16x2048 .f32) : FVec Ideal S2048x16 .f32 := transpose S2048x16 [1, 0] N transposes_S16x2048_S2048x16_1_0

/-! ## The reference's -/

abbrev cutR (W : FVec Ideal S4x265x128 .f32) (l : ℕ) (h : S4x265x128.Slices ![l, 0, 0] Cert.ReferenceIdeal.S1x265x128) : FVec Ideal Cert.ReferenceIdeal.S265x128 .f32 :=
  shapeCast Cert.ReferenceIdeal.S265x128 (extractStridedSlice Cert.ReferenceIdeal.S1x265x128 ![l, 0, 0] W h) Cert.ReferenceIdeal.Gen.shapeCasts_S1x265x128_S265x128
abbrev edgeA (S : FVec Ideal S8x16x4096 .f32) : FVec Ideal Cert.ReferenceIdeal.S4096x8x9 .f32 :=
  transpose Cert.ReferenceIdeal.S4096x8x9 [2, 0, 1] (extractStridedSlice Cert.ReferenceIdeal.S8x9x4096 ![0, 0, 0] S Cert.ReferenceIdeal.Gen.slices_S8x16x4096_S8x9x4096_0_0_0) Cert.ReferenceIdeal.Gen.transposes_S8x9x4096_S4096x8x9_2_0_1
abbrev edgeG (S : FVec Ideal S24x16x2048 .f32) : FVec Ideal Cert.ReferenceIdeal.S2048x24x9 .f32 :=
  transpose Cert.ReferenceIdeal.S2048x24x9 [2, 0, 1] (extractStridedSlice Cert.ReferenceIdeal.S24x9x2048 ![0, 0, 0] S Cert.ReferenceIdeal.Gen.slices_S24x16x2048_S24x9x2048_0_0_0) Cert.ReferenceIdeal.Gen.transposes_S24x9x2048_S2048x24x9_2_0_1
abbrev validA (S : FVec Ideal S8x16x4096 .f32) : FVec Ideal S4096x8 .f32 :=
  transpose S4096x8 [1, 0] (shapeCast S8x4096 (extractStridedSlice Cert.ReferenceIdeal.S8x1x4096 ![0, 9, 0] S Cert.ReferenceIdeal.Gen.slices_S8x16x4096_S8x1x4096_0_9_0) Cert.ReferenceIdeal.Gen.shapeCasts_S8x1x4096_S8x4096) Cert.ReferenceIdeal.Gen.transposes_S8x4096_S4096x8_1_0
abbrev validG (S : FVec Ideal S24x16x2048 .f32) : FVec Ideal S2048x24 .f32 :=
  transpose S2048x24 [1, 0] (shapeCast S24x2048 (extractStridedSlice Cert.ReferenceIdeal.S24x1x2048 ![0, 9, 0] S Cert.ReferenceIdeal.Gen.slices_S24x16x2048_S24x1x2048_0_9_0) Cert.ReferenceIdeal.Gen.shapeCasts_S24x1x2048_S24x2048) Cert.ReferenceIdeal.Gen.transposes_S24x2048_S2048x24_1_0
abbrev nineA (N : FVec Ideal S16x4096 .f32) : FVec Ideal Cert.ReferenceIdeal.S4096x9 .f32 :=
  transpose Cert.ReferenceIdeal.S4096x9 [1, 0] (extractStridedSlice Cert.ReferenceIdeal.S9x4096 ![0, 0] N Cert.ReferenceIdeal.Gen.slices_S16x4096_S9x4096_0_0) Cert.ReferenceIdeal.Gen.transposes_S9x4096_S4096x9_1_0
abbrev nineG (N : FVec Ideal S16x2048 .f32) : FVec Ideal Cert.ReferenceIdeal.S2048x9 .f32 :=
  transpose Cert.ReferenceIdeal.S2048x9 [1, 0] (extractStridedSlice Cert.ReferenceIdeal.S9x2048 ![0, 0] N Cert.ReferenceIdeal.Gen.slices_S16x2048_S9x2048_0_0) Cert.ReferenceIdeal.Gen.transposes_S9x2048_S2048x9_1_0

/-! ## The layers -/

variable (Wm Wu : FVec Ideal S4x265x128 .f32) (l : ℕ) (h0 : S4x265x128.Slices ![l, 0, 0] S1x128x128) (h1 : S4x265x128.Slices ![l, 128, 0] S1x128x128)
  (h2 : S4x265x128.Slices ![l, 256, 0] S1x9x128) (h3 : S4x265x128.Slices ![l, 0, 0] Cert.ReferenceIdeal.S1x265x128)
variable (a0 : S8x4096.Idx → BitVec 32) (a1 : S24x2048.Idx → BitVec 32)

theorem gatheredA (h : FVec Ideal S4096x128 .f32) (w : FVec Ideal S128x128 .f32) (i : Fin 4096) (k : Fin 8) (f : Fin 128) :
    shapeCast S4096x8x128 (rowsA (F := Ideal) a0 (table h w)) shapeCasts_S32768x128_S4096x8x128 (ix3 i k f)
      = ∑ c, rowsA (F := Ideal) a0 h (ix2 (⟨i.val * 8 + k.val, by omega⟩ : Fin 32768) c) * w (ix2 c f) := by
  refine Eq.trans (b := rowsA (F := Ideal) a0 (table h w) (ix2 (⟨i.val * 8 + k.val, by omega⟩ : Fin 32768) f)) ?_ rfl
  generalize rowsA (F := Ideal) a0 (table h w) = X
  pointwise

theorem gatheredG (h : FVec Ideal S4096x128 .f32) (w : FVec Ideal S128x128 .f32) (i : Fin 2048) (k : Fin 24) (f : Fin 128) :
    shapeCast S2048x24x128 (rowsG (F := Ideal) a1 (table h w)) shapeCasts_S49152x128_S2048x24x128 (ix3 i k f)
      = ∑ c, rowsG (F := Ideal) a1 h (ix2 (⟨i.val * 24 + k.val, by omega⟩ : Fin 49152) c) * w (ix2 c f) := by
  refine Eq.trans (b := rowsG (F := Ideal) a1 (table h w) (ix2 (⟨i.val * 24 + k.val, by omega⟩ : Fin 49152) f)) ?_ rfl
  generalize rowsG (F := Ideal) a1 (table h w) = X
  pointwise

theorem edgeA_apply (S : FVec Ideal S8x16x4096 .f32) (i : Fin 4096) (k : Fin 8) (e : Fin 9) : edgeA S (ix3 i k e) = shA S (ix3 i k ⟨e.val, by omega⟩) := by
  pointwise
theorem edgeG_apply (S : FVec Ideal S24x16x2048 .f32) (i : Fin 2048) (k : Fin 24) (e : Fin 9) : edgeG S (ix3 i k e) = shG S (ix3 i k ⟨e.val, by omega⟩) := by
  pointwise
theorem validA_apply (S : FVec Ideal S8x16x4096 .f32) (i : Fin 4096) (k : Fin 8) : validA S (ix2 i k) = shA S (ix3 i k 9) := by
  pointwise
theorem validG_apply (S : FVec Ideal S24x16x2048 .f32) (i : Fin 2048) (k : Fin 24) : validG S (ix2 i k) = shG S (ix3 i k 9) := by
  pointwise
theorem nineA_apply (N : FVec Ideal S16x4096 .f32) (i : Fin 4096) (e : Fin 9) : nineA N (ix2 i e) = atA N (ix2 i ⟨e.val, by omega⟩) := by
  pointwise
theorem nineG_apply (N : FVec Ideal S16x2048 .f32) (i : Fin 2048) (e : Fin 9) : nineG N (ix2 i e) = atG N (ix2 i ⟨e.val, by omega⟩) := by
  pointwise

/-- The atoms' layer, kernel against reference. -/
theorem layerA_eq (S : FVec Ideal S8x16x4096 .f32) (N : FVec Ideal S16x4096 .f32) (h : FVec Ideal S4096x128 .f32) :
    msgA (shapeCast S4096x8x128 (rowsA (F := Ideal) a0 (table h (lo Wm l h0))) shapeCasts_S32768x128_S4096x8x128) (shA S) h (atA N) (mid Wm l h1) (hi Wm l h2) (lo Wu l h0) (mid Wu l h1) (hi Wu l h2)
      = RefLayer.layerA (rowsA (F := Ideal) a0 h) h (edgeA S) (validA S) (nineA N) (cutR Wm l h3) (cutR Wu l h3) := by
  funext y
  obtain ⟨i, f, rfl⟩ := eq_ix2 (m := 4096) (n := 128) y
  refine Eq.trans ?_ (RefLayer.layerA_apply _ _ _ _ _ _ _ i f).symm
  simp only [edgeA_apply, validA_apply, nineA_apply]
  refine Eq.trans ?_ (node_eq (parts Wm l h3 h0 h1 h2) (parts Wu l h3 h0 h1 h2) (fun k c => rowsA (F := Ideal) a0 h (ix2 (⟨i.val * 8 + k.val, by omega⟩ : Fin 32768) c))
    (fun k e => shA S (ix3 i k e)) (fun c => h (ix2 i c)) (fun e => atA N (ix2 i e)) f)
  exact congrArg (fun s => nodeK (K := 8) s _ _ _ _ _ _ _ _ f) (funext fun k => funext fun c => gatheredA _ _ _ i k c)

/-- The grid nodes' layer, kernel against reference. -/
theorem layerG_eq (S : FVec Ideal S24x16x2048 .f32) (N : FVec Ideal S16x2048 .f32) (h : FVec Ideal S4096x128 .f32) (g : FVec Ideal S2048x128 .f32) :
    msgG (shapeCast S2048x24x128 (rowsG (F := Ideal) a1 (table h (lo Wm l h0))) shapeCasts_S49152x128_S2048x24x128) (shG S) g (atG N) (mid Wm l h1) (hi Wm l h2) (lo Wu l h0) (mid Wu l h1) (hi Wu l h2)
      = RefLayer.layerG (rowsG (F := Ideal) a1 h) g (edgeG S) (validG S) (nineG N) (cutR Wm l h3) (cutR Wu l h3) := by
  funext y
  obtain ⟨i, f, rfl⟩ := eq_ix2 (m := 2048) (n := 128) y
  refine Eq.trans ?_ (RefLayer.layerG_apply _ _ _ _ _ _ _ i f).symm
  simp only [edgeG_apply, validG_apply, nineG_apply]
  refine Eq.trans ?_ (node_eq (parts Wm l h3 h0 h1 h2) (parts Wu l h3 h0 h1 h2) (fun k c => rowsG (F := Ideal) a1 h (ix2 (⟨i.val * 24 + k.val, by omega⟩ : Fin 49152) c))
    (fun k e => shG S (ix3 i k e)) (fun c => g (ix2 i c)) (fun e => atG N (ix2 i e)) f)
  exact congrArg (fun s => nodeK (K := 24) s _ _ _ _ _ _ _ _ f) (funext fun k => funext fun c => gatheredG _ _ _ i k c)

/-! ## The ends -/

/-- The embedding's one-hot rows. -/
theorem embed_eq (A : IVec S4096 32) (W : FVec Ideal S16x128 .f32) :
    embed (broadcastInDim S4096x8 ![0, 1] bcast_S4096x1_S4096x8_0_1 (broadcastInDim S4096x1 ![0] bcast_S4096_S4096x1_0 A)) W
      = Host.dotGeneral Cert.ReferenceIdeal.dot_S4096x16_S16x128_S4096x128_1_0_0_1_n_n none (uitofp (F := Ideal) .f32 (cmpi .eq (broadcastInDim Cert.ReferenceIdeal.S4096x16 ![0, 1] Cert.ReferenceIdeal.Gen.bcast_S4096x1_S4096x16_0_1
          (broadcastInDim Cert.ReferenceIdeal.S4096x1 ![0] Cert.ReferenceIdeal.Gen.bcast_S4096_S4096x1_0 A)) (broadcastInDim Cert.ReferenceIdeal.S4096x16 ![0, 1] Cert.ReferenceIdeal.Gen.bcast_S1x16_S4096x16_0_1 (iotaInDim Cert.ReferenceIdeal.S1x16 32 1)))) W := by
  funext y
  obtain ⟨i, f, rfl⟩ := eq_ix2 (m := 4096) (n := 128) y
  pointwise [embed, hot]

theorem zeros_eq (W : FVec Ideal S16x128 .f32) :
    (broadcastInDim S2048x128 ![] bcast_S_S2048x128 (constant (F := Ideal) S_ .f32 0x00000000#32) : FVec Ideal S2048x128 .f32)
      = Host.dotGeneral Cert.ReferenceIdeal.dot_S2048x16_S16x128_S2048x128_1_0_0_1_n_n none (broadcastInDim Cert.ReferenceIdeal.S2048x16 ![] Cert.ReferenceIdeal.Gen.bcast_S_S2048x16 (constant (F := Ideal) Cert.ReferenceIdeal.S_ .f32 0x00000000#32)) W := by
  funext y
  obtain ⟨i, f, rfl⟩ := eq_ix2 (m := 2048) (n := 128) y
  pointwise
  exact (Finset.sum_eq_zero fun x _ => zero_mul _).symm

theorem readout_eq (X : FVec Ideal S2048x128 .f32) (W : FVec Ideal S128x32 .f32) :
    readout X W = Host.dotGeneral Cert.ReferenceIdeal.dot_S2048x128_S128x32_S2048x32_1_0_0_1_n_n none X W := by
  funext y
  obtain ⟨i, f, rfl⟩ := eq_ix2 (m := 2048) (n := 32) y
  pointwise [readout]

end Cert.Proof.Model
-- ==== Proof.Chain.lean ====
/-
  The kernel's buffers, layer after layer, and the reference's result: both are the four layers of message passing over the same arguments.
-/
module

public import proofs.«01_k».proof.Proof.Main
public import proofs.«01_k».proof.Proof.Model

@[expose] public section

set_option maxRecDepth 16384

noncomputable section

namespace Cert.Proof.Chain

open Cert.KernelIdeal Cert.KernelIdeal.Gen Cert.Proof.Arrays Cert.Proof.Weights Cert.Proof.Gather Cert.Proof.Model Cert.Proof.Main
open Cert.Proof.Tile Cert.Proof.Call Cert.Proof.Rows Cert.Proof.Launch Cert.Proof.Region Cert.Proof.Steps
open Idealize.ShloMosaic Idealize.ShloMosaic.TcCoe
open Idealize.ShloMosaic.StableHlo (after launchContents)

/-! ## The four layers over the arguments -/

/-- The arguments: atom types, the two neighbour lists, edge and node attributes of each, the weights. -/
structure Args where
  (ty : IVec S4096 32) (nbA : S8x4096.Idx → BitVec 32) (nbG : S24x2048.Idx → BitVec 32)
  (eA : FVec Ideal S8x16x4096 .f32) (eG : FVec Ideal S24x16x2048 .f32) (nA : FVec Ideal S16x4096 .f32) (nG : FVec Ideal S16x2048 .f32)
  (we : FVec Ideal S16x128 .f32) (wm wu : FVec Ideal S4x265x128 .f32) (wo : FVec Ideal S128x32 .f32)

namespace Args

variable (a : Args)

def atoms (l : ℕ) (h : S4x265x128.Slices ![l, 0, 0] Cert.ReferenceIdeal.S1x265x128) (x : FVec Ideal S4096x128 .f32) : FVec Ideal S4096x128 .f32 :=
  RefLayer.layerA (rowsA (F := Ideal) a.nbA x) x (edgeA a.eA) (validA a.eA) (nineA a.nA) (cutR a.wm l h) (cutR a.wu l h)
def grid (l : ℕ) (h : S4x265x128.Slices ![l, 0, 0] Cert.ReferenceIdeal.S1x265x128) (x : FVec Ideal S4096x128 .f32) (g : FVec Ideal S2048x128 .f32) : FVec Ideal S2048x128 .f32 :=
  RefLayer.layerG (rowsG (F := Ideal) a.nbG x) g (edgeG a.eG) (validG a.eG) (nineG a.nG) (cutR a.wm l h) (cutR a.wu l h)

def A0 : FVec Ideal S4096x128 .f32 := embed (broadcastInDim S4096x8 ![0, 1] bcast_S4096x1_S4096x8_0_1 (broadcastInDim S4096x1 ![0] bcast_S4096_S4096x1_0 a.ty)) a.we
def G0 : FVec Ideal S2048x128 .f32 := broadcastInDim S2048x128 ![] bcast_S_S2048x128 (constant (F := Ideal) S_ .f32 0x00000000#32)
def A1 := a.atoms 0 Cert.ReferenceIdeal.Gen.slices_S4x265x128_S1x265x128_0_0_0 a.A0
def A2 := a.atoms 1 Cert.ReferenceIdeal.Gen.slices_S4x265x128_S1x265x128_1_0_0 a.A1
def A3 := a.atoms 2 Cert.ReferenceIdeal.Gen.slices_S4x265x128_S1x265x128_2_0_0 a.A2
def G1 := a.grid 0 Cert.ReferenceIdeal.Gen.slices_S4x265x128_S1x265x128_0_0_0 a.A0 G0
def G2 := a.grid 1 Cert.ReferenceIdeal.Gen.slices_S4x265x128_S1x265x128_1_0_0 a.A1 a.G1
def G3 := a.grid 2 Cert.ReferenceIdeal.Gen.slices_S4x265x128_S1x265x128_2_0_0 a.A2 a.G2
def G4 := a.grid 3 Cert.ReferenceIdeal.Gen.slices_S4x265x128_S1x265x128_3_0_0 a.A3 a.G3
def result : FVec Ideal S4x512x32 .f32 := shapeCast S4x512x32 (readout a.G4 a.wo) shapeCasts_S2048x32_S4x512x32

end Args

/-! ## The host's operations between the calls -/

section Host

variable {F : FTy → Type} [FloatOps F]

theorem list_of (V : Valuation τ sig (Elt F)) : after ops0 V (Proc.devRef .tc main_v12) = listed (V (Proc.devRef .tc main_arg1)) (V (Proc.devRef .tc main_arg2)) := by
  unfold ops0; after_results <;> rfl

end Host

variable (U : Valuation τ sig (Elt Ideal))

theorem types_of : after ops0 U (Proc.devRef .tc main_v1) = broadcastInDim S4096x8 ![0, 1] bcast_S4096x1_S4096x8_0_1 (broadcastInDim S4096x1 ![0] bcast_S4096_S4096x1_0 (U (Proc.devRef .tc main_arg0))) := by
  unfold ops0; after_results <;> rfl
theorem attrs_of : after ops0 U (Proc.devRef .tc main_v4) = shA (U (Proc.devRef .tc main_arg3)) ∧ after ops0 U (Proc.devRef .tc main_v5) = shG (U (Proc.devRef .tc main_arg4))
    ∧ after ops0 U (Proc.devRef .tc main_v6) = atA (U (Proc.devRef .tc main_arg5)) ∧ after ops0 U (Proc.devRef .tc main_v7) = atG (U (Proc.devRef .tc main_arg6)) := by
  unfold ops0; refine ⟨?_, ?_, ?_, ?_⟩ <;> after_results <;> rfl
theorem next0 : after ops0 U (Proc.devRef .tc main_v14) = lo (U (Proc.devRef .tc main_arg8)) 0 slices_S4x265x128_S1x128x128_0_0_0 := by
  unfold ops0; after_results <;> rfl
theorem next1 : after ops2 U (Proc.devRef .tc main_v37) = lo (U (Proc.devRef .tc main_arg8)) 1 slices_S4x265x128_S1x128x128_1_0_0 := by
  unfold ops2; after_results <;> rfl
theorem next2 : after ops4 U (Proc.devRef .tc main_v60) = lo (U (Proc.devRef .tc main_arg8)) 2 slices_S4x265x128_S1x128x128_2_0_0 := by
  unfold ops4; after_results <;> rfl
theorem next3 : after ops6 U (Proc.devRef .tc main_v83) = lo (U (Proc.devRef .tc main_arg8)) 3 slices_S4x265x128_S1x128x128_3_0_0 := by
  unfold ops6; after_results <;> rfl

theorem zeros_of : after ops1 U (Proc.devRef .tc main_v16) = Args.G0 := by unfold ops1 Args.G0; after_results <;> rfl

theorem gathered0 : after ops2 U (Proc.devRef .tc main_v34) = shapeCast S4096x8x128 (U (Proc.devRef .tc main_v33_0)) shapeCasts_S32768x128_S4096x8x128
    ∧ after ops2 U (Proc.devRef .tc main_v35) = shapeCast S2048x24x128 (U (Proc.devRef .tc main_v33_1)) shapeCasts_S49152x128_S2048x24x128 := by
  unfold ops2; refine ⟨?_, ?_⟩ <;> after_results <;> rfl
theorem gathered1 : after ops4 U (Proc.devRef .tc main_v57) = shapeCast S4096x8x128 (U (Proc.devRef .tc main_v56_0)) shapeCasts_S32768x128_S4096x8x128
    ∧ after ops4 U (Proc.devRef .tc main_v58) = shapeCast S2048x24x128 (U (Proc.devRef .tc main_v56_1)) shapeCasts_S49152x128_S2048x24x128 := by
  unfold ops4; refine ⟨?_, ?_⟩ <;> after_results <;> rfl
theorem gathered2 : after ops6 U (Proc.devRef .tc main_v80) = shapeCast S4096x8x128 (U (Proc.devRef .tc main_v79_0)) shapeCasts_S32768x128_S4096x8x128
    ∧ after ops6 U (Proc.devRef .tc main_v81) = shapeCast S2048x24x128 (U (Proc.devRef .tc main_v79_1)) shapeCasts_S49152x128_S2048x24x128 := by
  unfold ops6; refine ⟨?_, ?_⟩ <;> after_results <;> rfl
theorem gathered3 : after ops8 U (Proc.devRef .tc main_v104) = shapeCast S2048x24x128 (U (Proc.devRef .tc main_v102_1)) shapeCasts_S49152x128_S2048x24x128 := by
  unfold ops8; after_results <;> rfl

theorem cuts0 : after ops1 U (Proc.devRef .tc main_v18) = mid (U (Proc.devRef .tc main_arg8)) 0 slices_S4x265x128_S1x128x128_0_128_0
    ∧ after ops1 U (Proc.devRef .tc main_v23) = hi (U (Proc.devRef .tc main_arg8)) 0 slices_S4x265x128_S1x9x128_0_256_0
    ∧ after ops1 U (Proc.devRef .tc main_v25) = lo (U (Proc.devRef .tc main_arg9)) 0 slices_S4x265x128_S1x128x128_0_0_0
    ∧ after ops1 U (Proc.devRef .tc main_v27) = mid (U (Proc.devRef .tc main_arg9)) 0 slices_S4x265x128_S1x128x128_0_128_0
    ∧ after ops1 U (Proc.devRef .tc main_v32) = hi (U (Proc.devRef .tc main_arg9)) 0 slices_S4x265x128_S1x9x128_0_256_0 := by
  unfold ops1; refine ⟨?_, ?_, ?_, ?_, ?_⟩ <;> after_results <;> rfl
theorem cuts1 : after ops3 U (Proc.devRef .tc main_v41) = mid (U (Proc.devRef .tc main_arg8)) 1 slices_S4x265x128_S1x128x128_1_128_0
    ∧ after ops3 U (Proc.devRef .tc main_v46) = hi (U (Proc.devRef .tc main_arg8)) 1 slices_S4x265x128_S1x9x128_1_256_0
    ∧ after ops3 U (Proc.devRef .tc main_v48) = lo (U (Proc.devRef .tc main_arg9)) 1 slices_S4x265x128_S1x128x128_1_0_0
    ∧ after ops3 U (Proc.devRef .tc main_v50) = mid (U (Proc.devRef .tc main_arg9)) 1 slices_S4x265x128_S1x128x128_1_128_0
    ∧ after ops3 U (Proc.devRef .tc main_v55) = hi (U (Proc.devRef .tc main_arg9)) 1 slices_S4x265x128_S1x9x128_1_256_0 := by
  unfold ops3; refine ⟨?_, ?_, ?_, ?_, ?_⟩ <;> after_results <;> rfl
theorem cuts2 : after ops5 U (Proc.devRef .tc main_v64) = mid (U (Proc.devRef .tc main_arg8)) 2 slices_S4x265x128_S1x128x128_2_128_0
    ∧ after ops5 U (Proc.devRef .tc main_v69) = hi (U (Proc.devRef .tc main_arg8)) 2 slices_S4x265x128_S1x9x128_2_256_0
    ∧ after ops5 U (Proc.devRef .tc main_v71) = lo (U (Proc.devRef .tc main_arg9)) 2 slices_S4x265x128_S1x128x128_2_0_0
    ∧ after ops5 U (Proc.devRef .tc main_v73) = mid (U (Proc.devRef .tc main_arg9)) 2 slices_S4x265x128_S1x128x128_2_128_0
    ∧ after ops5 U (Proc.devRef .tc main_v78) = hi (U (Proc.devRef .tc main_arg9)) 2 slices_S4x265x128_S1x9x128_2_256_0 := by
  unfold ops5; refine ⟨?_, ?_, ?_, ?_, ?_⟩ <;> after_results <;> rfl
theorem cuts3 : after ops7 U (Proc.devRef .tc main_v87) = mid (U (Proc.devRef .tc main_arg8)) 3 slices_S4x265x128_S1x128x128_3_128_0
    ∧ after ops7 U (Proc.devRef .tc main_v92) = hi (U (Proc.devRef .tc main_arg8)) 3 slices_S4x265x128_S1x9x128_3_256_0
    ∧ after ops7 U (Proc.devRef .tc main_v94) = lo (U (Proc.devRef .tc main_arg9)) 3 slices_S4x265x128_S1x128x128_3_0_0
    ∧ after ops7 U (Proc.devRef .tc main_v96) = mid (U (Proc.devRef .tc main_arg9)) 3 slices_S4x265x128_S1x128x128_3_128_0
    ∧ after ops7 U (Proc.devRef .tc main_v101) = hi (U (Proc.devRef .tc main_arg9)) 3 slices_S4x265x128_S1x9x128_3_256_0 := by
  unfold ops7; refine ⟨?_, ?_, ?_, ?_, ?_⟩ <;> after_results <;> rfl

theorem last_of : after ops9 U (Proc.devRef .tc main_v110) = shapeCast S4x512x32 (U (Proc.devRef .tc main_v109)) shapeCasts_S2048x32_S4x512x32 := by
  unfold ops9; after_results <;> rfl

/-! ## The kernel's layers -/

variable (m : (ℓ : Loc nD τ sig) → Buf (Elt Ideal) ℓ) (d : Dev nD)

/-- The kernel's arguments at launch. -/
def args : Args :=
  ⟨m ((d.tc : Thread nD τ).loc main_arg0), m ((d.tc : Thread nD τ).loc main_arg1), m ((d.tc : Thread nD τ).loc main_arg2), m ((d.tc : Thread nD τ).loc main_arg3),
    m ((d.tc : Thread nD τ).loc main_arg4), m ((d.tc : Thread nD τ).loc main_arg5), m ((d.tc : Thread nD τ).loc main_arg6), m ((d.tc : Thread nD τ).loc main_arg7),
    m ((d.tc : Thread nD τ).loc main_arg8), m ((d.tc : Thread nD τ).loc main_arg9), m ((d.tc : Thread nD τ).loc main_arg10)⟩

/-- What every layer reads of the first operations' results, before step `k`. -/
structure Shared (k : ℕ) : Prop where
  list : V m d k (Proc.devRef .tc main_v12) = listed (args m d).nbA (args m d).nbG
  v4 : V m d k (Proc.devRef .tc main_v4) = shA (args m d).eA
  v5 : V m d k (Proc.devRef .tc main_v5) = shG (args m d).eG
  v6 : V m d k (Proc.devRef .tc main_v6) = atA (args m d).nA
  v7 : V m d k (Proc.devRef .tc main_v7) = atG (args m d).nG
  wm : V m d k (Proc.devRef .tc main_arg8) = (args m d).wm
  wu : V m d k (Proc.devRef .tc main_arg9) = (args m d).wu

theorem shared (k : ℕ) (h1 : 1 ≤ k) (hk : k ≤ 24)
    (h : ∀ r ∈ [main_v12, main_v4, main_v5, main_v6, main_v7, main_arg8, main_arg9], ∀ i < k, 1 ≤ i → r ∉ wr i) : Shared m d k where
  list := (keep m d main_v12 1 k h1 hk (h _ (by decide))).trans (list_of (V m d 0))
  v4 := (keep m d main_v4 1 k h1 hk (h _ (by decide))).trans (attrs_of (V m d 0)).1
  v5 := (keep m d main_v5 1 k h1 hk (h _ (by decide))).trans (attrs_of (V m d 0)).2.1
  v6 := (keep m d main_v6 1 k h1 hk (h _ (by decide))).trans (attrs_of (V m d 0)).2.2.1
  v7 := (keep m d main_v7 1 k h1 hk (h _ (by decide))).trans (attrs_of (V m d 0)).2.2.2
  wm := (keep m d main_arg8 1 k h1 hk (h _ (by decide))).trans (keep m d main_arg8 0 1 (by decide) (by decide) (by decide))
  wu := (keep m d main_arg9 1 k h1 hk (h _ (by decide))).trans (keep m d main_arg9 0 1 (by decide) (by decide) (by decide))

theorem stay : ∀ r ∈ [main_v12, main_v4, main_v5, main_v6, main_v7, main_arg8, main_arg9], ∀ i < 24, 1 ≤ i → r ∉ wr i := by decide

theorem sh (k : ℕ) (h1 : 1 ≤ k) (hk : k ≤ 24) : Shared m d k := shared m d k h1 hk fun r hr i hi => stay r hr i (hi.trans_le hk)

/-- A layer's call over the atoms: its operands named, its result is the reference's layer. -/
theorem msgA_of (a : Args) {l : ℕ} {h0 : S4x265x128.Slices ![l, 0, 0] S1x128x128} {h1 : S4x265x128.Slices ![l, 128, 0] S1x128x128} {h2 : S4x265x128.Slices ![l, 256, 0] S1x9x128}
    (h3 : S4x265x128.Slices ![l, 0, 0] Cert.ReferenceIdeal.S1x265x128) {x : FVec Ideal S4096x128 .f32}
    {X0 : FVec Ideal S4096x8x128 .f32} {X1 : FVec Ideal S4096x8x16 .f32} {X2 : FVec Ideal S4096x128 .f32} {X3 : FVec Ideal S4096x16 .f32} {x4 : FVec Ideal S128x128 .f32} {x5 : FVec Ideal S16x128 .f32}
    {x6 x7 : FVec Ideal S128x128 .f32} {x8 : FVec Ideal S16x128 .f32}
    (e0 : X0 = shapeCast S4096x8x128 (rowsA (F := Ideal) a.nbA (table x (lo a.wm l h0))) shapeCasts_S32768x128_S4096x8x128) (e1 : X1 = shA a.eA) (e2 : X2 = x) (e3 : X3 = atA a.nA)
    (e4 : x4 = mid a.wm l h1) (e5 : x5 = hi a.wm l h2) (e6 : x6 = lo a.wu l h0) (e7 : x7 = mid a.wu l h1) (e8 : x8 = hi a.wu l h2) :
    msgA X0 X1 X2 X3 x4 x5 x6 x7 x8 = a.atoms l h3 x := by
  rw [e0, e1, e2, e3, e4, e5, e6, e7, e8]
  exact layerA_eq a.wm a.wu l h0 h1 h2 h3 a.nbA a.eA a.nA x

theorem msgG_of (a : Args) {l : ℕ} {h0 : S4x265x128.Slices ![l, 0, 0] S1x128x128} {h1 : S4x265x128.Slices ![l, 128, 0] S1x128x128} {h2 : S4x265x128.Slices ![l, 256, 0] S1x9x128}
    (h3 : S4x265x128.Slices ![l, 0, 0] Cert.ReferenceIdeal.S1x265x128) {x : FVec Ideal S4096x128 .f32} {g : FVec Ideal S2048x128 .f32}
    {X0 : FVec Ideal S2048x24x128 .f32} {X1 : FVec Ideal S2048x24x16 .f32} {X2 : FVec Ideal S2048x128 .f32} {X3 : FVec Ideal S2048x16 .f32} {x4 : FVec Ideal S128x128 .f32} {x5 : FVec Ideal S16x128 .f32}
    {x6 x7 : FVec Ideal S128x128 .f32} {x8 : FVec Ideal S16x128 .f32}
    (e0 : X0 = shapeCast S2048x24x128 (rowsG (F := Ideal) a.nbG (table x (lo a.wm l h0))) shapeCasts_S49152x128_S2048x24x128) (e1 : X1 = shG a.eG) (e2 : X2 = g) (e3 : X3 = atG a.nG)
    (e4 : x4 = mid a.wm l h1) (e5 : x5 = hi a.wm l h2) (e6 : x6 = lo a.wu l h0) (e7 : x7 = mid a.wu l h1) (e8 : x8 = hi a.wu l h2) :
    msgG X0 X1 X2 X3 x4 x5 x6 x7 x8 = a.grid l h3 x g := by
  rw [e0, e1, e2, e3, e4, e5, e6, e7, e8]
  exact layerG_eq a.wm a.wu l h0 h1 h2 h3 a.nbG a.eG a.nG x g

/-- Before step 2: the embedded atoms and their first table. -/
theorem start : V m d 2 (Proc.devRef .tc main_v15_0) = (args m d).A0
    ∧ V m d 2 (Proc.devRef .tc main_v15_1) = table (args m d).A0 (lo (args m d).wm 0 slices_S4x265x128_S1x128x128_0_0_0) := by
  have e : embed (V m d 1 (Proc.devRef .tc main_v1)) (V m d 1 (Proc.devRef .tc main_arg7)) = (args m d).A0 :=
    congrArg₂ embed (types_of (V m d 0)) (keep m d main_arg7 0 1 (by decide) (by decide) (by decide))
  refine ⟨(reg0_3 0 d (V m d 1)).trans e, (reg0_4 0 d (V m d 1)).trans (congrArg₂ table e (next0 (V m d 0)))⟩

/-- One layer's weights as the kernel cuts them. -/
structure Cut (l : ℕ) (b1 b3 b4 : (⟨S128x128, .f32⟩ : BufTy).Contents (Elt Ideal)) (b2 b5 : (⟨S16x128, .f32⟩ : BufTy).Contents (Elt Ideal)) (h0 : S4x265x128.Slices ![l, 0, 0] S1x128x128)
    (h1 : S4x265x128.Slices ![l, 128, 0] S1x128x128) (h2 : S4x265x128.Slices ![l, 256, 0] S1x9x128) : Prop where
  c1 : b1 = mid (args m d).wm l h1
  c2 : b2 = hi (args m d).wm l h2
  c3 : b3 = lo (args m d).wu l h0
  c4 : b4 = mid (args m d).wu l h1
  c5 : b5 = hi (args m d).wu l h2

theorem cut0 (k : ℕ) (h3 : 3 ≤ k) (hk : k ≤ 6) : Cut m d 0 (V m d k (Proc.devRef .tc main_v18)) (V m d k (Proc.devRef .tc main_v25)) (V m d k (Proc.devRef .tc main_v27))
    (V m d k (Proc.devRef .tc main_v23)) (V m d k (Proc.devRef .tc main_v32)) slices_S4x265x128_S1x128x128_0_0_0 slices_S4x265x128_S1x128x128_0_128_0 slices_S4x265x128_S1x9x128_0_256_0 := by
  have hs : ∀ r ∈ [main_v18, main_v23, main_v25, main_v27, main_v32], ∀ i < 6, 3 ≤ i → r ∉ wr i := by decide
  have kp := fun r hr => keep m d r 3 k h3 (hk.trans (by decide)) fun i hi => hs r hr i (hi.trans_le hk)
  have c := cuts0 (V m d 2)
  have s := sh m d 2 (by decide) (by decide)
  rw [s.wm, s.wu] at c
  exact ⟨(kp main_v18 (by decide)).trans c.1, (kp main_v23 (by decide)).trans c.2.1, (kp main_v25 (by decide)).trans c.2.2.1, (kp main_v27 (by decide)).trans c.2.2.2.1, (kp main_v32 (by decide)).trans c.2.2.2.2⟩

theorem cut1 (k : ℕ) (h3 : 8 ≤ k) (hk : k ≤ 11) : Cut m d 1 (V m d k (Proc.devRef .tc main_v41)) (V m d k (Proc.devRef .tc main_v48)) (V m d k (Proc.devRef .tc main_v50))
    (V m d k (Proc.devRef .tc main_v46)) (V m d k (Proc.devRef .tc main_v55)) slices_S4x265x128_S1x128x128_1_0_0 slices_S4x265x128_S1x128x128_1_128_0 slices_S4x265x128_S1x9x128_1_256_0 := by
  have hs : ∀ r ∈ [main_v41, main_v46, main_v48, main_v50, main_v55], ∀ i < 11, 8 ≤ i → r ∉ wr i := by decide
  have kp := fun r hr => keep m d r 8 k h3 (hk.trans (by decide)) fun i hi => hs r hr i (hi.trans_le hk)
  have c := cuts1 (V m d 7)
  have s := sh m d 7 (by decide) (by decide)
  rw [s.wm, s.wu] at c
  exact ⟨(kp main_v41 (by decide)).trans c.1, (kp main_v46 (by decide)).trans c.2.1, (kp main_v48 (by decide)).trans c.2.2.1, (kp main_v50 (by decide)).trans c.2.2.2.1, (kp main_v55 (by decide)).trans c.2.2.2.2⟩

theorem cut2 (k : ℕ) (h3 : 13 ≤ k) (hk : k ≤ 16) : Cut m d 2 (V m d k (Proc.devRef .tc main_v64)) (V m d k (Proc.devRef .tc main_v71)) (V m d k (Proc.devRef .tc main_v73))
    (V m d k (Proc.devRef .tc main_v69)) (V m d k (Proc.devRef .tc main_v78)) slices_S4x265x128_S1x128x128_2_0_0 slices_S4x265x128_S1x128x128_2_128_0 slices_S4x265x128_S1x9x128_2_256_0 := by
  have hs : ∀ r ∈ [main_v64, main_v69, main_v71, main_v73, main_v78], ∀ i < 16, 13 ≤ i → r ∉ wr i := by decide
  have kp := fun r hr => keep m d r 13 k h3 (hk.trans (by decide)) fun i hi => hs r hr i (hi.trans_le hk)
  have c := cuts2 (V m d 12)
  have s := sh m d 12 (by decide) (by decide)
  rw [s.wm, s.wu] at c
  exact ⟨(kp main_v64 (by decide)).trans c.1, (kp main_v69 (by decide)).trans c.2.1, (kp main_v71 (by decide)).trans c.2.2.1, (kp main_v73 (by decide)).trans c.2.2.2.1, (kp main_v78 (by decide)).trans c.2.2.2.2⟩

theorem cut3 (k : ℕ) (h3 : 18 ≤ k) (hk : k ≤ 21) : Cut m d 3 (V m d k (Proc.devRef .tc main_v87)) (V m d k (Proc.devRef .tc main_v94)) (V m d k (Proc.devRef .tc main_v96))
    (V m d k (Proc.devRef .tc main_v92)) (V m d k (Proc.devRef .tc main_v101)) slices_S4x265x128_S1x128x128_3_0_0 slices_S4x265x128_S1x128x128_3_128_0 slices_S4x265x128_S1x9x128_3_256_0 := by
  have hs : ∀ r ∈ [main_v87, main_v92, main_v94, main_v96, main_v101], ∀ i < 21, 18 ≤ i → r ∉ wr i := by decide
  have kp := fun r hr => keep m d r 18 k h3 (hk.trans (by decide)) fun i hi => hs r hr i (hi.trans_le hk)
  have c := cuts3 (V m d 17)
  have s := sh m d 17 (by decide) (by decide)
  rw [s.wm, s.wu] at c
  exact ⟨(kp main_v87 (by decide)).trans c.1, (kp main_v92 (by decide)).trans c.2.1, (kp main_v94 (by decide)).trans c.2.2.1, (kp main_v96 (by decide)).trans c.2.2.2.1, (kp main_v101 (by decide)).trans c.2.2.2.2⟩

theorem atoms0 : V m d 6 (Proc.devRef .tc main_v38_0) = (args m d).A1
    ∧ V m d 6 (Proc.devRef .tc main_v38_1) = table (args m d).A1 (lo (args m d).wm 1 slices_S4x265x128_S1x128x128_1_0_0) := by
  have c := cut0 m d 5 (by decide) (by decide)
  have s := sh m d 5 (by decide) (by decide)
  have t := (keep m d main_v15_1 2 3 (by decide) (by decide) (by decide)).trans (start m d).2
  have x := (keep m d main_v15_0 2 5 (by decide) (by decide) (by decide)).trans (start m d).1
  have w := (next1 (V m d 4)).trans (congrArg (fun W => lo W 1 slices_S4x265x128_S1x128x128_1_0_0) (sh m d 4 (by decide) (by decide)).wm)
  have e := msgA_of (args m d) Cert.ReferenceIdeal.Gen.slices_S4x265x128_S1x265x128_0_0_0
    ((gathered0 (V m d 4)).1.trans (congrArg (fun X => shapeCast S4096x8x128 X shapeCasts_S32768x128_S4096x8x128) (gather0_A (sh m d 3 (by decide) (by decide)).list t))) s.v4 x s.v6 c.c1 c.c2 c.c3 c.c4 c.c5
  exact ⟨(reg1_10 1 d (V m d 5)).trans e, (reg1_11 1 d (V m d 5)).trans (congrArg₂ table e w)⟩

theorem grid0 : V m d 7 (Proc.devRef .tc main_v39) = (args m d).G1 := by
  have c := cut0 m d 6 (by decide) (by decide)
  have s := sh m d 6 (by decide) (by decide)
  have t := (keep m d main_v15_1 2 3 (by decide) (by decide) (by decide)).trans (start m d).2
  have y := (gathered0 (V m d 4)).2.trans (congrArg (fun X => shapeCast S2048x24x128 X shapeCasts_S49152x128_S2048x24x128) (gather0_G (sh m d 3 (by decide) (by decide)).list t))
  exact (reg2_9 1 d (V m d 6)).trans (msgG_of (args m d) Cert.ReferenceIdeal.Gen.slices_S4x265x128_S1x265x128_0_0_0
    ((keep m d main_v35 5 6 (by decide) (by decide) (by decide)).trans y) s.v5 ((keep m d main_v16 3 6 (by decide) (by decide) (by decide)).trans (zeros_of (V m d 2))) s.v7 c.c1 c.c2 c.c3 c.c4 c.c5)

theorem atoms1 : V m d 11 (Proc.devRef .tc main_v61_0) = (args m d).A2
    ∧ V m d 11 (Proc.devRef .tc main_v61_1) = table (args m d).A2 (lo (args m d).wm 2 slices_S4x265x128_S1x128x128_2_0_0) := by
  have c := cut1 m d 10 (by decide) (by decide)
  have s := sh m d 10 (by decide) (by decide)
  have t := (keep m d main_v38_1 6 8 (by decide) (by decide) (by decide)).trans (atoms0 m d).2
  have x := (keep m d main_v38_0 6 10 (by decide) (by decide) (by decide)).trans (atoms0 m d).1
  have w := (next2 (V m d 9)).trans (congrArg (fun W => lo W 2 slices_S4x265x128_S1x128x128_2_0_0) (sh m d 9 (by decide) (by decide)).wm)
  have e := msgA_of (args m d) Cert.ReferenceIdeal.Gen.slices_S4x265x128_S1x265x128_1_0_0
    ((gathered1 (V m d 9)).1.trans (congrArg (fun X => shapeCast S4096x8x128 X shapeCasts_S32768x128_S4096x8x128) (gather1_A (sh m d 8 (by decide) (by decide)).list t))) s.v4 x s.v6 c.c1 c.c2 c.c3 c.c4 c.c5
  exact ⟨(reg3_10 2 d (V m d 10)).trans e, (reg3_11 2 d (V m d 10)).trans (congrArg₂ table e w)⟩

theorem grid1 : V m d 12 (Proc.devRef .tc main_v62) = (args m d).G2 := by
  have c := cut1 m d 11 (by decide) (by decide)
  have s := sh m d 11 (by decide) (by decide)
  have t := (keep m d main_v38_1 6 8 (by decide) (by decide) (by decide)).trans (atoms0 m d).2
  have y := (gathered1 (V m d 9)).2.trans (congrArg (fun X => shapeCast S2048x24x128 X shapeCasts_S49152x128_S2048x24x128) (gather1_G (sh m d 8 (by decide) (by decide)).list t))
  exact (reg4_9 2 d (V m d 11)).trans (msgG_of (args m d) Cert.ReferenceIdeal.Gen.slices_S4x265x128_S1x265x128_1_0_0
    ((keep m d main_v58 10 11 (by decide) (by decide) (by decide)).trans y) s.v5 ((keep m d main_v39 7 11 (by decide) (by decide) (by decide)).trans (grid0 m d)) s.v7 c.c1 c.c2 c.c3 c.c4 c.c5)

theorem atoms2 : V m d 16 (Proc.devRef .tc main_v84_0) = (args m d).A3
    ∧ V m d 16 (Proc.devRef .tc main_v84_1) = table (args m d).A3 (lo (args m d).wm 3 slices_S4x265x128_S1x128x128_3_0_0) := by
  have c := cut2 m d 15 (by decide) (by decide)
  have s := sh m d 15 (by decide) (by decide)
  have t := (keep m d main_v61_1 11 13 (by decide) (by decide) (by decide)).trans (atoms1 m d).2
  have x := (keep m d main_v61_0 11 15 (by decide) (by decide) (by decide)).trans (atoms1 m d).1
  have w := (next3 (V m d 14)).trans (congrArg (fun W => lo W 3 slices_S4x265x128_S1x128x128_3_0_0) (sh m d 14 (by decide) (by decide)).wm)
  have e := msgA_of (args m d) Cert.ReferenceIdeal.Gen.slices_S4x265x128_S1x265x128_2_0_0
    ((gathered2 (V m d 14)).1.trans (congrArg (fun X => shapeCast S4096x8x128 X shapeCasts_S32768x128_S4096x8x128) (gather2_A (sh m d 13 (by decide) (by decide)).list t))) s.v4 x s.v6 c.c1 c.c2 c.c3 c.c4 c.c5
  exact ⟨(reg5_10 3 d (V m d 15)).trans e, (reg5_11 3 d (V m d 15)).trans (congrArg₂ table e w)⟩

theorem grid2 : V m d 17 (Proc.devRef .tc main_v85) = (args m d).G3 := by
  have c := cut2 m d 16 (by decide) (by decide)
  have s := sh m d 16 (by decide) (by decide)
  have t := (keep m d main_v61_1 11 13 (by decide) (by decide) (by decide)).trans (atoms1 m d).2
  have y := (gathered2 (V m d 14)).2.trans (congrArg (fun X => shapeCast S2048x24x128 X shapeCasts_S49152x128_S2048x24x128) (gather2_G (sh m d 13 (by decide) (by decide)).list t))
  exact (reg6_9 3 d (V m d 16)).trans (msgG_of (args m d) Cert.ReferenceIdeal.Gen.slices_S4x265x128_S1x265x128_2_0_0
    ((keep m d main_v81 15 16 (by decide) (by decide) (by decide)).trans y) s.v5 ((keep m d main_v62 12 16 (by decide) (by decide) (by decide)).trans (grid1 m d)) s.v7 c.c1 c.c2 c.c3 c.c4 c.c5)

theorem grid3 : V m d 22 (Proc.devRef .tc main_v108) = (args m d).G4 := by
  have c := cut3 m d 21 (by decide) (by decide)
  have s := sh m d 21 (by decide) (by decide)
  have t := (keep m d main_v84_1 16 18 (by decide) (by decide) (by decide)).trans (atoms2 m d).2
  have y := (gathered3 (V m d 19)).trans (congrArg (fun X => shapeCast S2048x24x128 X shapeCasts_S49152x128_S2048x24x128) (gather3_G (sh m d 18 (by decide) (by decide)).list t))
  exact (reg8_9 4 d (V m d 21)).trans (msgG_of (args m d) Cert.ReferenceIdeal.Gen.slices_S4x265x128_S1x265x128_3_0_0
    ((keep m d main_v104 20 21 (by decide) (by decide) (by decide)).trans y) s.v5 ((keep m d main_v85 17 21 (by decide) (by decide) (by decide)).trans (grid2 m d)) s.v7 c.c1 c.c2 c.c3 c.c4 c.c5)

/-- The kernel's result. -/
theorem kernel_end : V m d 24 (Proc.devRef .tc main_v110) = (args m d).result := by
  have r : V m d 23 (Proc.devRef .tc main_v109) = readout (args m d).G4 (args m d).wo :=
    (reg9_2 4 d (V m d 22)).trans (congrArg₂ readout (grid3 m d) (keep m d main_arg10 0 22 (by decide) (by decide) (by decide)))
  exact (last_of (V m d 23)).trans (congrArg (fun X => shapeCast S4x512x32 X shapeCasts_S2048x32_S4x512x32) r)

/-! ## The neighbour lists -/

section Lists

variable {F : FTy → Type} [FloatOps F] (m : (ℓ : Loc nD τ sig) → Buf (Elt F) ℓ)

theorem list_at (d : Dev nD) (k : ℕ) (h1 : 1 ≤ k) (hk : k ≤ 24) :
    V m d k (Proc.devRef .tc main_v12) = listed (m ((d.tc : Thread nD τ).loc main_arg1)) (m ((d.tc : Thread nD τ).loc main_arg2)) :=
  (keep m d main_v12 1 k h1 hk fun i hi => stay main_v12 (by decide) i (hi.trans_le hk)).trans (list_of (V m d 0))

theorem preOK (h : ∀ d : Dev nD, (∀ y, (m ((d.tc : Thread nD τ).loc main_arg1) y : BitVec 32).toNat < 4096) ∧ ∀ y, (m ((d.tc : Thread nD τ).loc main_arg2) y : BitVec 32).toNat < 4096) : PreOK m := by
  have key : ∀ d k (_ : 1 ≤ k) (_ : k ≤ 24) y, (V m d k (Proc.devRef .tc main_v12) y : BitVec 32).toNat < 4096 := fun d k h1 hk y => by
    rw [list_at m d k h1 hk]; exact listed_lt _ _ (h d).1 (h d).2 y
  intro q d y
  match q with
  | 0 => exact key d 3 (by decide) (by decide) y
  | 1 => exact key d 8 (by decide) (by decide) y
  | 2 => exact key d 13 (by decide) (by decide) y
  | 3 => exact key d 18 (by decide) (by decide) y

end Lists

/-! ## The reference's layers -/

section Ref

open Cert.ReferenceIdeal.Value (res_main_v15 res_main_v17 res_main_v54 res_main_v71 res_main_v108 res_main_v125 res_main_v162 res_main_v179 res_main_v214)

variable (U : Valuation Cert.ReferenceIdeal.τ Cert.ReferenceIdeal.sig (Elt Ideal))

/-- The reference's arguments in `U`. -/
def refArgs : Args :=
  ⟨U (Proc.devRef .tc Cert.ReferenceIdeal.main_arg0), U (Proc.devRef .tc Cert.ReferenceIdeal.main_arg1), U (Proc.devRef .tc Cert.ReferenceIdeal.main_arg2), U (Proc.devRef .tc Cert.ReferenceIdeal.main_arg3),
    U (Proc.devRef .tc Cert.ReferenceIdeal.main_arg4), U (Proc.devRef .tc Cert.ReferenceIdeal.main_arg5), U (Proc.devRef .tc Cert.ReferenceIdeal.main_arg6), U (Proc.devRef .tc Cert.ReferenceIdeal.main_arg7),
    U (Proc.devRef .tc Cert.ReferenceIdeal.main_arg8), U (Proc.devRef .tc Cert.ReferenceIdeal.main_arg9), U (Proc.devRef .tc Cert.ReferenceIdeal.main_arg10)⟩

theorem ref15 : res_main_v15 U = (refArgs U).A0 := (embed_eq _ _).symm
theorem ref17 : res_main_v17 U = Args.G0 := (zeros_eq _).symm

/-- The words the reference adds to a negative index, and the zeros it compares with. -/
abbrev kA : IVec S32768 32 := broadcastInDim S32768 ![] Cert.ReferenceIdeal.Facts₀.bcast_S_S32768 (constantI Cert.ReferenceIdeal.S_ 32 4096#32)
abbrev zA : IVec S32768 32 := broadcastInDim S32768 ![] Cert.ReferenceIdeal.Facts₀.bcast_S_S32768 (constantI Cert.ReferenceIdeal.S_ 32 0#32)
abbrev kG : IVec S49152 32 := broadcastInDim S49152 ![] Cert.ReferenceIdeal.Facts₀.bcast_S_S49152 (constantI Cert.ReferenceIdeal.S_ 32 4096#32)
abbrev zG : IVec S49152 32 := broadcastInDim S49152 ![] Cert.ReferenceIdeal.Facts₀.bcast_S_S49152 (constantI Cert.ReferenceIdeal.S_ 32 0#32)

variable (hA : ∀ y, ((refArgs U).nbA y).toNat < 4096) (hG : ∀ y, ((refArgs U).nbG y).toNat < 4096)

include hA in
theorem atoms_ref {l : ℕ} (h : S4x265x128.Slices ![l, 0, 0] Cert.ReferenceIdeal.S1x265x128) {x y : FVec Ideal S4096x128 .f32} (e : x = y) :
    RefLayer.layerA (Host.gather Cert.ReferenceIdeal.gather_S4096x128_S32768x1_S32768x128_1_0_n_n_0_1_1128 x
      (broadcastInDim Cert.ReferenceIdeal.S32768x1 ![0] Cert.ReferenceIdeal.Facts₀.bcast_S32768_S32768x1_0 (select (cmpi .slt (flatA (refArgs U).nbA) zA) (addi (flatA (refArgs U).nbA) kA) (flatA (refArgs U).nbA))))
      x (edgeA (refArgs U).eA) (validA (refArgs U).eA) (nineA (refArgs U).nA) (cutR (refArgs U).wm l h) (cutR (refArgs U).wu l h) = (refArgs U).atoms l h y := by
  subst e
  exact congrArg (fun g => RefLayer.layerA g x (edgeA (refArgs U).eA) (validA (refArgs U).eA) (nineA (refArgs U).nA) (cutR (refArgs U).wm l h) (cutR (refArgs U).wu l h)) (ref_A (F := Ideal) hA zA kA (fun _ => rfl) x)

include hG in
theorem grid_ref {l : ℕ} (h : S4x265x128.Slices ![l, 0, 0] Cert.ReferenceIdeal.S1x265x128) {x y : FVec Ideal S4096x128 .f32} {g g' : FVec Ideal S2048x128 .f32} (e : x = y) (e' : g = g') :
    RefLayer.layerG (Host.gather Cert.ReferenceIdeal.gather_S4096x128_S49152x1_S49152x128_1_0_n_n_0_1_1128 x
      (broadcastInDim Cert.ReferenceIdeal.S49152x1 ![0] Cert.ReferenceIdeal.Facts₀.bcast_S49152_S49152x1_0 (select (cmpi .slt (flatG (refArgs U).nbG) zG) (addi (flatG (refArgs U).nbG) kG) (flatG (refArgs U).nbG))))
      g (edgeG (refArgs U).eG) (validG (refArgs U).eG) (nineG (refArgs U).nG) (cutR (refArgs U).wm l h) (cutR (refArgs U).wu l h) = (refArgs U).grid l h y g' := by
  subst e e'
  exact congrArg (fun r => RefLayer.layerG r g (edgeG (refArgs U).eG) (validG (refArgs U).eG) (nineG (refArgs U).nG) (cutR (refArgs U).wm l h) (cutR (refArgs U).wu l h)) (ref_G (F := Ideal) hG zG kG (fun _ => rfl) x)

include hA in
theorem ref71 : res_main_v71 U = (refArgs U).A1 := atoms_ref U hA Cert.ReferenceIdeal.Gen.slices_S4x265x128_S1x265x128_0_0_0 (ref15 U)
include hA in
theorem ref125 : res_main_v125 U = (refArgs U).A2 := atoms_ref U hA Cert.ReferenceIdeal.Gen.slices_S4x265x128_S1x265x128_1_0_0 (ref71 U hA)
include hA in
theorem ref179 : res_main_v179 U = (refArgs U).A3 := atoms_ref U hA Cert.ReferenceIdeal.Gen.slices_S4x265x128_S1x265x128_2_0_0 (ref125 U hA)
include hA hG in
theorem ref54 : res_main_v54 U = (refArgs U).G1 := grid_ref U hG Cert.ReferenceIdeal.Gen.slices_S4x265x128_S1x265x128_0_0_0 (ref15 U) (ref17 U)
include hA hG in
theorem ref108 : res_main_v108 U = (refArgs U).G2 := grid_ref U hG Cert.ReferenceIdeal.Gen.slices_S4x265x128_S1x265x128_1_0_0 (ref71 U hA) (ref54 U hA hG)
include hA hG in
theorem ref162 : res_main_v162 U = (refArgs U).G3 := grid_ref U hG Cert.ReferenceIdeal.Gen.slices_S4x265x128_S1x265x128_2_0_0 (ref125 U hA) (ref108 U hA hG)
include hA hG in
theorem ref_last : (addf (res_main_v162 U) (mulf (res_main_v214 U) (Host.divf (broadcastInDim Cert.ReferenceIdeal.S2048x128 ![] Cert.ReferenceIdeal.Facts₀.bcast_S_S2048x128 (constant (F := Ideal) Cert.ReferenceIdeal.S_ .f32 0x3F800000#32))
    (addf (broadcastInDim Cert.ReferenceIdeal.S2048x128 ![] Cert.ReferenceIdeal.Facts₀.bcast_S_S2048x128 (constant (F := Ideal) Cert.ReferenceIdeal.S_ .f32 0x3F800000#32)) (Host.exp (Host.negf (res_main_v214 U)))))) : FVec Ideal S2048x128 .f32) = (refArgs U).G4 :=
  grid_ref U hG Cert.ReferenceIdeal.Gen.slices_S4x265x128_S1x265x128_3_0_0 (ref179 U hA) (ref162 U hA hG)

include hA hG in
/-- The reference's result. -/
theorem ref_end : (shapeCast S4x512x32 (Host.dotGeneral (φ₂ := .f32) Cert.ReferenceIdeal.dot_S2048x128_S128x32_S2048x32_1_0_0_1_n_n none (addf (res_main_v162 U) (mulf (res_main_v214 U) (Host.divf (broadcastInDim Cert.ReferenceIdeal.S2048x128 ![] Cert.ReferenceIdeal.Facts₀.bcast_S_S2048x128 (constant (F := Ideal) Cert.ReferenceIdeal.S_ .f32 0x3F800000#32))
    (addf (broadcastInDim Cert.ReferenceIdeal.S2048x128 ![] Cert.ReferenceIdeal.Facts₀.bcast_S_S2048x128 (constant (F := Ideal) Cert.ReferenceIdeal.S_ .f32 0x3F800000#32)) (Host.exp (Host.negf (res_main_v214 U))))) : FVec Ideal S2048x128 .f32)) (U (Proc.devRef .tc Cert.ReferenceIdeal.main_arg10))) shapeCasts_S2048x32_S4x512x32 : FVec Ideal S4x512x32 .f32)
      = (refArgs U).result := by
  rw [ref_last U hA hG]
  exact congrArg (fun X => shapeCast S4x512x32 X shapeCasts_S2048x32_S4x512x32) (readout_eq _ _).symm

end Ref

end Cert.Proof.Chain
-- ==== Proof.Same.lean ====
/-
  The program printed at floats' bits and the idealized program have the same text: their body tables, and so their runs, are equal.
-/
module

public import proofs.«01_k».proof.Defs
public import proofs.«01_k».proof.Proof.Gen.Kernel
public import proofs.«01_k».proof.Proof.Gen.KernelIdeal

@[expose] public section

noncomputable section
namespace Cert.Proof.Same
open Idealize.ShloMosaic Idealize.SL.Sem

attribute [local instance] Cert.Kernel.Gen.facts Cert.KernelIdeal.Gen.facts
set_option maxHeartbeats 4000000
set_option maxRecDepth 100000
/-- The TensorCore calls' bodies. -/
theorem same_tc (ℓ : Fin 14) (a : Cert.KernelIdeal.Λ₀.Args ℓ) : Cert.Kernel.defs₀ (F := Bits) .tc ℓ a = Cert.KernelIdeal.defs₀ (F := Bits) .tc ℓ a := by
  match ℓ, a with
  | 0, (t, s) => exact rfl
  | 1, a => exact rfl
  | 2, (t, s) => exact rfl
  | 3, (t, s) => exact rfl
  | 4, a => exact rfl
  | 5, (t, s) => exact rfl
  | 6, (t, s) => exact rfl
  | 7, a => exact rfl
  | 8, (t, s) => exact rfl
  | 9, (t, s) => exact rfl
  | 10, a => exact rfl
  | 11, (t, s) => exact rfl
  | 12, (t, s) => exact rfl
  | 13, (t, s) => exact rfl
/-- The SparseCore calls' bodies. -/
theorem same_sv (c i) (ℓ : Fin 14) (a : Cert.KernelIdeal.Λ₀.Args ℓ) : Cert.Kernel.defs₀ (F := Bits) (.scVector c i) ℓ a = Cert.KernelIdeal.defs₀ (F := Bits) (.scVector c i) ℓ a := by
  match ℓ, a with
  | 0, a => exact rfl
  | 1, a => exact rfl
  | 2, a => exact rfl
  | 3, a => exact rfl
  | 4, a => exact rfl
  | 5, a => exact rfl
  | 6, a => exact rfl
  | 7, a => exact rfl
  | 8, a => exact rfl
  | 9, a => exact rfl
  | 10, a => exact rfl
  | 11, a => exact rfl
  | 12, a => exact rfl
  | 13, a => exact rfl
/-- No call runs on the scalar subcores. -/
theorem same_ss (c) (ℓ : Fin 14) (a : Cert.KernelIdeal.Λ₀.Args ℓ) : Cert.Kernel.defs₀ (F := Bits) (.scScalar c) ℓ a = Cert.KernelIdeal.defs₀ (F := Bits) (.scScalar c) ℓ a := by
  exact rfl

theorem bodies : Cert.Kernel.defs₀ (F := Bits) = Cert.KernelIdeal.defs₀ (F := Bits) :=
  funext fun p => funext fun ℓ => funext fun a => match p with
    | .tc => same_tc ℓ a
    | .scScalar c => same_ss c ℓ a
    | .scVector c i => same_sv c i ℓ a

theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies

/-- A run of the one is a run of the other. -/
theorem run_eq (s : MemSt Cert.KernelIdeal.nD Cert.KernelIdeal.τ Cert.KernelIdeal.sig (Elt Bits)) (Q : _ → Prop) :
    θ_run (Cert.Kernel.defs (F := Bits)) (Cert.Kernel.threads (F := Bits)) s Q = θ_run (Cert.KernelIdeal.defs (F := Bits)) (Cert.KernelIdeal.threads (F := Bits)) s Q :=
  congrArg (fun D => θ_run D (Cert.KernelIdeal.threads (F := Bits)) s Q) defs_eq

end Cert.Proof.Same
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Chain
public import proofs.«01_k».proof.Proof.Same
public import Idealize.ShloMosaic.Adequacy
public import Idealize.ShloMosaic.Init

@[expose] public section

noncomputable section

namespace Cert.Proof

open Idealize.ShloMosaic Idealize.SL.Sem
open Cert.Proof.Main Cert.Proof.Rows Cert.Proof.Chain

/-- A buffer of the kernel's @main, at the end of its run. -/
theorem end_mem {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : QC m r) (c : Dev Cert.KernelIdeal.nD)
    (b : Ref Cert.KernelIdeal.sig .tc) (hb : (Proc.devRef (τ := Cert.KernelIdeal.τ) .tc b).isScoped = false) :
    r.2.mem ((c.tc : Thread Cert.KernelIdeal.nD Cert.KernelIdeal.τ).loc b) = V m c 24 (Proc.devRef .tc b) :=
  h.1 c _ (Finset.mem_filter.mpr ⟨StableHlo.devRef_mem_tcRefs b, by simp [hb]⟩)

/-- An argument no step writes, at the end of the run. -/
theorem end_arg {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : QC m r) (c : Dev Cert.KernelIdeal.nD)
    (b : Ref Cert.KernelIdeal.sig .tc) (hb : (Proc.devRef (τ := Cert.KernelIdeal.τ) .tc b).isScoped = false) (hw : ∀ k < 24, 0 ≤ k → b ∉ wr k) :
    r.2.mem ((c.tc : Thread Cert.KernelIdeal.nD Cert.KernelIdeal.τ).loc b) = m ((c.tc : Thread Cert.KernelIdeal.nD Cert.KernelIdeal.τ).loc b) :=
  (end_mem h c b hb).trans (keep m c b 0 24 (by decide) (by decide) hw)

/-- All eleven arguments, at the end of the run. -/
theorem end_args {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10) :=
  ⟨end_arg h c Cert.KernelIdeal.main_arg0 rfl (by decide), end_arg h c Cert.KernelIdeal.main_arg1 rfl (by decide), end_arg h c Cert.KernelIdeal.main_arg2 rfl (by decide)
     , end_arg h c Cert.KernelIdeal.main_arg3 rfl (by decide), end_arg h c Cert.KernelIdeal.main_arg4 rfl (by decide), end_arg h c Cert.KernelIdeal.main_arg5 rfl (by decide)
     , end_arg h c Cert.KernelIdeal.main_arg6 rfl (by decide), end_arg h c Cert.KernelIdeal.main_arg7 rfl (by decide), end_arg h c Cert.KernelIdeal.main_arg8 rfl (by decide)
     , end_arg h c Cert.KernelIdeal.main_arg9 rfl (by decide), end_arg h c Cert.KernelIdeal.main_arg10 rfl (by decide)⟩

theorem ok_kernel (m : (ℓ : Loc Cert.Kernel.nD Cert.Kernel.τ Cert.Kernel.sig) → Buf (Elt Bits) ℓ) (h : Cert.Pre_Kernel m) : PreOK (F := Bits) m :=
  preOK (F := Bits) m fun d => lt_of_pre (F := Bits) _ _ _ _ _ _ _ _ _ _ _ (h d)
theorem ok_ideal (m : (ℓ : Loc Cert.KernelIdeal.nD Cert.KernelIdeal.τ Cert.KernelIdeal.sig) → Buf (Elt Ideal) ℓ) (h : Cert.Pre_KernelIdeal m) : PreOK m :=
  preOK m fun d => lt_of_pre (F := Ideal) _ _ _ _ _ _ _ _ _ _ _ (h d)

/-- The run ends with the arguments as they were and every semaphore at zero, at any floats. -/
theorem frame_any {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) (h : PreOK m) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0) :=
  (θ_run Cert.KernelIdeal.defs _ _).mono (fun _ h => ⟨fun c => end_args h c, h.2⟩) (run_main (F := F) m ρ h)

theorem frame_ideal : Cert.quiescent_KernelIdeal := fun m ρ hpre => frame_any m ρ (ok_ideal m hpre)

set_option maxHeartbeats 4000000 in
set_option maxRecDepth 100000 in
/-- The kernel's frame, at floats' bits: its text is the idealized program's. -/
theorem frame_kernel : Cert.quiescent_Kernel := fun m ρ hpre =>
  Eq.mpr (Same.run_eq _ _) (frame_any (F := Bits) m ρ (ok_kernel m hpre))

theorem frame_ref : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem value : Cert.algebraic_KernelIdeal_ReferenceIdeal := fun m ρ m' ρ' hpre hag => by
  have hlt := fun c => lt_of_pre (F := Ideal) _ _ _ _ _ _ _ _ _ _ _ (hpre c)
  refine ⟨fun c => (args m c).result, ?_, ?_⟩
  · exact (θ_run Cert.KernelIdeal.defs _ _).mono (fun _ h c =>
      ⟨(end_mem h c Cert.KernelIdeal.main_v110 rfl).trans (kernel_end m c), end_args h c⟩) (run_main (F := Ideal) m ρ (ok_ideal m hpre))
  · refine (θ_run Cert.ReferenceIdeal.defs _ _).mono (fun _ h c => ?_) (Cert.ReferenceIdeal.Value.run (F := Ideal) m' ρ')
    obtain ⟨h0, h1⟩ := h c
    obtain ⟨e0, e1, e2, e3, e4, e5, e6, e7, e8, e9, e10⟩ := hag c
    have e : refArgs (StableHlo.launchContents m' c) = args m c := by
      unfold args
      rw [← e0, ← e1, ← e2, ← e3, ← e4, ← e5, ← e6, ← e7, ← e8, ← e9, ← e10]
      rfl
    refine ⟨h0.trans ?_, h1⟩
    refine (ref_end (StableHlo.launchContents m' c) ?_ ?_).trans (congrArg Args.result e)
    · rw [e]; exact (hlt c).1
    · rw [e]; exact (hlt c).2

theorem claim : Cert.Claim := ⟨Cert.Kernel.Gen.facts, Cert.KernelIdeal.Gen.facts, Cert.ReferenceIdeal.Gen.facts, Cert.Pre_in_range.Gen.facts,
  frame_kernel, frame_ideal, frame_ref, fun m g _ => frame_ref m g trivial, trivial, value⟩

end Cert.Proof

end
